-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Between (m : (ℓ : Loc Cert.Between.nD Cert.Between.τ Cert.Between.sig) → Buf (Elt Bits) ℓ) : Prop :=
  True

def Pre_BetweenIdeal (m : (ℓ : Loc Cert.BetweenIdeal.nD Cert.BetweenIdeal.τ Cert.BetweenIdeal.sig) → Buf (Elt Ideal) ℓ) : Prop :=
  True

def Pre_BetweenRefIdeal (m : (ℓ : Loc Cert.BetweenRefIdeal.nD Cert.BetweenRefIdeal.τ Cert.BetweenRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def quiescent_Between [hBetween : Cert.Between.Facts] : Prop :=
  ∀ (m : (ℓ : Loc Cert.Between.nD Cert.Between.τ Cert.Between.sig) → Buf (Elt Bits) ℓ) (g : Dev Cert.Between.nD → PrngReg), Pre_Between m →
    θ_run (Cert.Between.defs (F := Bits)) (onTc (τ := Cert.Between.τ) (Cert.Between.main (F := Bits))) ⟨m, fun _ => 0, g⟩ (fun r => (∀ c : Dev Cert.Between.nD,
      r.2.mem ((c.tc : Thread Cert.Between.nD Cert.Between.τ).loc Cert.Between.main_arg0) = m ((c.tc : Thread Cert.Between.nD Cert.Between.τ).loc Cert.Between.main_arg0)
      ∧ r.2.mem ((c.tc : Thread Cert.Between.nD Cert.Between.τ).loc Cert.Between.main_arg1) = m ((c.tc : Thread Cert.Between.nD Cert.Between.τ).loc Cert.Between.main_arg1)
      ∧ r.2.mem ((c.tc : Thread Cert.Between.nD Cert.Between.τ).loc Cert.Between.main_arg2) = m ((c.tc : Thread Cert.Between.nD Cert.Between.τ).loc Cert.Between.main_arg2)
      ∧ r.2.mem ((c.tc : Thread Cert.Between.nD Cert.Between.τ).loc Cert.Between.main_arg3) = m ((c.tc : Thread Cert.Between.nD Cert.Between.τ).loc Cert.Between.main_arg3)
      ∧ r.2.mem ((c.tc : Thread Cert.Between.nD Cert.Between.τ).loc Cert.Between.main_arg4) = m ((c.tc : Thread Cert.Between.nD Cert.Between.τ).loc Cert.Between.main_arg4))
      ∧ r.2.sem = fun _ => 0)

def quiescent_BetweenIdeal [hBetweenIdeal : Cert.BetweenIdeal.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4))
      ∧ r.2.sem = fun _ => 0)

def quiescent_BetweenRefIdeal [hBetweenRefIdeal : Cert.BetweenRefIdeal.Facts] : Prop :=
  ∀ (m : (ℓ : Loc Cert.BetweenRefIdeal.nD Cert.BetweenRefIdeal.τ Cert.BetweenRefIdeal.sig) → Buf (Elt Ideal) ℓ) (g : Dev Cert.BetweenRefIdeal.nD → PrngReg), Pre_BetweenRefIdeal m →
    θ_run (Cert.BetweenRefIdeal.defs (F := Ideal)) (onTc (τ := Cert.BetweenRefIdeal.τ) (Cert.BetweenRefIdeal.main (F := Ideal))) ⟨m, fun _ => 0, g⟩ (fun r => (∀ c : Dev Cert.BetweenRefIdeal.nD,
      r.2.mem ((c.tc : Thread Cert.BetweenRefIdeal.nD Cert.BetweenRefIdeal.τ).loc Cert.BetweenRefIdeal.main_arg0) = m ((c.tc : Thread Cert.BetweenRefIdeal.nD Cert.BetweenRefIdeal.τ).loc Cert.BetweenRefIdeal.main_arg0)
      ∧ r.2.mem ((c.tc : Thread Cert.BetweenRefIdeal.nD Cert.BetweenRefIdeal.τ).loc Cert.BetweenRefIdeal.main_arg1) = m ((c.tc : Thread Cert.BetweenRefIdeal.nD Cert.BetweenRefIdeal.τ).loc Cert.BetweenRefIdeal.main_arg1)
      ∧ r.2.mem ((c.tc : Thread Cert.BetweenRefIdeal.nD Cert.BetweenRefIdeal.τ).loc Cert.BetweenRefIdeal.main_arg2) = m ((c.tc : Thread Cert.BetweenRefIdeal.nD Cert.BetweenRefIdeal.τ).loc Cert.BetweenRefIdeal.main_arg2)
      ∧ r.2.mem ((c.tc : Thread Cert.BetweenRefIdeal.nD Cert.BetweenRefIdeal.τ).loc Cert.BetweenRefIdeal.main_arg3) = m ((c.tc : Thread Cert.BetweenRefIdeal.nD Cert.BetweenRefIdeal.τ).loc Cert.BetweenRefIdeal.main_arg3)
      ∧ r.2.mem ((c.tc : Thread Cert.BetweenRefIdeal.nD Cert.BetweenRefIdeal.τ).loc Cert.BetweenRefIdeal.main_arg4) = m ((c.tc : Thread Cert.BetweenRefIdeal.nD Cert.BetweenRefIdeal.τ).loc Cert.BetweenRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v71) = v0 c
          ∧ r.2.mem ((c.tc : Thread Cert.MixRefIdeal.nD Cert.MixRefIdeal.τ).loc Cert.MixRefIdeal.main_v89) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def preserves_Ffn_FfnIdeal : Prop :=
  True

def algebraic_FfnIdeal_FfnRefIdeal_on_held [hFfnIdeal : Cert.FfnIdeal.Facts] [hFfnRefIdeal : Cert.FfnRefIdeal.Facts] [hOn_held : Cert.On_held.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨3, ![16, 3552, 1024]⟩ : Shape).Idx, (Cert.On_held.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) i = 1#1 → r.2.mem ((c.tc : Thread Cert.FfnIdeal.nD Cert.FfnIdeal.τ).loc Cert.FfnIdeal.main_v0) i = v0 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          (∀ i : (⟨3, ![16, 3552, 1024]⟩ : Shape).Idx, (Cert.On_held.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) i = 1#1 → r.2.mem ((c.tc : Thread Cert.FfnRefIdeal.nD Cert.FfnRefIdeal.τ).loc Cert.FfnRefIdeal.main_v12) i = v0 c i)
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)) →
    ∃ (v0 : (c : Dev Cert.PromptIdeal.nD) → Buf (Elt Ideal) ((c.tc : Thread Cert.PromptIdeal.nD Cert.PromptIdeal.τ).loc Cert.PromptIdeal.main_v1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v1) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v19) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v1) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v19) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v26) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def preserves_Between_BetweenIdeal : Prop :=
  True

def algebraic_BetweenIdeal_BetweenRefIdeal [hBetweenIdeal : Cert.BetweenIdeal.Facts] [hBetweenRefIdeal : Cert.BetweenRefIdeal.Facts] : Prop :=
  ∀ (m : (ℓ : Loc Cert.BetweenIdeal.nD Cert.BetweenIdeal.τ Cert.BetweenIdeal.sig) → Buf (Elt Ideal) ℓ) (g : Dev Cert.BetweenIdeal.nD → PrngReg)
    (m' : (ℓ : Loc Cert.BetweenRefIdeal.nD Cert.BetweenRefIdeal.τ Cert.BetweenRefIdeal.sig) → Buf (Elt Ideal) ℓ) (g' : Dev Cert.BetweenRefIdeal.nD → PrngReg), Pre_BetweenIdeal m →
    (∀ c : Dev Cert.BetweenIdeal.nD,
      m' ((c.tc : Thread Cert.BetweenRefIdeal.nD Cert.BetweenRefIdeal.τ).loc Cert.BetweenRefIdeal.main_arg0) = m ((c.tc : Thread Cert.BetweenIdeal.nD Cert.BetweenIdeal.τ).loc Cert.BetweenIdeal.main_arg0)
      ∧ m' ((c.tc : Thread Cert.BetweenRefIdeal.nD Cert.BetweenRefIdeal.τ).loc Cert.BetweenRefIdeal.main_arg1) = m ((c.tc : Thread Cert.BetweenIdeal.nD Cert.BetweenIdeal.τ).loc Cert.BetweenIdeal.main_arg1)
      ∧ m' ((c.tc : Thread Cert.BetweenRefIdeal.nD Cert.BetweenRefIdeal.τ).loc Cert.BetweenRefIdeal.main_arg2) = m ((c.tc : Thread Cert.BetweenIdeal.nD Cert.BetweenIdeal.τ).loc Cert.BetweenIdeal.main_arg2)
      ∧ m' ((c.tc : Thread Cert.BetweenRefIdeal.nD Cert.BetweenRefIdeal.τ).loc Cert.BetweenRefIdeal.main_arg3) = m ((c.tc : Thread Cert.BetweenIdeal.nD Cert.BetweenIdeal.τ).loc Cert.BetweenIdeal.main_arg3)
      ∧ m' ((c.tc : Thread Cert.BetweenRefIdeal.nD Cert.BetweenRefIdeal.τ).loc Cert.BetweenRefIdeal.main_arg4) = m ((c.tc : Thread Cert.BetweenIdeal.nD Cert.BetweenIdeal.τ).loc Cert.BetweenIdeal.main_arg4)) →
    ∃ (v0 : (c : Dev Cert.BetweenIdeal.nD) → Buf (Elt Ideal) ((c.tc : Thread Cert.BetweenIdeal.nD Cert.BetweenIdeal.τ).loc Cert.BetweenIdeal.main_v1_0)) (v1 : (c : Dev Cert.BetweenIdeal.nD) → Buf (Elt Ideal) ((c.tc : Thread Cert.BetweenIdeal.nD Cert.BetweenIdeal.τ).loc Cert.BetweenIdeal.main_v1_1)),
      θ_run (Cert.BetweenIdeal.defs (F := Ideal)) (onTc (τ := Cert.BetweenIdeal.τ) (Cert.BetweenIdeal.main (F := Ideal))) ⟨m, fun _ => 0, g⟩ (fun r => ∀ c : Dev Cert.BetweenIdeal.nD,
          r.2.mem ((c.tc : Thread Cert.BetweenIdeal.nD Cert.BetweenIdeal.τ).loc Cert.BetweenIdeal.main_v1_0) = v0 c
          ∧ r.2.mem ((c.tc : Thread Cert.BetweenIdeal.nD Cert.BetweenIdeal.τ).loc Cert.BetweenIdeal.main_v1_1) = v1 c
          ∧ r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
          ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
          ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
          ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
          ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4))
      ∧ θ_run (Cert.BetweenRefIdeal.defs (F := Ideal)) (onTc (τ := Cert.BetweenRefIdeal.τ) (Cert.BetweenRefIdeal.main (F := Ideal))) ⟨m', fun _ => 0, g'⟩ (fun r => ∀ c : Dev Cert.BetweenRefIdeal.nD,
          r.2.mem ((c.tc : Thread Cert.BetweenRefIdeal.nD Cert.BetweenRefIdeal.τ).loc Cert.BetweenRefIdeal.main_v9) = v0 c
          ∧ r.2.mem ((c.tc : Thread Cert.BetweenRefIdeal.nD Cert.BetweenRefIdeal.τ).loc Cert.BetweenRefIdeal.main_v36) = v1 c
          ∧ r.2.mem ((c.tc : Thread Cert.BetweenRefIdeal.nD Cert.BetweenRefIdeal.τ).loc Cert.BetweenRefIdeal.main_arg0) = m' ((c.tc : Thread Cert.BetweenRefIdeal.nD Cert.BetweenRefIdeal.τ).loc Cert.BetweenRefIdeal.main_arg0)
          ∧ r.2.mem ((c.tc : Thread Cert.BetweenRefIdeal.nD Cert.BetweenRefIdeal.τ).loc Cert.BetweenRefIdeal.main_arg1) = m' ((c.tc : Thread Cert.BetweenRefIdeal.nD Cert.BetweenRefIdeal.τ).loc Cert.BetweenRefIdeal.main_arg1)
          ∧ r.2.mem ((c.tc : Thread Cert.BetweenRefIdeal.nD Cert.BetweenRefIdeal.τ).loc Cert.BetweenRefIdeal.main_arg2) = m' ((c.tc : Thread Cert.BetweenRefIdeal.nD Cert.BetweenRefIdeal.τ).loc Cert.BetweenRefIdeal.main_arg2)
          ∧ r.2.mem ((c.tc : Thread Cert.BetweenRefIdeal.nD Cert.BetweenRefIdeal.τ).loc Cert.BetweenRefIdeal.main_arg3) = m' ((c.tc : Thread Cert.BetweenRefIdeal.nD Cert.BetweenRefIdeal.τ).loc Cert.BetweenRefIdeal.main_arg3)
          ∧ r.2.mem ((c.tc : Thread Cert.BetweenRefIdeal.nD Cert.BetweenRefIdeal.τ).loc Cert.BetweenRefIdeal.main_arg4) = m' ((c.tc : Thread Cert.BetweenRefIdeal.nD Cert.BetweenRefIdeal.τ).loc Cert.BetweenRefIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hAda : Cert.Ada.Facts) (hAdaIdeal : Cert.AdaIdeal.Facts) (hAdaRefIdeal : Cert.AdaRefIdeal.Facts) (hFirst : Cert.First.Facts) (hFirstIdeal : Cert.FirstIdeal.Facts) (hFirstRefIdeal : Cert.FirstRefIdeal.Facts) (hBetween : Cert.Between.Facts) (hBetweenIdeal : Cert.BetweenIdeal.Facts) (hBetweenRefIdeal : Cert.BetweenRefIdeal.Facts) (hOn_held : Cert.On_held.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_Ada (hAda := hAda)
    ∧ quiescent_AdaIdeal (hAdaIdeal := hAdaIdeal)
    ∧ quiescent_AdaRefIdeal (hAdaRefIdeal := hAdaRefIdeal)
    ∧ quiescent_First (hFirst := hFirst)
    ∧ quiescent_FirstIdeal (hFirstIdeal := hFirstIdeal)
    ∧ quiescent_FirstRefIdeal (hFirstRefIdeal := hFirstRefIdeal)
    ∧ quiescent_Between (hBetween := hBetween)
    ∧ quiescent_BetweenIdeal (hBetweenIdeal := hBetweenIdeal)
    ∧ quiescent_BetweenRefIdeal (hBetweenRefIdeal := hBetweenRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal_on_held (hFfnIdeal := hFfnIdeal) (hFfnRefIdeal := hFfnRefIdeal) (hOn_held := hOn_held)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_Ada_AdaIdeal
    ∧ algebraic_AdaIdeal_AdaRefIdeal (hAdaIdeal := hAdaIdeal) (hAdaRefIdeal := hAdaRefIdeal)
    ∧ preserves_First_FirstIdeal
    ∧ algebraic_FirstIdeal_FirstRefIdeal (hFirstIdeal := hFirstIdeal) (hFirstRefIdeal := hFirstRefIdeal)
    ∧ preserves_Between_BetweenIdeal
    ∧ algebraic_BetweenIdeal_BetweenRefIdeal (hBetweenIdeal := hBetweenIdeal) (hBetweenRefIdeal := hBetweenRefIdeal)
-- ==== On_held.lean ====
abbrev S16x3552x1024 : Shape := ⟨3, ![16, 3552, 1024]⟩
abbrev S16 : Shape := ⟨1, ![16]⟩
abbrev S2x16x1024x2048 : Shape := ⟨4, ![2, 16, 1024, 2048]⟩
abbrev S2x16x2048x1024 : Shape := ⟨4, ![2, 16, 2048, 1024]⟩
abbrev S16x1x1 : Shape := ⟨3, ![16, 1, 1]⟩

class Facts : Prop where
  bcast_S16_S16x1x1_0 : S16.BroadcastsInDim S16x1x1 (![0] : Fin 1 → Fin S16x1x1.rank)
  bcast_S16x1x1_S16x3552x1024_0_1_2 : S16x1x1.BroadcastsInDim S16x3552x1024 (![0, 1, 2] : Fin 3 → Fin S16x3552x1024.rank)

variable [Facts]

def fn {F : FTy → Type} [FloatOps F] (main_arg0 : FVec F S16x3552x1024 .bf16) (main_arg1 : IVec S16 32) (main_arg2 : FVec F S2x16x1024x2048 .f32) (main_arg3 : FVec F S2x16x1024x2048 .f32) (main_arg4 : FVec F S2x16x2048x1024 .f32) : IVec S16x3552x1024 1 :=
  let main_v0 : IVec S16x3552x1024 32 := iotaInDim S16x3552x1024 32 1
  let main_v1 : IVec S16x1x1 32 := broadcastInDim S16x1x1 ![0] bcast_S16_S16x1x1_0 main_arg1
  let main_v2 : IVec S16x3552x1024 32 := broadcastInDim S16x3552x1024 ![0, 1, 2] bcast_S16x1x1_S16x3552x1024_0_1_2 main_v1
  let main_v3 : IVec S16x3552x1024 1 := cmpi .slt main_v0 main_v2
  main_v3
-- ==== Kernel.lean ====
abbrev S24576x8192 : Shape := ⟨2, ![24576, 8192]⟩
abbrev S2x4 : Shape := ⟨2, ![2, 4]⟩
abbrev S_ : Shape := ⟨0, ![]⟩
abbrev S8192x1024 : Shape := ⟨2, ![8192, 1024]⟩
abbrev S32x2x4x128x256 : Shape := ⟨5, ![32, 2, 4, 128, 256]⟩
abbrev S256x512 : Shape := ⟨2, ![256, 512]⟩
abbrev S256x1024 : Shape := ⟨2, ![256, 1024]⟩
abbrev S1x2x4x128x256 : Shape := ⟨5, ![1, 2, 4, 128, 256]⟩
abbrev S2x4x128x256 : Shape := ⟨4, ![2, 4, 128, 256]⟩
abbrev S128x128 : Shape := ⟨2, ![128, 128]⟩
abbrev S128x1 : Shape := ⟨2, ![128, 1]⟩
abbrev S128x256 : Shape := ⟨2, ![128, 256]⟩
abbrev S1x1 : Shape := ⟨2, ![1, 1]⟩
abbrev S1x1x128x256 : Shape := ⟨4, ![1, 1, 128, 256]⟩

abbrev nBuf : Space → Nat
  | .hbm => 21
  | .vmem => 19
  | .smem => 1
  | _ => 0

abbrev bufTy : (tb : Table) → Fin (tcTables nBuf tb) → BufTy
  | .hbm, ⟨0, _⟩ => ⟨S24576x8192, .f32⟩
  | .hbm, ⟨1, _⟩ => ⟨S2x4, .f32⟩
  | .hbm, ⟨2, _⟩ => ⟨S2x4, .f32⟩
  | .hbm, ⟨3, _⟩ => ⟨S_, .f32⟩
  | .hbm, ⟨4, _⟩ => ⟨S2x4, .f32⟩
  | .hbm, ⟨5, _⟩ => ⟨S2x4, .f32⟩
  | .hbm, ⟨6, _⟩ => ⟨S2x4, .f32⟩
  | .hbm, ⟨7, _⟩ => ⟨S2x4, .f32⟩
  | .hbm, ⟨8, _⟩ => ⟨S2x4, .i1⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S8192x1024, .f32⟩
  | .hbm, ⟨19, _⟩ => ⟨S8192x1024, .f32⟩
  | .hbm, ⟨20, _⟩ => ⟨S32x2x4x128x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x2x4x128x256, .f32⟩
  | .local _ .vmem, ⟨17, _⟩ => ⟨S1x2x4x128x256, .f32⟩
  | .local _ .vmem, ⟨18, _⟩ => ⟨S2x4x128x256, .f32⟩
  | .local _ .smem, ⟨0, _⟩ => ⟨S2x4, .f32⟩
  | _, _ => ⟨S24576x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_423 : BitVec 32 := 0#32
  let v863 : BitVec 1 := Scalar.cmpi .eq arg1 c0_i32_423
  let v864 : BitVec 32 := Scalar.extui v863
  let c0_i32_424 : BitVec 32 := 0#32
  let v865 : BitVec 1 := Scalar.cmpi .ne v864 c0_i32_424
  v865

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let v2 : BitVec 32 := Scalar.subi c0_i32_0 arg1
  let v3 : BitVec 32 := Scalar.addi v1 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let v2 : BitVec 32 := Scalar.subi c0_i32_0 arg1
  let v3 : BitVec 32 := Scalar.addi v1 v2
  let c1_i32_1 : BitVec 32 := 1#32
  let c0_i32_2 : BitVec 32 := 0#32
  ![v3.toNat, c1_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let v2 : BitVec 32 := Scalar.subi c0_i32_0 arg1
  let v3 : BitVec 32 := Scalar.addi v1 v2
  let c1_i32_1 : BitVec 32 := 1#32
  let c0_i32_2 : BitVec 32 := 0#32
  ![v3.toNat, c1_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c0_i32_0 : BitVec 32 := 0#32
  let c0_i32_1 : BitVec 32 := 0#32
  ![v2.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S24576x8192 : Shape := ⟨2, ![24576, 8192]⟩
abbrev S2x4 : Shape := ⟨2, ![2, 4]⟩
abbrev S_ : Shape := ⟨0, ![]⟩
abbrev S8192x8192 : Shape := ⟨2, ![8192, 8192]⟩
abbrev S32x256x8192 : Shape := ⟨3, ![32, 256, 8192]⟩
abbrev S32x256x512 : Shape := ⟨3, ![32, 256, 512]⟩
abbrev S32x256x1024 : Shape := ⟨3, ![32, 256, 1024]⟩
abbrev S32x256x4x128 : Shape := ⟨4, ![32, 256, 4, 128]⟩
abbrev S32x4x256x128 : Shape := ⟨4, ![32, 4, 256, 128]⟩
abbrev S32x256x4x256 : Shape := ⟨4, ![32, 256, 4, 256]⟩
abbrev S32x4x256x256 : Shape := ⟨4, ![32, 4, 256, 256]⟩
abbrev S32x8x128x256 : Shape := ⟨4, ![32, 8, 128, 256]⟩
abbrev S32x8x256x128 : Shape := ⟨4, ![32, 8, 256, 128]⟩
abbrev S32x8x256x256 : Shape := ⟨4, ![32, 8, 256, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S32x8x2x128x128 : Shape := ⟨5, ![32, 8, 2, 128, 128]⟩
abbrev S2x32x8x128x128 : Shape := ⟨5, ![2, 32, 8, 128, 128]⟩
abbrev S32x8x2x128x256 : Shape := ⟨5, ![32, 8, 2, 128, 256]⟩
abbrev S2x32x8x128x256 : Shape := ⟨5, ![2, 32, 8, 128, 256]⟩
abbrev S1x32x8x128x128 : Shape := ⟨5, ![1, 32, 8, 128, 128]⟩
abbrev S32x8x128x128 : Shape := ⟨4, ![32, 8, 128, 128]⟩
abbrev S1x32x8x128x256 : Shape := ⟨5, ![1, 32, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S8192x1024 : Shape := ⟨2, ![8192, 1024]⟩
abbrev S32x2x4x128x256 : Shape := ⟨5, ![32, 2, 4, 128, 256]⟩

abbrev nBuf : Space → Nat
  | .hbm => 156
  | .vmem => 0
  | .smem => 0
  | _ => 0

abbrev hbmTy0_0 (i : Nat) : BufTy := match i % 128 with
  | 0 => ⟨S24576x8192, .f32⟩
  | 1 => ⟨S2x4, .f32⟩
  | 2 => ⟨S2x4, .f32⟩
  | 3 => ⟨S_, .f32⟩
  | 4 => ⟨S2x4, .f32⟩
  | 5 => ⟨S2x4, .f32⟩
  | 6 => ⟨S2x4, .f32⟩
  | 7 => ⟨S2x4, .f32⟩
  | 8 => ⟨S2x4, .i1⟩
  | 9 => ⟨S2x4, .f32⟩
  | 10 => ⟨S2x4, .f32⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S8192x8192, .f32⟩
  | 19 => ⟨S32x256x8192, .f32⟩
  | 20 => ⟨S32x256x512, .f32⟩
  | 21 => ⟨S32x256x512, .f32⟩
  | 22 => ⟨S32x256x1024, .f32⟩
  | 23 => ⟨S32x256x4x128, .f32⟩
  | 24 => ⟨S32x4x256x128, .f32⟩
  | 25 => ⟨S32x256x4x128, .f32⟩
  | 26 => ⟨S32x4x256x128, .f32⟩
  | 27 => ⟨S_, .f32⟩
  | 28 => ⟨S32x4x256x128, .f32⟩
  | 29 => ⟨S32x4x256x128, .f32⟩
  | 30 => ⟨S32x256x4x256, .f32⟩
  | 31 => ⟨S32x4x256x256, .f32⟩
  | 32 => ⟨S_, .f32⟩
  | 33 => ⟨S32x8x128x256, .f32⟩
  | 34 => ⟨S32x4x256x128, .f32⟩
  | 35 => ⟨S32x8x256x128, .f32⟩
  | 36 => ⟨S32x4x256x128, .f32⟩
  | 37 => ⟨S32x8x256x128, .f32⟩
  | 38 => ⟨S32x4x256x256, .f32⟩
  | 39 => ⟨S32x8x256x256, .f32⟩
  | 40 => ⟨S8, .f32⟩
  | 41 => ⟨S128, .f32⟩
  | 42 => ⟨S128x1, .f32⟩
  | 43 => ⟨S1x128, .f32⟩
  | 44 => ⟨S128x128, .f32⟩
  | 45 => ⟨S128x128, .f32⟩
  | 46 => ⟨S128x128, .f32⟩
  | 47 => ⟨S_, .f32⟩
  | 48 => ⟨S128x128, .f32⟩
  | 49 => ⟨S128x128, .i1⟩
  | 50 => ⟨S8x1x1, .f32⟩
  | 51 => ⟨S_, .f32⟩
  | 52 => ⟨S128x128, .f32⟩
  | 53 => ⟨S128x128, .f32⟩
  | 54 => ⟨S1x128x128, .f32⟩
  | 55 => ⟨S8x128x128, .f32⟩
  | 56 => ⟨S8x128x128, .f32⟩
  | 57 => ⟨S8x128x128, .f32⟩
  | 58 => ⟨S8x128x128, .f32⟩
  | 59 => ⟨S_, .f32⟩
  | 60 => ⟨S_, .f32⟩
  | 61 => ⟨S8x128x128, .i1⟩
  | 62 => ⟨S8x128x128, .f32⟩
  | 63 => ⟨S8x128x128, .f32⟩
  | 64 => ⟨S8x1, .f32⟩
  | 65 => ⟨S_, .f32⟩
  | 66 => ⟨S128, .f32⟩
  | 67 => ⟨S128, .f32⟩
  | 68 => ⟨S1x128, .f32⟩
  | 69 => ⟨S8x128, .f32⟩
  | 70 => ⟨S8x128, .f32⟩
  | 71 => ⟨S8x128, .f32⟩
  | 72 => ⟨S8x128, .f32⟩
  | 73 => ⟨S8x128x1, .f32⟩
  | 74 => ⟨S8x1, .f32⟩
  | 75 => ⟨S_, .f32⟩
  | 76 => ⟨S128, .f32⟩
  | 77 => ⟨S128, .f32⟩
  | 78 => ⟨S1x128, .f32⟩
  | 79 => ⟨S8x128, .f32⟩
  | 80 => ⟨S8x128, .f32⟩
  | 81 => ⟨S8x128, .f32⟩
  | 82 => ⟨S8x128, .f32⟩
  | 83 => ⟨S8x128x1, .f32⟩
  | 84 => ⟨S_, .f32⟩
  | 85 => ⟨S8, .f32⟩
  | 86 => ⟨S8, .f32⟩
  | 87 => ⟨S8, .f32⟩
  | 88 => ⟨S8x1x1, .f32⟩
  | 89 => ⟨S32x8x2x128x128, .f32⟩
  | 90 => ⟨S2x32x8x128x128, .f32⟩
  | 91 => ⟨S32x8x2x128x128, .f32⟩
  | 92 => ⟨S2x32x8x128x128, .f32⟩
  | 93 => ⟨S32x8x2x128x256, .f32⟩
  | 94 => ⟨S2x32x8x128x256, .f32⟩
  | 95 => ⟨S1x32x8x128x128, .f32⟩
  | 96 => ⟨S32x8x128x128, .f32⟩
  | 97 => ⟨S1x32x8x128x128, .f32⟩
  | 98 => ⟨S32x8x128x128, .f32⟩
  | 99 => ⟨S1x32x8x128x128, .f32⟩
  | 100 => ⟨S32x8x128x128, .f32⟩
  | 101 => ⟨S1x32x8x128x128, .f32⟩
  | 102 => ⟨S32x8x128x128, .f32⟩
  | 103 => ⟨S1x32x8x128x256, .f32⟩
  | 104 => ⟨S32x8x128x256, .f32⟩
  | 105 => ⟨S1x32x8x128x256, .f32⟩
  | 106 => ⟨S32x8x128x256, .f32⟩
  | 107 => ⟨S32x8x128x128, .f32⟩
  | 108 => ⟨S1x8x128x128, .f32⟩
  | 109 => ⟨S32x8x128x128, .f32⟩
  | 110 => ⟨S32x8x128x128, .f32⟩
  | 111 => ⟨S32x8x128x256, .f32⟩
  | 112 => ⟨S1x8x128x1, .f32⟩
  | 113 => ⟨S32x8x128x128, .f32⟩
  | 114 => ⟨S32x8x128x128, .f32⟩
  | 115 => ⟨S32x8x128x256, .f32⟩
  | 116 => ⟨S32x8x128x256, .f32⟩
  | 117 => ⟨S1x8x1x1, .f32⟩
  | 118 => ⟨S32x8x128x256, .f32⟩
  | 119 => ⟨S32x8x128x256, .f32⟩
  | 120 => ⟨S1x8x128x1, .f32⟩
  | 121 => ⟨S32x8x128x128, .f32⟩
  | 122 => ⟨S32x8x128x128, .f32⟩
  | 123 => ⟨S32x8x128x256, .f32⟩
  | 124 => ⟨S32x8x128x256, .f32⟩
  | 125 => ⟨S32x8x128x128, .f32⟩
  | 126 => ⟨S1x8x128x128, .f32⟩
  | 127 => ⟨S32x8x128x128, .f32⟩
  | _ => ⟨S24576x8192, .f32⟩

abbrev hbmTy0_1 (i : Nat) : BufTy := match i % 128 with
  | 0 => ⟨S32x8x128x128, .f32⟩
  | 1 => ⟨S32x8x128x256, .f32⟩
  | 2 => ⟨S1x8x128x1, .f32⟩
  | 3 => ⟨S32x8x128x128, .f32⟩
  | 4 => ⟨S32x8x128x128, .f32⟩
  | 5 => ⟨S32x8x128x256, .f32⟩
  | 6 => ⟨S32x8x128x256, .f32⟩
  | 7 => ⟨S1x8x1x1, .f32⟩
  | 8 => ⟨S32x8x128x256, .f32⟩
  | 9 => ⟨S32x8x128x256, .f32⟩
  | 10 => ⟨S1x8x128x1, .f32⟩
  | 11 => ⟨S32x8x128x128, .f32⟩
  | 12 => ⟨S32x8x128x128, .f32⟩
  | 13 => ⟨S32x8x128x256, .f32⟩
  | 14 => ⟨S32x8x128x256, .f32⟩
  | 15 => ⟨S1x32x8x128x256, .f32⟩
  | 16 => ⟨S1x32x8x128x256, .f32⟩
  | 17 => ⟨S2x32x8x128x256, .f32⟩
  | 18 => ⟨S32x8x2x128x256, .f32⟩
  | 19 => ⟨S32x8x256x256, .f32⟩
  | 20 => ⟨S32x4x256x256, .f32⟩
  | 21 => ⟨S32x256x4x256, .f32⟩
  | 22 => ⟨S8192x1024, .f32⟩
  | 23 => ⟨S32x4x256x256, .f32⟩
  | 24 => ⟨S32x4x256x256, .f32⟩
  | 25 => ⟨S32x256x4x256, .f32⟩
  | 26 => ⟨S8192x1024, .f32⟩
  | 27 => ⟨S32x2x4x128x256, .f32⟩
  | _ => ⟨S24576x8192, .f32⟩

abbrev hbmTy (i : Nat) : BufTy := match i / 128 with
  | 0 => hbmTy0_0 i
  | 1 => hbmTy0_1 i
  | _ => ⟨S24576x8192, .f32⟩

abbrev bufTy : (tb : Table) → Fin (tcTables nBuf tb) → BufTy
  | .hbm, ⟨i, _⟩ => hbmTy i
  | _, _ => ⟨S24576x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩

abbrev nD : Nat := 1
abbrev τ : Topo := Topo.v7x

variable {F : FTy → Type} [FloatOps F]
-- ==== Proj.lean ====
abbrev S24576x1024 : Shape := ⟨2, ![24576, 1024]⟩
abbrev S2x1024x8192 : Shape := ⟨3, ![2, 1024, 8192]⟩
abbrev S24576x8192 : Shape := ⟨2, ![24576, 8192]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S24576x1024, .bf16⟩
  | .hbm, ⟨1, _⟩ => ⟨S2x1024x8192, .f32⟩
  | .hbm, ⟨2, _⟩ => ⟨S24576x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S24576x1024 : Shape := ⟨2, ![24576, 1024]⟩
abbrev S2x1024x8192 : Shape := ⟨3, ![2, 1024, 8192]⟩
abbrev S1x1024x8192 : Shape := ⟨3, ![1, 1024, 8192]⟩
abbrev S1024x8192 : Shape := ⟨2, ![1024, 8192]⟩
abbrev S24576x8192 : Shape := ⟨2, ![24576, 8192]⟩

abbrev nBuf : Space → Nat
  | .hbm => 6
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S2x1024x8192, .f32⟩
  | .hbm, ⟨2, _⟩ => ⟨S24576x1024, .f32⟩
  | .hbm, ⟨3, _⟩ => ⟨S1x1024x8192, .f32⟩
  | .hbm, ⟨4, _⟩ => ⟨S1024x8192, .f32⟩
  | .hbm, ⟨5, _⟩ => ⟨S24576x8192, .f32⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mix.lean ====
abbrev S8192x1024 : Shape := ⟨2, ![8192, 1024]⟩
abbrev S16384x1024 : Shape := ⟨2, ![16384, 1024]⟩
abbrev S24576x8192 : Shape := ⟨2, ![24576, 8192]⟩
abbrev S24576x1024 : Shape := ⟨2, ![24576, 1024]⟩
abbrev S8x1x6144 : Shape := ⟨3, ![8, 1, 6144]⟩
abbrev S1024 : Shape := ⟨1, ![1024]⟩
abbrev S1024x1024 : Shape := ⟨2, ![1024, 1024]⟩
abbrev S1024x2048 : Shape := ⟨2, ![1024, 2048]⟩
abbrev S1024x16 : Shape := ⟨2, ![1024, 16]⟩
abbrev S16x1024 : Shape := ⟨2, ![16, 1024]⟩
abbrev S1x16x1024 : Shape := ⟨3, ![1, 16, 1024]⟩
abbrev S2x16x1024 : Shape := ⟨3, ![2, 16, 1024]⟩
abbrev S1x1024 : Shape := ⟨2, ![1, 1024]⟩
abbrev S16x24576 : Shape := ⟨2, ![16, 24576]⟩
abbrev S256x1024 : Shape := ⟨2, ![256, 1024]⟩
abbrev S1x1x6144 : Shape := ⟨3, ![1, 1, 6144]⟩
abbrev S16x256 : Shape := ⟨2, ![16, 256]⟩
abbrev S128x256 : Shape := ⟨2, ![128, 256]⟩
abbrev S128 : Shape := ⟨1, ![128]⟩
abbrev S128x1 : Shape := ⟨2, ![128, 1]⟩
abbrev S128x1024 : Shape := ⟨2, ![128, 1024]⟩
abbrev S128x128 : Shape := ⟨2, ![128, 128]⟩
abbrev S128x2048 : Shape := ⟨2, ![128, 2048]⟩
abbrev S1x1x1024 : Shape := ⟨3, ![1, 1, 1024]⟩
abbrev S16x128 : Shape := ⟨2, ![16, 128]⟩

abbrev nBuf : Space → Nat
  | .hbm => 34
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S24576x8192, .f32⟩
  | .hbm, ⟨9, _⟩ => ⟨S24576x1024, .bf16⟩
  | .hbm, ⟨10, _⟩ => ⟨S24576x1024, .f32⟩
  | .hbm, ⟨11, _⟩ => ⟨S8x1x6144, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024x2048, .f32⟩
  | .hbm, ⟨16, _⟩ => ⟨S1024x1024, .f32⟩
  | .hbm, ⟨17, _⟩ => ⟨S1024x16, .f32⟩
  | .hbm, ⟨18, _⟩ => ⟨S16x1024, .f32⟩
  | .hbm, ⟨19, _⟩ => ⟨S16x1024, .bf16⟩
  | .hbm, ⟨20, _⟩ => ⟨S16x1024, .f32⟩
  | .hbm, ⟨21, _⟩ => ⟨S16x1024, .f32⟩
  | .hbm, ⟨22, _⟩ => ⟨S16x1024, .bf16⟩
  | .hbm, ⟨23, _⟩ => ⟨S1x16x1024, .bf16⟩
  | .hbm, ⟨24, _⟩ => ⟨S1x16x1024, .bf16⟩
  | .hbm, ⟨25, _⟩ => ⟨S2x16x1024, .bf16⟩
  | .hbm, ⟨26, _⟩ => ⟨S1024x1024, .bf16⟩
  | .hbm, ⟨27, _⟩ => ⟨S1024x1024, .bf16⟩
  | .hbm, ⟨28, _⟩ => ⟨S1024x2048, .bf16⟩
  | .hbm, ⟨29, _⟩ => ⟨S1024x1024, .bf16⟩
  | .hbm, ⟨30, _⟩ => ⟨S1x1024, .f32⟩
  | .hbm, ⟨31, _⟩ => ⟨S24576x1024, .f32⟩
  | .hbm, ⟨32, _⟩ => ⟨S24576x1024, .bf16⟩
  | .hbm, ⟨33, _⟩ => ⟨S16x24576, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S1x1x6144, .f32⟩
  | .local _ .vmem, ⟨25, _⟩ => ⟨S1x1x6144, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x2048, .bf16⟩
  | .local _ .vmem, ⟨30, _⟩ => ⟨S1024x1024, .bf16⟩
  | .local _ .vmem, ⟨31, _⟩ => ⟨S2x16x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .bf16⟩
  | .local _ .vmem, ⟨35, _⟩ => ⟨S256x1024, .bf16⟩
  | .local _ .vmem, ⟨36, _⟩ => ⟨S16x256, .f32⟩
  | .local _ .vmem, ⟨37, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x6144 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x16x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixRefIdeal.lean ====
abbrev S8192x1024 : Shape := ⟨2, ![8192, 1024]⟩
abbrev S16384x1024 : Shape := ⟨2, ![16384, 1024]⟩
abbrev S24576x8192 : Shape := ⟨2, ![24576, 8192]⟩
abbrev S24576x1024 : Shape := ⟨2, ![24576, 1024]⟩
abbrev S8x1x6144 : Shape := ⟨3, ![8, 1, 6144]⟩
abbrev S1024 : Shape := ⟨1, ![1024]⟩
abbrev S1024x1024 : Shape := ⟨2, ![1024, 1024]⟩
abbrev S1024x2048 : Shape := ⟨2, ![1024, 2048]⟩
abbrev S1024x16 : Shape := ⟨2, ![1024, 16]⟩
abbrev S1x1x6144 : Shape := ⟨3, ![1, 1, 6144]⟩
abbrev S1x6144 : Shape := ⟨2, ![1, 6144]⟩
abbrev S8192x6144 : Shape := ⟨2, ![8192, 6144]⟩
abbrev S4x1x6144 : Shape := ⟨3, ![4, 1, 6144]⟩
abbrev S4x4096x6144 : Shape := ⟨3, ![4, 4096, 6144]⟩
abbrev S16384x6144 : Shape := ⟨2, ![16384, 6144]⟩
abbrev S24576x6144 : Shape := ⟨2, ![24576, 6144]⟩
abbrev S24576x4x256 : Shape := ⟨3, ![24576, 4, 256]⟩
abbrev S_ : Shape := ⟨0, ![]⟩
abbrev S24576x4 : Shape := ⟨2, ![24576, 4]⟩
abbrev S24576x4x1 : Shape := ⟨3, ![24576, 4, 1]⟩
abbrev S24576x8x128 : Shape := ⟨3, ![24576, 8, 128]⟩
abbrev S24576x8 : Shape := ⟨2, ![24576, 8]⟩
abbrev S24576x8x1 : Shape := ⟨3, ![24576, 8, 1]⟩
abbrev S24576x2048 : Shape := ⟨2, ![24576, 2048]⟩
abbrev S24576 : Shape := ⟨1, ![24576]⟩
abbrev S24576x1 : Shape := ⟨2, ![24576, 1]⟩
abbrev S1x1024 : Shape := ⟨2, ![1, 1024]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S16384x1024, .f32⟩
  | 5 => ⟨S16384x1024, .f32⟩
  | 6 => ⟨S16384x1024, .f32⟩
  | 7 => ⟨S16384x1024, .f32⟩
  | 8 => ⟨S24576x8192, .f32⟩
  | 9 => ⟨S24576x1024, .bf16⟩
  | 10 => ⟨S24576x1024, .f32⟩
  | 11 => ⟨S8x1x6144, .f32⟩
  | 12 => ⟨S1024, .f32⟩
  | 13 => ⟨S1024x1024, .f32⟩
  | 14 => ⟨S1024x1024, .f32⟩
  | 15 => ⟨S1024x2048, .f32⟩
  | 16 => ⟨S1024x1024, .f32⟩
  | 17 => ⟨S1024x16, .f32⟩
  | 18 => ⟨S24576x1024, .f32⟩
  | 19 => ⟨S24576x1024, .f32⟩
  | 20 => ⟨S1x1x6144, .f32⟩
  | 21 => ⟨S1x6144, .f32⟩
  | 22 => ⟨S8192x6144, .f32⟩
  | 23 => ⟨S4x1x6144, .f32⟩
  | 24 => ⟨S4x4096x6144, .f32⟩
  | 25 => ⟨S16384x6144, .f32⟩
  | 26 => ⟨S24576x6144, .f32⟩
  | 27 => ⟨S24576x1024, .f32⟩
  | 28 => ⟨S24576x1024, .f32⟩
  | 29 => ⟨S24576x1024, .f32⟩
  | 30 => ⟨S8192x1024, .f32⟩
  | 31 => ⟨S16384x1024, .f32⟩
  | 32 => ⟨S24576x1024, .f32⟩
  | 33 => ⟨S24576x4x256, .f32⟩
  | 34 => ⟨S_, .f32⟩
  | 35 => ⟨S24576x4, .f32⟩
  | 36 => ⟨S24576x4x1, .f32⟩
  | 37 => ⟨S_, .f32⟩
  | 38 => ⟨S24576x4x1, .f32⟩
  | 39 => ⟨S24576x4x1, .f32⟩
  | 40 => ⟨S24576x4x256, .f32⟩
  | 41 => ⟨S24576x4x256, .f32⟩
  | 42 => ⟨S24576x4x256, .f32⟩
  | 43 => ⟨S_, .f32⟩
  | 44 => ⟨S24576x4, .f32⟩
  | 45 => ⟨S24576x4x1, .f32⟩
  | 46 => ⟨S_, .f32⟩
  | 47 => ⟨S24576x4x1, .f32⟩
  | 48 => ⟨S24576x4x1, .f32⟩
  | 49 => ⟨S24576x4x256, .f32⟩
  | 50 => ⟨S24576x4x256, .f32⟩
  | 51 => ⟨S_, .f32⟩
  | 52 => ⟨S24576x4x1, .f32⟩
  | 53 => ⟨S24576x4x1, .f32⟩
  | 54 => ⟨S24576x4x1, .f32⟩
  | 55 => ⟨S24576x4x256, .f32⟩
  | 56 => ⟨S24576x4x256, .f32⟩
  | 57 => ⟨S24576x1024, .f32⟩
  | 58 => ⟨S24576x1024, .f32⟩
  | 59 => ⟨S24576x1024, .f32⟩
  | 60 => ⟨S_, .f32⟩
  | 61 => ⟨S24576x1024, .f32⟩
  | 62 => ⟨S24576x1024, .f32⟩
  | 63 => ⟨S_, .f32⟩
  | 64 => ⟨S24576x1024, .f32⟩
  | 65 => ⟨S24576x1024, .f32⟩
  | 66 => ⟨S24576x1024, .f32⟩
  | 67 => ⟨S24576x1024, .f32⟩
  | 68 => ⟨S24576x1024, .f32⟩
  | 69 => ⟨S8192x1024, .f32⟩
  | 70 => ⟨S16384x1024, .f32⟩
  | 71 => ⟨S24576x1024, .f32⟩
  | 72 => ⟨S24576x8x128, .f32⟩
  | 73 => ⟨S24576x8x128, .f32⟩
  | 74 => ⟨S_, .f32⟩
  | 75 => ⟨S24576x8, .f32⟩
  | 76 => ⟨S24576x8x1, .f32⟩
  | 77 => ⟨S_, .f32⟩
  | 78 => ⟨S24576x8x1, .f32⟩
  | 79 => ⟨S24576x8x1, .f32⟩
  | 80 => ⟨S_, .f32⟩
  | 81 => ⟨S24576x8x1, .f32⟩
  | 82 => ⟨S24576x8x1, .f32⟩
  | 83 => ⟨S24576x8x1, .f32⟩
  | 84 => ⟨S24576x8x128, .f32⟩
  | 85 => ⟨S24576x8x128, .f32⟩
  | 86 => ⟨S24576x1024, .f32⟩
  | 87 => ⟨S24576x1024, .f32⟩
  | 88 => ⟨S24576x1024, .f32⟩
  | 89 => ⟨S_, .f32⟩
  | 90 => ⟨S24576x1024, .f32⟩
  | 91 => ⟨S24576x1024, .f32⟩
  | 92 => ⟨S_, .f32⟩
  | 93 => ⟨S24576x1024, .f32⟩
  | 94 => ⟨S24576x1024, .f32⟩
  | 95 => ⟨S24576x1024, .f32⟩
  | 96 => ⟨S24576x1024, .f32⟩
  | 97 => ⟨S24576x1024, .f32⟩
  | 98 => ⟨S24576x1024, .f32⟩
  | 99 => ⟨S24576x2048, .f32⟩
  | 100 => ⟨S24576x2048, .f32⟩
  | 101 => ⟨S24576x2048, .f32⟩
  | 102 => ⟨S_, .f32⟩
  | 103 => ⟨S24576x2048, .f32⟩
  | 104 => ⟨S24576x2048, .f32⟩
  | 105 => ⟨S_, .f32⟩
  | 106 => ⟨S24576x2048, .f32⟩
  | 107 => ⟨S24576x2048, .f32⟩
  | 108 => ⟨S24576x1024, .f32⟩
  | 109 => ⟨S24576x1024, .f32⟩
  | 110 => ⟨S24576x1024, .f32⟩
  | 111 => ⟨S24576x1024, .f32⟩
  | 112 => ⟨S24576x1024, .f32⟩
  | 113 => ⟨S24576x1024, .f32⟩
  | 114 => ⟨S24576x1024, .f32⟩
  | 115 => ⟨S24576x1024, .f32⟩
  | 116 => ⟨S24576x1024, .f32⟩
  | 117 => ⟨S_, .f32⟩
  | 118 => ⟨S24576, .f32⟩
  | 119 => ⟨S24576x1, .f32⟩
  | 120 => ⟨S_, .f32⟩
  | 121 => ⟨S24576x1, .f32⟩
  | 122 => ⟨S24576x1, .f32⟩
  | 123 => ⟨S_, .f32⟩
  | 124 => ⟨S24576x1, .f32⟩
  | 125 => ⟨S24576x1, .f32⟩
  | 126 => ⟨S24576x1, .f32⟩
  | 127 => ⟨S24576x1024, .f32⟩
  | _ => ⟨S8192x1024, .f32⟩

abbrev hbmTy0_1 (i : Nat) : BufTy := match i % 128 with
  | 0 => ⟨S24576x1024, .f32⟩
  | 1 => ⟨S1x1024, .f32⟩
  | 2 => ⟨S24576x1024, .f32⟩
  | 3 => ⟨S24576x1024, .f32⟩
  | 4 => ⟨S_, .f32⟩
  | 5 => ⟨S24576x1024, .f32⟩
  | 6 => ⟨S24576x1024, .f32⟩
  | 7 => ⟨S24576x1024, .f32⟩
  | 8 => ⟨S24576x1024, .f32⟩
  | 9 => ⟨S24576x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_7 : Ref sig .tc := ⟨.hbm, 102, rfl⟩
abbrev main_v60 : Ref sig .tc := ⟨.hbm, 103, rfl⟩
abbrev main_v61 : Ref sig .tc := ⟨.hbm, 104, rfl⟩
abbrev main_cst_8 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_9 : Ref sig .tc := ⟨.hbm, 117, rfl⟩
abbrev main_v73 : Ref sig .tc := ⟨.hbm, 118, rfl⟩
abbrev main_v74 : Ref sig .tc := ⟨.hbm, 119, rfl⟩
abbrev main_cst_10 : Ref sig .tc := ⟨.hbm, 120, rfl⟩
abbrev main_v75 : Ref sig .tc := ⟨.hbm, 121, rfl⟩
abbrev main_v76 : Ref sig .tc := ⟨.hbm, 122, rfl⟩
abbrev main_cst_11 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_12 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩

abbrev nD : Nat := 1
abbrev τ : Topo := Topo.v7x

variable {F : FTy → Type} [FloatOps F]
-- ==== Ffn.lean ====
abbrev S16x3552x1024 : Shape := ⟨3, ![16, 3552, 1024]⟩
abbrev S16 : Shape := ⟨1, ![16]⟩
abbrev S2x16x1024x2048 : Shape := ⟨4, ![2, 16, 1024, 2048]⟩
abbrev S2x16x2048x1024 : Shape := ⟨4, ![2, 16, 2048, 1024]⟩
abbrev S1x592x1024 : Shape := ⟨3, ![1, 592, 1024]⟩
abbrev S2x1024x1024 : Shape := ⟨3, ![2, 1024, 1024]⟩
abbrev S1024x1024 : Shape := ⟨2, ![1024, 1024]⟩
abbrev S3552x1024 : Shape := ⟨2, ![3552, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1x1x1024x1024 : Shape := ⟨4, ![1, 1, 1024, 1024]⟩
abbrev S592x1024 : Shape := ⟨2, ![592, 1024]⟩

abbrev nBuf : Space → Nat
  | .hbm => 5
  | .vmem => 11
  | .smem => 1
  | _ => 0

abbrev bufTy : (tb : Table) → Fin (tcTables nBuf tb) → BufTy
  | .hbm, ⟨0, _⟩ => ⟨S16x3552x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S16x3552x1024, .bf16⟩
  | .local _ .vmem, ⟨0, _⟩ => ⟨S1x592x1024, .bf16⟩
  | .local _ .vmem, ⟨1, _⟩ => ⟨S1x592x1024, .bf16⟩
  | .local _ .vmem, ⟨2, _⟩ => ⟨S1x592x1024, .bf16⟩
  | .local _ .vmem, ⟨3, _⟩ => ⟨S1x592x1024, .bf16⟩
  | .local _ .vmem, ⟨4, _⟩ => ⟨S2x1024x1024, .f32⟩
  | .local _ .vmem, ⟨5, _⟩ => ⟨S2x1024x1024, .f32⟩
  | .local _ .vmem, ⟨6, _⟩ => ⟨S2x1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S3552x1024, .f32⟩
  | .local _ .smem, ⟨0, _⟩ => ⟨S16, .i32⟩
  | _, _ => ⟨S16x3552x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![16, 2, 6], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_6 : BitVec 32 := 0#32
  let v22 : BitVec 1 := Scalar.cmpi .eq v1 c0_i32_6
  let v23 : BitVec 32 := Scalar.extui v22
  let c0_i32_7 : BitVec 32 := 0#32
  let v24 : BitVec 1 := Scalar.cmpi .ne v23 c0_i32_7
  v24

def k0_mult1 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_65 : BitVec 32 := 2#32
  let c0_i32_66 : BitVec 32 := 0#32
  let v134 : BitVec 1 := Scalar.cmpi .eq c2_i32_65 c0_i32_66
  let c1_i32_67 : BitVec 32 := 1#32
  let v135 : BitVec 32 := Scalar.select v134 c1_i32_67 c2_i32_65
  let v136 : BitVec 32 := Scalar.remsi v1 v135
  let c0_i32_69 : BitVec 32 := 0#32
  let v138 : BitVec 1 := Scalar.cmpi .slt v136 c0_i32_69
  let c0_i32_70 : BitVec 32 := 0#32
  let v139 : BitVec 1 := Scalar.cmpi .slt v135 c0_i32_70
  let v140 : BitVec 1 := Scalar.xori v138 v139
  let c0_i32_68 : BitVec 32 := 0#32
  let v137 : BitVec 1 := Scalar.cmpi .ne v136 c0_i32_68
  let v141 : BitVec 1 := Scalar.andi v140 v137
  let v142 : BitVec 32 := Scalar.addi v136 v135
  let v143 : BitVec 32 := Scalar.select v141 v142 v136
  let c1024_i32_77 : BitVec 32 := 1024#32
  let v154 : BitVec 32 := Scalar.muli v143 c1024_i32_77
  v154
def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_71 : BitVec 32 := 2#32
  let c0_i32_72 : BitVec 32 := 0#32
  let v144 : BitVec 1 := Scalar.cmpi .eq c2_i32_71 c0_i32_72
  let c1_i32_73 : BitVec 32 := 1#32
  let v145 : BitVec 32 := Scalar.select v144 c1_i32_73 c2_i32_71
  let v146 : BitVec 32 := Scalar.remsi v1 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  ![v153.toNat]
def k0_off2 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_71 : BitVec 32 := 2#32
  let c0_i32_72 : BitVec 32 := 0#32
  let v144 : BitVec 1 := Scalar.cmpi .eq c2_i32_71 c0_i32_72
  let c1_i32_73 : BitVec 32 := 1#32
  let v145 : BitVec 32 := Scalar.select v144 c1_i32_73 c2_i32_71
  let v146 : BitVec 32 := Scalar.remsi v1 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c0_i32_79 : BitVec 32 := 0#32
  let c0_i32_80 : BitVec 32 := 0#32
  ![v153.toNat, 0, 0]
def k0_off3 (i : grid0.Coords) : Fin 4 → Nat :=
  let c0_i32_78 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_59 : BitVec 32 := 0#32
  let v118 : BitVec 1 := Scalar.cmpi .sgt v1 c0_i32_59
  let v119 : BitVec 32 := Scalar.extui v118
  let c0_i32_60 : BitVec 32 := 0#32
  let v120 : BitVec 1 := Scalar.cmpi .slt v1 c0_i32_60
  let v121 : BitVec 32 := Scalar.extui v120
  let v122 : BitVec 32 := Scalar.subi v119 v121
  let c2_i32_58 : BitVec 32 := 2#32
  let c0_i32_61 : BitVec 32 := 0#32
  let v123 : BitVec 1 := Scalar.cmpi .sgt c2_i32_58 c0_i32_61
  let v124 : BitVec 32 := Scalar.extui v123
  let c0_i32_62 : BitVec 32 := 0#32
  let v125 : BitVec 1 := Scalar.cmpi .slt c2_i32_58 c0_i32_62
  let v126 : BitVec 32 := Scalar.extui v125
  let v127 : BitVec 32 := Scalar.subi v124 v126
  let v128 : BitVec 1 := Scalar.cmpi .ne v122 v127
  let v129 : BitVec 32 := Scalar.remsi v1 c2_i32_58
  let c0_i32_63 : BitVec 32 := 0#32
  let v130 : BitVec 1 := Scalar.cmpi .ne v129 c0_i32_63
  let v131 : BitVec 1 := Scalar.andi v128 v130
  let v117 : BitVec 32 := Scalar.divsi v1 c2_i32_58
  let c1_i32_64 : BitVec 32 := 1#32
  let v132 : BitVec 32 := Scalar.subi v117 c1_i32_64
  let v133 : BitVec 32 := Scalar.select v131 v132 v117
  let c0_i32_81 : BitVec 32 := 0#32
  let c2_i32_65 : BitVec 32 := 2#32
  let c0_i32_66 : BitVec 32 := 0#32
  let v134 : BitVec 1 := Scalar.cmpi .eq c2_i32_65 c0_i32_66
  let c1_i32_67 : BitVec 32 := 1#32
  let v135 : BitVec 32 := Scalar.select v134 c1_i32_67 c2_i32_65
  let v136 : BitVec 32 := Scalar.remsi v1 v135
  let c0_i32_69 : BitVec 32 := 0#32
  let v138 : BitVec 1 := Scalar.cmpi .slt v136 c0_i32_69
  let c0_i32_70 : BitVec 32 := 0#32
  let v139 : BitVec 1 := Scalar.cmpi .slt v135 c0_i32_70
  let v140 : BitVec 1 := Scalar.xori v138 v139
  let c0_i32_68 : BitVec 32 := 0#32
  let v137 : BitVec 1 := Scalar.cmpi .ne v136 c0_i32_68
  let v141 : BitVec 1 := Scalar.andi v140 v137
  let v142 : BitVec 32 := Scalar.addi v136 v135
  let v143 : BitVec 32 := Scalar.select v141 v142 v136
  let c1024_i32_77 : BitVec 32 := 1024#32
  let v154 : BitVec 32 := Scalar.muli v143 c1024_i32_77
  let v155 : BitVec 32 := v154
  ![0, v133.toNat, 0, v155.toNat]
def k0_off4 (i : grid0.Coords) : Fin 4 → Nat :=
  let c0_i32_86 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_59 : BitVec 32 := 0#32
  let v118 : BitVec 1 := Scalar.cmpi .sgt v1 c0_i32_59
  let v119 : BitVec 32 := Scalar.extui v118
  let c0_i32_60 : BitVec 32 := 0#32
  let v120 : BitVec 1 := Scalar.cmpi .slt v1 c0_i32_60
  let v121 : BitVec 32 := Scalar.extui v120
  let v122 : BitVec 32 := Scalar.subi v119 v121
  let c2_i32_58 : BitVec 32 := 2#32
  let c0_i32_61 : BitVec 32 := 0#32
  let v123 : BitVec 1 := Scalar.cmpi .sgt c2_i32_58 c0_i32_61
  let v124 : BitVec 32 := Scalar.extui v123
  let c0_i32_62 : BitVec 32 := 0#32
  let v125 : BitVec 1 := Scalar.cmpi .slt c2_i32_58 c0_i32_62
  let v126 : BitVec 32 := Scalar.extui v125
  let v127 : BitVec 32 := Scalar.subi v124 v126
  let v128 : BitVec 1 := Scalar.cmpi .ne v122 v127
  let v129 : BitVec 32 := Scalar.remsi v1 c2_i32_58
  let c0_i32_63 : BitVec 32 := 0#32
  let v130 : BitVec 1 := Scalar.cmpi .ne v129 c0_i32_63
  let v131 : BitVec 1 := Scalar.andi v128 v130
  let v117 : BitVec 32 := Scalar.divsi v1 c2_i32_58
  let c1_i32_64 : BitVec 32 := 1#32
  let v132 : BitVec 32 := Scalar.subi v117 c1_i32_64
  let v133 : BitVec 32 := Scalar.select v131 v132 v117
  let c2_i32_65 : BitVec 32 := 2#32
  let c0_i32_66 : BitVec 32 := 0#32
  let v134 : BitVec 1 := Scalar.cmpi .eq c2_i32_65 c0_i32_66
  let c1_i32_67 : BitVec 32 := 1#32
  let v135 : BitVec 32 := Scalar.select v134 c1_i32_67 c2_i32_65
  let v136 : BitVec 32 := Scalar.remsi v1 v135
  let c0_i32_69 : BitVec 32 := 0#32
  let v138 : BitVec 1 := Scalar.cmpi .slt v136 c0_i32_69
  let c0_i32_70 : BitVec 32 := 0#32
  let v139 : BitVec 1 := Scalar.cmpi .slt v135 c0_i32_70
  let v140 : BitVec 1 := Scalar.xori v138 v139
  let c0_i32_68 : BitVec 32 := 0#32
  let v137 : BitVec 1 := Scalar.cmpi .ne v136 c0_i32_68
  let v141 : BitVec 1 := Scalar.andi v140 v137
  let v142 : BitVec 32 := Scalar.addi v136 v135
  let v143 : BitVec 32 := Scalar.select v141 v142 v136
  let c1024_i32_77 : BitVec 32 := 1024#32
  let v154 : BitVec 32 := Scalar.muli v143 c1024_i32_77
  let v155 : BitVec 32 := v154
  let c0_i32_89 : BitVec 32 := 0#32
  ![0, v133.toNat, v155.toNat, 0]
def k0_mult2 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_15 : BitVec 32 := 2#32
  let c0_i32_16 : BitVec 32 := 0#32
  let v42 : BitVec 1 := Scalar.cmpi .eq c2_i32_15 c0_i32_16
  let c1_i32_17 : BitVec 32 := 1#32
  let v43 : BitVec 32 := Scalar.select v42 c1_i32_17 c2_i32_15
  let v44 : BitVec 32 := Scalar.remsi v1 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  let c1024_i32 : BitVec 32 := 1024#32
  let v62 : BitVec 32 := Scalar.muli v51 c1024_i32
  v62
def k0_off5 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v1 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  ![v61.toNat]
def k0_off6 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v1 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c0_i32_28 : BitVec 32 := 0#32
  let c0_i32_29 : BitVec 32 := 0#32
  ![v61.toNat, 0, 0]
def k0_off7 (i : grid0.Coords) : Fin 4 → Nat :=
  let c0_i32_27 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_9 : BitVec 32 := 0#32
  let v26 : BitVec 1 := Scalar.cmpi .sgt v1 c0_i32_9
  let v27 : BitVec 32 := Scalar.extui v26
  let c0_i32_10 : BitVec 32 := 0#32
  let v28 : BitVec 1 := Scalar.cmpi .slt v1 c0_i32_10
  let v29 : BitVec 32 := Scalar.extui v28
  let v30 : BitVec 32 := Scalar.subi v27 v29
  let c2_i32_8 : BitVec 32 := 2#32
  let c0_i32_11 : BitVec 32 := 0#32
  let v31 : BitVec 1 := Scalar.cmpi .sgt c2_i32_8 c0_i32_11
  let v32 : BitVec 32 := Scalar.extui v31
  let c0_i32_12 : BitVec 32 := 0#32
  let v33 : BitVec 1 := Scalar.cmpi .slt c2_i32_8 c0_i32_12
  let v34 : BitVec 32 := Scalar.extui v33
  let v35 : BitVec 32 := Scalar.subi v32 v34
  let v36 : BitVec 1 := Scalar.cmpi .ne v30 v35
  let v37 : BitVec 32 := Scalar.remsi v1 c2_i32_8
  let c0_i32_13 : BitVec 32 := 0#32
  let v38 : BitVec 1 := Scalar.cmpi .ne v37 c0_i32_13
  let v39 : BitVec 1 := Scalar.andi v36 v38
  let v25 : BitVec 32 := Scalar.divsi v1 c2_i32_8
  let c1_i32_14 : BitVec 32 := 1#32
  let v40 : BitVec 32 := Scalar.subi v25 c1_i32_14
  let v41 : BitVec 32 := Scalar.select v39 v40 v25
  let c0_i32_30 : BitVec 32 := 0#32
  let c2_i32_15 : BitVec 32 := 2#32
  let c0_i32_16 : BitVec 32 := 0#32
  let v42 : BitVec 1 := Scalar.cmpi .eq c2_i32_15 c0_i32_16
  let c1_i32_17 : BitVec 32 := 1#32
  let v43 : BitVec 32 := Scalar.select v42 c1_i32_17 c2_i32_15
  let v44 : BitVec 32 := Scalar.remsi v1 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  let c1024_i32 : BitVec 32 := 1024#32
  let v62 : BitVec 32 := Scalar.muli v51 c1024_i32
  let v63 : BitVec 32 := v62
  ![0, v41.toNat, 0, v63.toNat]
def k0_off8 (i : grid0.Coords) : Fin 4 → Nat :=
  let c0_i32_35 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_9 : BitVec 32 := 0#32
  let v26 : BitVec 1 := Scalar.cmpi .sgt v1 c0_i32_9
  let v27 : BitVec 32 := Scalar.extui v26
  let c0_i32_10 : BitVec 32 := 0#32
  let v28 : BitVec 1 := Scalar.cmpi .slt v1 c0_i32_10
  let v29 : BitVec 32 := Scalar.extui v28
  let v30 : BitVec 32 := Scalar.subi v27 v29
  let c2_i32_8 : BitVec 32 := 2#32
  let c0_i32_11 : BitVec 32 := 0#32
  let v31 : BitVec 1 := Scalar.cmpi .sgt c2_i32_8 c0_i32_11
  let v32 : BitVec 32 := Scalar.extui v31
  let c0_i32_12 : BitVec 32 := 0#32
  let v33 : BitVec 1 := Scalar.cmpi .slt c2_i32_8 c0_i32_12
  let v34 : BitVec 32 := Scalar.extui v33
  let v35 : BitVec 32 := Scalar.subi v32 v34
  let v36 : BitVec 1 := Scalar.cmpi .ne v30 v35
  let v37 : BitVec 32 := Scalar.remsi v1 c2_i32_8
  let c0_i32_13 : BitVec 32 := 0#32
  let v38 : BitVec 1 := Scalar.cmpi .ne v37 c0_i32_13
  let v39 : BitVec 1 := Scalar.andi v36 v38
  let v25 : BitVec 32 := Scalar.divsi v1 c2_i32_8
  let c1_i32_14 : BitVec 32 := 1#32
  let v40 : BitVec 32 := Scalar.subi v25 c1_i32_14
  let v41 : BitVec 32 := Scalar.select v39 v40 v25
  let c2_i32_15 : BitVec 32 := 2#32
  let c0_i32_16 : BitVec 32 := 0#32
  let v42 : BitVec 1 := Scalar.cmpi .eq c2_i32_15 c0_i32_16
  let c1_i32_17 : BitVec 32 := 1#32
  let v43 : BitVec 32 := Scalar.select v42 c1_i32_17 c2_i32_15
  let v44 : BitVec 32 := Scalar.remsi v1 v43
  let c0_i32_19 : BitVec 32 := 0#32
  let v46 : BitVec 1 := Scalar.cmpi .slt v44 c0_i32_19
  let c0_i32_20 : BitVec 32 := 0#32
  let v47 : BitVec 1 := Scalar.cmpi .slt v43 c0_i32_20
  let v48 : BitVec 1 := Scalar.xori v46 v47
  let c0_i32_18 : BitVec 32 := 0#32
  let v45 : BitVec 1 := Scalar.cmpi .ne v44 c0_i32_18
  let v49 : BitVec 1 := Scalar.andi v48 v45
  let v50 : BitVec 32 := Scalar.addi v44 v43
  let v51 : BitVec 32 := Scalar.select v49 v50 v44
  let c1024_i32 : BitVec 32 := 1024#32
  let v62 : BitVec 32 := Scalar.muli v51 c1024_i32
  let v63 : BitVec 32 := v62
  let c0_i32_38 : BitVec 32 := 0#32
  ![0, v41.toNat, v63.toNat, 0]
def k0_cond3 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_39 : BitVec 32 := 1#32
  let v82 : BitVec 32 := Scalar.addi v1 c1_i32_39
  let c32_i32 : BitVec 32 := 32#32
  let v83 : BitVec 1 := Scalar.cmpi .slt v82 c32_i32
  let v84 : BitVec 32 := Scalar.extui v83
  let c0_i32_40 : BitVec 32 := 0#32
  let v85 : BitVec 1 := Scalar.cmpi .ne v84 c0_i32_40
  v85

def k0_mult3 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_58 : BitVec 32 := 1#32
  let v117 : BitVec 32 := Scalar.addi v1 c1_i32_58
  let c31_i32 : BitVec 32 := 31#32
  let v118 : BitVec 32 := Scalar.minsi v117 c31_i32
  let c2_i32_66 : BitVec 32 := 2#32
  let c0_i32_67 : BitVec 32 := 0#32
  let v136 : BitVec 1 := Scalar.cmpi .eq c2_i32_66 c0_i32_67
  let c1_i32_68 : BitVec 32 := 1#32
  let v137 : BitVec 32 := Scalar.select v136 c1_i32_68 c2_i32_66
  let v138 : BitVec 32 := Scalar.remsi v118 v137
  let c0_i32_70 : BitVec 32 := 0#32
  let v140 : BitVec 1 := Scalar.cmpi .slt v138 c0_i32_70
  let c0_i32_71 : BitVec 32 := 0#32
  let v141 : BitVec 1 := Scalar.cmpi .slt v137 c0_i32_71
  let v142 : BitVec 1 := Scalar.xori v140 v141
  let c0_i32_69 : BitVec 32 := 0#32
  let v139 : BitVec 1 := Scalar.cmpi .ne v138 c0_i32_69
  let v143 : BitVec 1 := Scalar.andi v142 v139
  let v144 : BitVec 32 := Scalar.addi v138 v137
  let v145 : BitVec 32 := Scalar.select v143 v144 v138
  let c1024_i32_78 : BitVec 32 := 1024#32
  let v156 : BitVec 32 := Scalar.muli v145 c1024_i32_78
  v156
def k0_off9 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_58 : BitVec 32 := 1#32
  let v117 : BitVec 32 := Scalar.addi v1 c1_i32_58
  let c31_i32 : BitVec 32 := 31#32
  let v118 : BitVec 32 := Scalar.minsi v117 c31_i32
  let c2_i32_72 : BitVec 32 := 2#32
  let c0_i32_73 : BitVec 32 := 0#32
  let v146 : BitVec 1 := Scalar.cmpi .eq c2_i32_72 c0_i32_73
  let c1_i32_74 : BitVec 32 := 1#32
  let v147 : BitVec 32 := Scalar.select v146 c1_i32_74 c2_i32_72
  let v148 : BitVec 32 := Scalar.remsi v118 v147
  let c0_i32_76 : BitVec 32 := 0#32
  let v150 : BitVec 1 := Scalar.cmpi .slt v148 c0_i32_76
  let c0_i32_77 : BitVec 32 := 0#32
  let v151 : BitVec 1 := Scalar.cmpi .slt v147 c0_i32_77
  let v152 : BitVec 1 := Scalar.xori v150 v151
  let c0_i32_75 : BitVec 32 := 0#32
  let v149 : BitVec 1 := Scalar.cmpi .ne v148 c0_i32_75
  let v153 : BitVec 1 := Scalar.andi v152 v149
  let v154 : BitVec 32 := Scalar.addi v148 v147
  let v155 : BitVec 32 := Scalar.select v153 v154 v148
  ![v155.toNat]
def k0_off10 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_58 : BitVec 32 := 1#32
  let v117 : BitVec 32 := Scalar.addi v1 c1_i32_58
  let c31_i32 : BitVec 32 := 31#32
  let v118 : BitVec 32 := Scalar.minsi v117 c31_i32
  let c2_i32_72 : BitVec 32 := 2#32
  let c0_i32_73 : BitVec 32 := 0#32
  let v146 : BitVec 1 := Scalar.cmpi .eq c2_i32_72 c0_i32_73
  let c1_i32_74 : BitVec 32 := 1#32
  let v147 : BitVec 32 := Scalar.select v146 c1_i32_74 c2_i32_72
  let v148 : BitVec 32 := Scalar.remsi v118 v147
  let c0_i32_76 : BitVec 32 := 0#32
  let v150 : BitVec 1 := Scalar.cmpi .slt v148 c0_i32_76
  let c0_i32_77 : BitVec 32 := 0#32
  let v151 : BitVec 1 := Scalar.cmpi .slt v147 c0_i32_77
  let v152 : BitVec 1 := Scalar.xori v150 v151
  let c0_i32_75 : BitVec 32 := 0#32
  let v149 : BitVec 1 := Scalar.cmpi .ne v148 c0_i32_75
  let v153 : BitVec 1 := Scalar.andi v152 v149
  let v154 : BitVec 32 := Scalar.addi v148 v147
  let v155 : BitVec 32 := Scalar.select v153 v154 v148
  let c0_i32_80 : BitVec 32 := 0#32
  let c0_i32_81 : BitVec 32 := 0#32
  ![v155.toNat, 0, 0]
def k0_off11 (i : grid0.Coords) : Fin 4 → Nat :=
  let c0_i32_79 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_58 : BitVec 32 := 1#32
  let v117 : BitVec 32 := Scalar.addi v1 c1_i32_58
  let c31_i32 : BitVec 32 := 31#32
  let v118 : BitVec 32 := Scalar.minsi v117 c31_i32
  let c0_i32_60 : BitVec 32 := 0#32
  let v120 : BitVec 1 := Scalar.cmpi .sgt v118 c0_i32_60
  let v121 : BitVec 32 := Scalar.extui v120
  let c0_i32_61 : BitVec 32 := 0#32
  let v122 : BitVec 1 := Scalar.cmpi .slt v118 c0_i32_61
  let v123 : BitVec 32 := Scalar.extui v122
  let v124 : BitVec 32 := Scalar.subi v121 v123
  let c2_i32_59 : BitVec 32 := 2#32
  let c0_i32_62 : BitVec 32 := 0#32
  let v125 : BitVec 1 := Scalar.cmpi .sgt c2_i32_59 c0_i32_62
  let v126 : BitVec 32 := Scalar.extui v125
  let c0_i32_63 : BitVec 32 := 0#32
  let v127 : BitVec 1 := Scalar.cmpi .slt c2_i32_59 c0_i32_63
  let v128 : BitVec 32 := Scalar.extui v127
  let v129 : BitVec 32 := Scalar.subi v126 v128
  let v130 : BitVec 1 := Scalar.cmpi .ne v124 v129
  let v131 : BitVec 32 := Scalar.remsi v118 c2_i32_59
  let c0_i32_64 : BitVec 32 := 0#32
  let v132 : BitVec 1 := Scalar.cmpi .ne v131 c0_i32_64
  let v133 : BitVec 1 := Scalar.andi v130 v132
  let v119 : BitVec 32 := Scalar.divsi v118 c2_i32_59
  let c1_i32_65 : BitVec 32 := 1#32
  let v134 : BitVec 32 := Scalar.subi v119 c1_i32_65
  let v135 : BitVec 32 := Scalar.select v133 v134 v119
  let c0_i32_82 : BitVec 32 := 0#32
  let c2_i32_66 : BitVec 32 := 2#32
  let c0_i32_67 : BitVec 32 := 0#32
  let v136 : BitVec 1 := Scalar.cmpi .eq c2_i32_66 c0_i32_67
  let c1_i32_68 : BitVec 32 := 1#32
  let v137 : BitVec 32 := Scalar.select v136 c1_i32_68 c2_i32_66
  let v138 : BitVec 32 := Scalar.remsi v118 v137
  let c0_i32_70 : BitVec 32 := 0#32
  let v140 : BitVec 1 := Scalar.cmpi .slt v138 c0_i32_70
  let c0_i32_71 : BitVec 32 := 0#32
  let v141 : BitVec 1 := Scalar.cmpi .slt v137 c0_i32_71
  let v142 : BitVec 1 := Scalar.xori v140 v141
  let c0_i32_69 : BitVec 32 := 0#32
  let v139 : BitVec 1 := Scalar.cmpi .ne v138 c0_i32_69
  let v143 : BitVec 1 := Scalar.andi v142 v139
  let v144 : BitVec 32 := Scalar.addi v138 v137
  let v145 : BitVec 32 := Scalar.select v143 v144 v138
  let c1024_i32_78 : BitVec 32 := 1024#32
  let v156 : BitVec 32 := Scalar.muli v145 c1024_i32_78
  let v157 : BitVec 32 := v156
  ![0, v135.toNat, 0, v157.toNat]
def k0_off12 (i : grid0.Coords) : Fin 4 → Nat :=
  let c0_i32_87 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_58 : BitVec 32 := 1#32
  let v117 : BitVec 32 := Scalar.addi v1 c1_i32_58
  let c31_i32 : BitVec 32 := 31#32
  let v118 : BitVec 32 := Scalar.minsi v117 c31_i32
  let c0_i32_60 : BitVec 32 := 0#32
  let v120 : BitVec 1 := Scalar.cmpi .sgt v118 c0_i32_60
  let v121 : BitVec 32 := Scalar.extui v120
  let c0_i32_61 : BitVec 32 := 0#32
  let v122 : BitVec 1 := Scalar.cmpi .slt v118 c0_i32_61
  let v123 : BitVec 32 := Scalar.extui v122
  let v124 : BitVec 32 := Scalar.subi v121 v123
  let c2_i32_59 : BitVec 32 := 2#32
  let c0_i32_62 : BitVec 32 := 0#32
  let v125 : BitVec 1 := Scalar.cmpi .sgt c2_i32_59 c0_i32_62
  let v126 : BitVec 32 := Scalar.extui v125
  let c0_i32_63 : BitVec 32 := 0#32
  let v127 : BitVec 1 := Scalar.cmpi .slt c2_i32_59 c0_i32_63
  let v128 : BitVec 32 := Scalar.extui v127
  let v129 : BitVec 32 := Scalar.subi v126 v128
  let v130 : BitVec 1 := Scalar.cmpi .ne v124 v129
  let v131 : BitVec 32 := Scalar.remsi v118 c2_i32_59
  let c0_i32_64 : BitVec 32 := 0#32
  let v132 : BitVec 1 := Scalar.cmpi .ne v131 c0_i32_64
  let v133 : BitVec 1 := Scalar.andi v130 v132
  let v119 : BitVec 32 := Scalar.divsi v118 c2_i32_59
  let c1_i32_65 : BitVec 32 := 1#32
  let v134 : BitVec 32 := Scalar.subi v119 c1_i32_65
  let v135 : BitVec 32 := Scalar.select v133 v134 v119
  let c2_i32_66 : BitVec 32 := 2#32
  let c0_i32_67 : BitVec 32 := 0#32
  let v136 : BitVec 1 := Scalar.cmpi .eq c2_i32_66 c0_i32_67
  let c1_i32_68 : BitVec 32 := 1#32
  let v137 : BitVec 32 := Scalar.select v136 c1_i32_68 c2_i32_66
  let v138 : BitVec 32 := Scalar.remsi v118 v137
  let c0_i32_70 : BitVec 32 := 0#32
  let v140 : BitVec 1 := Scalar.cmpi .slt v138 c0_i32_70
  let c0_i32_71 : BitVec 32 := 0#32
  let v141 : BitVec 1 := Scalar.cmpi .slt v137 c0_i32_71
  let v142 : BitVec 1 := Scalar.xori v140 v141
  let c0_i32_69 : BitVec 32 := 0#32
  let v139 : BitVec 1 := Scalar.cmpi .ne v138 c0_i32_69
  let v143 : BitVec 1 := Scalar.andi v142 v139
  let v144 : BitVec 32 := Scalar.addi v138 v137
  let v145 : BitVec 32 := Scalar.select v143 v144 v138
  let c1024_i32_78 : BitVec 32 := 1024#32
  let v156 : BitVec 32 := Scalar.muli v145 c1024_i32_78
  let v157 : BitVec 32 := v156
  let c0_i32_90 : BitVec 32 := 0#32
  ![0, v135.toNat, v157.toNat, 0]
def k0_off13 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_41 : BitVec 32 := 2#32
  let c0_i32_42 : BitVec 32 := 0#32
  let v86 : BitVec 1 := Scalar.cmpi .eq c2_i32_41 c0_i32_42
  let c1_i32_43 : BitVec 32 := 1#32
  let v87 : BitVec 32 := Scalar.select v86 c1_i32_43 c2_i32_41
  let v88 : BitVec 32 := Scalar.remsi v1 v87
  let c0_i32_45 : BitVec 32 := 0#32
  let v90 : BitVec 1 := Scalar.cmpi .slt v88 c0_i32_45
  let c0_i32_46 : BitVec 32 := 0#32
  let v91 : BitVec 1 := Scalar.cmpi .slt v87 c0_i32_46
  let v92 : BitVec 1 := Scalar.xori v90 v91
  let c0_i32_44 : BitVec 32 := 0#32
  let v89 : BitVec 1 := Scalar.cmpi .ne v88 c0_i32_44
  let v93 : BitVec 1 := Scalar.andi v92 v89
  let v94 : BitVec 32 := Scalar.addi v88 v87
  let v95 : BitVec 32 := Scalar.select v93 v94 v88
  let v96 : Index := Scalar.indexCast v95
  let c0 : Index := 0#32
  let c0_47 : Index := 0#32
  ![v96.toNat, 0, 0]
def k0_mult4 (i : grid0.Coords) : BitVec 32 :=
  let arg2 : BitVec 32 := BitVec.ofNat 32 (i 2).val
  let c592_i32 : BitVec 32 := 592#32
  let v5 : BitVec 32 := Scalar.muli arg2 c592_i32
  v5
def k0_off14 (i : grid0.Coords) : Fin 1 → Nat :=
  let arg0 : BitVec 32 := BitVec.ofNat 32 (i 0).val
  let v8 : Index := Scalar.indexCast arg0
  ![v8.toNat]
def k0_cond5 (i : grid0.Coords) : BitVec 1 :=
  let arg1 : BitVec 32 := BitVec.ofNat 32 (i 1).val
  let c0_i32_16 : BitVec 32 := 0#32
  let v34 : BitVec 1 := Scalar.cmpi .eq arg1 c0_i32_16
  let v35 : BitVec 32 := Scalar.extui v34
  let c0_i32_17 : BitVec 32 := 0#32
  let v36 : BitVec 1 := Scalar.cmpi .ne v35 c0_i32_17
  v36

def k0_off15 (i : grid0.Coords) : Fin 2 → Nat :=
  let arg2 : BitVec 32 := BitVec.ofNat 32 (i 2).val
  let c592_i32 : BitVec 32 := 592#32
  let v5 : BitVec 32 := Scalar.muli arg2 c592_i32
  let v6 : BitVec 32 := v5
  let v40 : Index := Scalar.indexCast v6
  let c0_20 : Index := 0#32
  ![v40.toNat, 0]
def k0_cond6 (i : grid0.Coords) : BitVec 1 :=
  let arg1 : BitVec 32 := BitVec.ofNat 32 (i 1).val
  let c0_i32_18 : BitVec 32 := 0#32
  let v37 : BitVec 1 := Scalar.cmpi .ne arg1 c0_i32_18
  let v38 : BitVec 32 := Scalar.extui v37
  let c0_i32_19 : BitVec 32 := 0#32
  let v39 : BitVec 1 := Scalar.cmpi .ne v38 c0_i32_19
  v39

def k0_off16 (i : grid0.Coords) : Fin 2 → Nat :=
  let arg2 : BitVec 32 := BitVec.ofNat 32 (i 2).val
  let c592_i32 : BitVec 32 := 592#32
  let v5 : BitVec 32 := Scalar.muli arg2 c592_i32
  let v6 : BitVec 32 := v5
  let v40 : Index := Scalar.indexCast v6
  let c0_20 : Index := 0#32
  ![v40.toNat, 0]
def k0_off17 (i : grid0.Coords) : Fin 2 → Nat :=
  let arg2 : BitVec 32 := BitVec.ofNat 32 (i 2).val
  let c592_i32 : BitVec 32 := 592#32
  let v5 : BitVec 32 := Scalar.muli arg2 c592_i32
  let v6 : BitVec 32 := v5
  let v22 : Index := Scalar.indexCast v6
  let c0 : Index := 0#32
  ![v22.toNat, 0]
def k0_cond7 (i : grid0.Coords) (v9 : BitVec 32) : BitVec 1 :=
  let arg1 : BitVec 32 := BitVec.ofNat 32 (i 1).val
  let c1_i32 : BitVec 32 := 1#32
  let v13 : BitVec 1 := Scalar.cmpi .eq arg1 c1_i32
  let arg2 : BitVec 32 := BitVec.ofNat 32 (i 2).val
  let c592_i32_1 : BitVec 32 := 592#32
  let v7 : BitVec 32 := Scalar.muli arg2 c592_i32_1
  let v10 : BitVec 1 := Scalar.cmpi .slt v7 v9
  let v14 : BitVec 1 := Scalar.andi v13 v10
  let v15 : BitVec 32 := Scalar.extui v14
  let c0_i32_3 : BitVec 32 := 0#32
  let v16 : BitVec 1 := Scalar.cmpi .ne v15 c0_i32_3
  v16

def k0_cond8 (i : grid0.Coords) (v9 : BitVec 32) : BitVec 1 :=
  let arg1 : BitVec 32 := BitVec.ofNat 32 (i 1).val
  let c1_i32_4 : BitVec 32 := 1#32
  let v17 : BitVec 1 := Scalar.cmpi .eq arg1 c1_i32_4
  let arg2 : BitVec 32 := BitVec.ofNat 32 (i 2).val
  let c592_i32_1 : BitVec 32 := 592#32
  let v7 : BitVec 32 := Scalar.muli arg2 c592_i32_1
  let v10 : BitVec 1 := Scalar.cmpi .slt v7 v9
  let v_true : BitVec 1 := 1#1
  let v18 : BitVec 1 := Scalar.xori v10 v_true
  let v19 : BitVec 1 := Scalar.andi v17 v18
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

abbrev stage0_0 : Fin 2 → Memref sig .tc .vmem S1x592x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x592x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== FfnRefIdeal.lean ====
abbrev S16x3552x1024 : Shape := ⟨3, ![16, 3552, 1024]⟩
abbrev S16 : Shape := ⟨1, ![16]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x3552x2048 : Shape := ⟨3, ![16, 3552, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x3552x1024, .bf16⟩
  | .hbm, ⟨1, _⟩ => ⟨S16, .i32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x3552x1024, .f32⟩
  | .hbm, ⟨6, _⟩ => ⟨S1x16x1024x2048, .f32⟩
  | .hbm, ⟨7, _⟩ => ⟨S16x1024x2048, .f32⟩
  | .hbm, ⟨8, _⟩ => ⟨S16x3552x2048, .f32⟩
  | .hbm, ⟨9, _⟩ => ⟨S16x3552x2048, .f32⟩
  | .hbm, ⟨10, _⟩ => ⟨S16x3552x2048, .f32⟩
  | .hbm, ⟨11, _⟩ => ⟨S_, .f32⟩
  | .hbm, ⟨12, _⟩ => ⟨S16x3552x2048, .f32⟩
  | .hbm, ⟨13, _⟩ => ⟨S16x3552x2048, .f32⟩
  | .hbm, ⟨14, _⟩ => ⟨S_, .f32⟩
  | .hbm, ⟨15, _⟩ => ⟨S16x3552x2048, .f32⟩
  | .hbm, ⟨16, _⟩ => ⟨S16x3552x2048, .f32⟩
  | .hbm, ⟨17, _⟩ => ⟨S16x3552x2048, .f32⟩
  | .hbm, ⟨18, _⟩ => ⟨S1x16x1024x2048, .f32⟩
  | .hbm, ⟨19, _⟩ => ⟨S16x1024x2048, .f32⟩
  | .hbm, ⟨20, _⟩ => ⟨S16x3552x2048, .f32⟩
  | .hbm, ⟨21, _⟩ => ⟨S16x3552x2048, .f32⟩
  | .hbm, ⟨22, _⟩ => ⟨S1x16x2048x1024, .f32⟩
  | .hbm, ⟨23, _⟩ => ⟨S16x2048x1024, .f32⟩
  | .hbm, ⟨24, _⟩ => ⟨S16x3552x1024, .f32⟩
  | .hbm, ⟨25, _⟩ => ⟨S16x3552x1024, .bf16⟩
  | _, _ => ⟨S16x3552x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Prompt.lean ====
abbrev S24576x1024 : Shape := ⟨2, ![24576, 1024]⟩
abbrev S8x1x6144 : Shape := ⟨3, ![8, 1, 6144]⟩
abbrev S1024 : Shape := ⟨1, ![1024]⟩
abbrev S1x1024 : Shape := ⟨2, ![1, 1024]⟩
abbrev S8192x1024 : Shape := ⟨2, ![8192, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 1 := Scalar.cmpi .slt v0 c8_i32
  let c8_i32_0 : BitVec 32 := 8#32
  let v2 : BitVec 32 := Scalar.subi v0 c8_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PromptRefIdeal.lean ====
abbrev S24576x1024 : Shape := ⟨2, ![24576, 1024]⟩
abbrev S8x1x6144 : Shape := ⟨3, ![8, 1, 6144]⟩
abbrev S1024 : Shape := ⟨1, ![1024]⟩
abbrev S1x1x1024 : Shape := ⟨3, ![1, 1, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S1024, .f32⟩
  | .hbm, ⟨4, _⟩ => ⟨S1x1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Sample.lean ====
abbrev S24576x1024 : Shape := ⟨2, ![24576, 1024]⟩
abbrev S8x1x6144 : Shape := ⟨3, ![8, 1, 6144]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c8_i32_0 : BitVec 32 := 8#32
  let v1 : BitVec 1 := Scalar.cmpi .slt v0 c8_i32_0
  let c8_i32_1 : BitVec 32 := 8#32
  let v2 : BitVec 32 := Scalar.subi v0 c8_i32_1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SampleRefIdeal.lean ====
abbrev S24576x1024 : Shape := ⟨2, ![24576, 1024]⟩
abbrev S8x1x6144 : Shape := ⟨3, ![8, 1, 6144]⟩
abbrev S1024 : Shape := ⟨1, ![1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S1024, .f32⟩
  | .hbm, ⟨4, _⟩ => ⟨S4x1x1024, .f32⟩
  | .hbm, ⟨5, _⟩ => ⟨S4x4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ada.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== First.lean ====
abbrev S24576x1024 : Shape := ⟨2, ![24576, 1024]⟩
abbrev S8x1x6144 : Shape := ⟨3, ![8, 1, 6144]⟩
abbrev S1024 : Shape := ⟨1, ![1024]⟩
abbrev S1x1024 : Shape := ⟨2, ![1, 1024]⟩
abbrev S1024x1024 : Shape := ⟨2, ![1024, 1024]⟩
abbrev S1x1x2048 : Shape := ⟨3, ![1, 1, 2048]⟩
abbrev S1024x1 : Shape := ⟨2, ![1024, 1]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24576x1024, .f32⟩
  | .hbm, ⟨1, _⟩ => ⟨S8x1x6144, .f32⟩
  | .hbm, ⟨2, _⟩ => ⟨S1024, .f32⟩
  | .hbm, ⟨3, _⟩ => ⟨S1x1024, .f32⟩
  | .hbm, ⟨4, _⟩ => ⟨S24576x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 1 := Scalar.cmpi .slt v0 c8_i32
  let c8_i32_0 : BitVec 32 := 8#32
  let v2 : BitVec 32 := Scalar.subi v0 c8_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FirstRefIdeal.lean ====
abbrev S24576x1024 : Shape := ⟨2, ![24576, 1024]⟩
abbrev S8x1x6144 : Shape := ⟨3, ![8, 1, 6144]⟩
abbrev S1024 : Shape := ⟨1, ![1024]⟩
abbrev S1x1x6144 : Shape := ⟨3, ![1, 1, 6144]⟩
abbrev S1x6144 : Shape := ⟨2, ![1, 6144]⟩
abbrev S8192x6144 : Shape := ⟨2, ![8192, 6144]⟩
abbrev S4x1x6144 : Shape := ⟨3, ![4, 1, 6144]⟩
abbrev S4x4096x6144 : Shape := ⟨3, ![4, 4096, 6144]⟩
abbrev S16384x6144 : Shape := ⟨2, ![16384, 6144]⟩
abbrev S24576x6144 : Shape := ⟨2, ![24576, 6144]⟩
abbrev S_ : Shape := ⟨0, ![]⟩
abbrev S24576 : Shape := ⟨1, ![24576]⟩
abbrev S24576x1 : Shape := ⟨2, ![24576, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S8x1x6144, .f32⟩
  | .hbm, ⟨2, _⟩ => ⟨S1024, .f32⟩
  | .hbm, ⟨3, _⟩ => ⟨S1x1x6144, .f32⟩
  | .hbm, ⟨4, _⟩ => ⟨S1x6144, .f32⟩
  | .hbm, ⟨5, _⟩ => ⟨S8192x6144, .f32⟩
  | .hbm, ⟨6, _⟩ => ⟨S4x1x6144, .f32⟩
  | .hbm, ⟨7, _⟩ => ⟨S4x4096x6144, .f32⟩
  | .hbm, ⟨8, _⟩ => ⟨S16384x6144, .f32⟩
  | .hbm, ⟨9, _⟩ => ⟨S24576x6144, .f32⟩
  | .hbm, ⟨10, _⟩ => ⟨S24576x1024, .f32⟩
  | .hbm, ⟨11, _⟩ => ⟨S24576x1024, .f32⟩
  | .hbm, ⟨12, _⟩ => ⟨S24576x1024, .f32⟩
  | .hbm, ⟨13, _⟩ => ⟨S_, .f32⟩
  | .hbm, ⟨14, _⟩ => ⟨S24576, .f32⟩
  | .hbm, ⟨15, _⟩ => ⟨S24576x1, .f32⟩
  | .hbm, ⟨16, _⟩ => ⟨S_, .f32⟩
  | .hbm, ⟨17, _⟩ => ⟨S24576x1, .f32⟩
  | .hbm, ⟨18, _⟩ => ⟨S24576x1, .f32⟩
  | .hbm, ⟨19, _⟩ => ⟨S_, .f32⟩
  | .hbm, ⟨20, _⟩ => ⟨S24576x1, .f32⟩
  | .hbm, ⟨21, _⟩ => ⟨S24576x1, .f32⟩
  | .hbm, ⟨22, _⟩ => ⟨S24576x1, .f32⟩
  | .hbm, ⟨23, _⟩ => ⟨S24576x1024, .f32⟩
  | .hbm, ⟨24, _⟩ => ⟨S24576x1024, .f32⟩
  | .hbm, ⟨25, _⟩ => ⟨S1x1024, .f32⟩
  | .hbm, ⟨26, _⟩ => ⟨S24576x1024, .f32⟩
  | .hbm, ⟨27, _⟩ => ⟨S24576x1024, .f32⟩
  | .hbm, ⟨28, _⟩ => ⟨S_, .f32⟩
  | .hbm, ⟨29, _⟩ => ⟨S24576x1024, .f32⟩
  | .hbm, ⟨30, _⟩ => ⟨S24576x1024, .f32⟩
  | .hbm, ⟨31, _⟩ => ⟨S24576x1024, .f32⟩
  | .hbm, ⟨32, _⟩ => ⟨S24576x1024, .f32⟩
  | .hbm, ⟨33, _⟩ => ⟨S24576x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Between.lean ====
abbrev S24576x1024 : Shape := ⟨2, ![24576, 1024]⟩
abbrev S8x1x6144 : Shape := ⟨3, ![8, 1, 6144]⟩
abbrev S1024 : Shape := ⟨1, ![1024]⟩
abbrev S1x1024 : Shape := ⟨2, ![1, 1024]⟩
abbrev S1024x1024 : Shape := ⟨2, ![1024, 1024]⟩
abbrev S1x1x1024 : Shape := ⟨3, ![1, 1, 1024]⟩
abbrev S1x1x2048 : Shape := ⟨3, ![1, 1, 2048]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S8x1x6144, .f32⟩
  | .hbm, ⟨4, _⟩ => ⟨S1024, .f32⟩
  | .hbm, ⟨5, _⟩ => ⟨S1x1024, .f32⟩
  | .hbm, ⟨6, _⟩ => ⟨S24576x1024, .f32⟩
  | .hbm, ⟨7, _⟩ => ⟨S24576x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x2048, .f32⟩
  | .local _ .vmem, ⟨7, _⟩ => ⟨S1x1x2048, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 1 := Scalar.cmpi .slt v0 c8_i32
  let c8_i32_0 : BitVec 32 := 8#32
  let v2 : BitVec 32 := Scalar.subi v0 c8_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 1 := Scalar.cmpi .slt v0 c8_i32
  let c8_i32_0 : BitVec 32 := 8#32
  let v2 : BitVec 32 := Scalar.subi v0 c8_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BetweenRefIdeal.lean ====
abbrev S24576x1024 : Shape := ⟨2, ![24576, 1024]⟩
abbrev S8x1x6144 : Shape := ⟨3, ![8, 1, 6144]⟩
abbrev S1024 : Shape := ⟨1, ![1024]⟩
abbrev S1x1x6144 : Shape := ⟨3, ![1, 1, 6144]⟩
abbrev S1x6144 : Shape := ⟨2, ![1, 6144]⟩
abbrev S8192x6144 : Shape := ⟨2, ![8192, 6144]⟩
abbrev S4x1x6144 : Shape := ⟨3, ![4, 1, 6144]⟩
abbrev S4x4096x6144 : Shape := ⟨3, ![4, 4096, 6144]⟩
abbrev S16384x6144 : Shape := ⟨2, ![16384, 6144]⟩
abbrev S24576x6144 : Shape := ⟨2, ![24576, 6144]⟩
abbrev S_ : Shape := ⟨0, ![]⟩
abbrev S24576 : Shape := ⟨1, ![24576]⟩
abbrev S24576x1 : Shape := ⟨2, ![24576, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S8x1x6144, .f32⟩
  | .hbm, ⟨3, _⟩ => ⟨S8x1x6144, .f32⟩
  | .hbm, ⟨4, _⟩ => ⟨S1024, .f32⟩
  | .hbm, ⟨5, _⟩ => ⟨S1x1x6144, .f32⟩
  | .hbm, ⟨6, _⟩ => ⟨S1x6144, .f32⟩
  | .hbm, ⟨7, _⟩ => ⟨S8192x6144, .f32⟩
  | .hbm, ⟨8, _⟩ => ⟨S4x1x6144, .f32⟩
  | .hbm, ⟨9, _⟩ => ⟨S4x4096x6144, .f32⟩
  | .hbm, ⟨10, _⟩ => ⟨S16384x6144, .f32⟩
  | .hbm, ⟨11, _⟩ => ⟨S24576x6144, .f32⟩
  | .hbm, ⟨12, _⟩ => ⟨S24576x1024, .f32⟩
  | .hbm, ⟨13, _⟩ => ⟨S24576x1024, .f32⟩
  | .hbm, ⟨14, _⟩ => ⟨S24576x1024, .f32⟩
  | .hbm, ⟨15, _⟩ => ⟨S1x1x6144, .f32⟩
  | .hbm, ⟨16, _⟩ => ⟨S1x6144, .f32⟩
  | .hbm, ⟨17, _⟩ => ⟨S8192x6144, .f32⟩
  | .hbm, ⟨18, _⟩ => ⟨S4x1x6144, .f32⟩
  | .hbm, ⟨19, _⟩ => ⟨S4x4096x6144, .f32⟩
  | .hbm, ⟨20, _⟩ => ⟨S16384x6144, .f32⟩
  | .hbm, ⟨21, _⟩ => ⟨S24576x6144, .f32⟩
  | .hbm, ⟨22, _⟩ => ⟨S24576x1024, .f32⟩
  | .hbm, ⟨23, _⟩ => ⟨S24576x1024, .f32⟩
  | .hbm, ⟨24, _⟩ => ⟨S24576x1024, .f32⟩
  | .hbm, ⟨25, _⟩ => ⟨S_, .f32⟩
  | .hbm, ⟨26, _⟩ => ⟨S24576, .f32⟩
  | .hbm, ⟨27, _⟩ => ⟨S24576x1, .f32⟩
  | .hbm, ⟨28, _⟩ => ⟨S_, .f32⟩
  | .hbm, ⟨29, _⟩ => ⟨S24576x1, .f32⟩
  | .hbm, ⟨30, _⟩ => ⟨S24576x1, .f32⟩
  | .hbm, ⟨31, _⟩ => ⟨S_, .f32⟩
  | .hbm, ⟨32, _⟩ => ⟨S24576x1, .f32⟩
  | .hbm, ⟨33, _⟩ => ⟨S24576x1, .f32⟩
  | .hbm, ⟨34, _⟩ => ⟨S24576x1, .f32⟩
  | .hbm, ⟨35, _⟩ => ⟨S24576x1024, .f32⟩
  | .hbm, ⟨36, _⟩ => ⟨S24576x1024, .f32⟩
  | .hbm, ⟨37, _⟩ => ⟨S1x1024, .f32⟩
  | .hbm, ⟨38, _⟩ => ⟨S24576x1024, .f32⟩
  | .hbm, ⟨39, _⟩ => ⟨S24576x1024, .f32⟩
  | .hbm, ⟨40, _⟩ => ⟨S_, .f32⟩
  | .hbm, ⟨41, _⟩ => ⟨S24576x1024, .f32⟩
  | .hbm, ⟨42, _⟩ => ⟨S24576x1024, .f32⟩
  | .hbm, ⟨43, _⟩ => ⟨S24576x1024, .f32⟩
  | .hbm, ⟨44, _⟩ => ⟨S24576x1024, .f32⟩
  | .hbm, ⟨45, _⟩ => ⟨S24576x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.RetMath.lean ====
/- The retention recurrence of one head, chunk by chunk, over the extended reals: what a chunk adds to its output and to
   the head's state, and how a chunk read from its last row to its first is the same recurrence with the powers of the
   decay reversed. -/
module

public import Idealize.ShloMosaic.Lib.Pointwise
public import Idealize.ShloMosaic.Lib.IdealHost

@[expose] public section

set_option maxRecDepth 16384

noncomputable section

namespace Cert.Retention

open Idealize.ShloMosaic

/-- A 128-row chunk of `n` features. -/
abbrev Chunk (n : ℕ) := Fin 128 → Fin n → EReal

/-- The factor on the keys, `128 ** -0.5` as the programs round it. -/
def scale : EReal := Ideal.ofBits FTy.f32 1035273459#32

/-- A row number as the programs' float. -/
def pos (i : Fin 128) : EReal := (((i : ℕ) : ℝ) : EReal)

/-- The decay over the distance `δ`: `exp (lg * δ)` where `δ` is not negative, 0 elsewhere. -/
def decay (lg δ : EReal) : EReal := if 0 ≤ δ then Ideal.exp (lg * max δ 0) else 0

/-- The output of a chunk at row `i`, feature `e`: the decayed scores against the chunk's own values, plus the query
    against the state `s` from before the chunk. -/
def chunkOut (lg : EReal) (q k : Chunk 128) (v s : Chunk 256) (i : Fin 128) (e : Fin 256) : EReal :=
  (∑ j, ((∑ d, q i d * (k j d * scale)) * decay lg (pos i - pos j)) * v j e)
    + ∑ d, (q i d * Ideal.exp (lg * (pos i + 1))) * s d e

/-- The state after a chunk. -/
def chunkState (lg : EReal) (k : Chunk 128) (v s : Chunk 256) : Chunk 256 := fun d e =>
  s d e * Ideal.exp (lg * ((128 : ℝ) : EReal))
    + ∑ j, ((k j d * scale) * Ideal.exp (lg * (((127 : ℝ) : EReal) - pos j))) * v j e

/-- A chunk read from its last row to its first. -/
def flip {n : ℕ} (a : Chunk n) : Chunk n := fun i d => a i.rev d

/-- The zero state. -/
def zeros : Chunk 256 := fun _ _ => 0

/-! A sequence of two chunks, from the zero state. -/

/-- The state after the first chunk. -/
def state1 (lg : EReal) (k : Fin 2 → Chunk 128) (v : Fin 2 → Chunk 256) : Chunk 256 :=
  chunkState lg (k 0) (v 0) zeros

/-- The state after both chunks. -/
def state2 (lg : EReal) (k : Fin 2 → Chunk 128) (v : Fin 2 → Chunk 256) : Chunk 256 :=
  chunkState lg (k 1) (v 1) (state1 lg k v)

/-- The output of chunk `r`. -/
def seqOut (lg : EReal) (q k : Fin 2 → Chunk 128) (v : Fin 2 → Chunk 256) (r : Fin 2) : Chunk 256 :=
  chunkOut lg (q r) (k r) (v r) (if r = 0 then zeros else state1 lg k v)

/-- The sequence read backward: the chunks in the other order, each from its last row. -/
def back {n : ℕ} (a : Fin 2 → Chunk n) : Fin 2 → Chunk n := fun r => flip (a r.rev)

/-! The queries, keys and values of batch row `b` and head `h` in the input projection, whose rows are `256 b + t` for the
time `t` and whose columns hold the queries, the keys and the values of all heads side by side. -/

/-- The projection, by row and column. -/
abbrev Proj := Fin 24576 → Fin 8192 → EReal

/-- The queries' two chunks. -/
def qSeq (p : Proj) (b : Fin 32) (h : Fin 4) : Fin 2 → Chunk 128 := fun r i d =>
  p ⟨256 * b + (128 * r + i), by omega⟩ ⟨128 * h + d, by omega⟩

/-- The keys' two chunks, before the scale. -/
def kSeq (p : Proj) (b : Fin 32) (h : Fin 4) : Fin 2 → Chunk 128 := fun r i d =>
  p ⟨256 * b + (128 * r + i), by omega⟩ ⟨512 + (128 * h + d), by omega⟩

/-- The values' two chunks. -/
def vSeq (p : Proj) (b : Fin 32) (h : Fin 4) : Fin 2 → Chunk 256 := fun r i e =>
  p ⟨256 * b + (128 * r + i), by omega⟩ ⟨1024 + (256 * h + e), by omega⟩

/-- The forward direction's output of batch row `b`, head `h`, for the head's logarithm `lg`. -/
def fwdOut (lg : EReal) (p : Proj) (b : Fin 32) (h : Fin 4) : Fin 2 → Chunk 256 :=
  seqOut lg (qSeq p b h) (kSeq p b h) (vSeq p b h)

/-- The backward direction's output, at the row of the sequence itself. -/
def bwdOut (lg : EReal) (p : Proj) (b : Fin 32) (h : Fin 4) : Fin 2 → Chunk 256 :=
  back (seqOut lg (back (qSeq p b h)) (back (kSeq p b h)) (back (vSeq p b h)))

/-- The state each direction ends with. -/
def lastState (lg : EReal) (p : Proj) (b : Fin 32) (r : Fin 2) (h : Fin 4) : Chunk 256 :=
  if (r : ℕ) = 0 then state2 lg (kSeq p b h) (vSeq p b h) else state2 lg (back (kSeq p b h)) (back (vSeq p b h))

/-- The two directions' outputs laid out by row `256 b + t` and column `256 h + e`. -/
def byRow (f : Fin 32 → Fin 4 → Fin 2 → Chunk 256) (row : Fin 8192) (col : Fin 1024) : EReal :=
  f ⟨row / 256, by omega⟩ ⟨col / 256, by omega⟩ ⟨row % 256 / 128, by omega⟩ ⟨row % 128, by omega⟩ ⟨col % 256, by omega⟩

/-- `byRow` at a row and a column given by their parts. -/
theorem byRow_eq (f : Fin 32 → Fin 4 → Fin 2 → Chunk 256) (row : Fin 8192) (col : Fin 1024) (b : Fin 32) (r : Fin 2) (i : Fin 128)
    (h : Fin 4) (e : Fin 256) (h0 : (row : ℕ) = 256 * b + (128 * r + i)) (h1 : (col : ℕ) = 256 * h + e) :
    byRow f row col = f b h r i e := by
  have eb : (⟨row / 256, by omega⟩ : Fin 32) = b := Fin.ext (by simp only; omega)
  have eh : (⟨col / 256, by omega⟩ : Fin 4) = h := Fin.ext (by simp only; omega)
  have er : (⟨row % 256 / 128, by omega⟩ : Fin 2) = r := Fin.ext (by simp only; omega)
  have ei : (⟨row % 128, by omega⟩ : Fin 128) = i := Fin.ext (by simp only; omega)
  have ee : (⟨col % 256, by omega⟩ : Fin 256) = e := Fin.ext (by simp only; omega)
  unfold byRow
  rw [eb, eh, er, ei, ee]

/-! Constants and casts of the two programs as numbers. -/

theorem ofBits_128 : Ideal.ofBits FTy.f32 1124073472#32 = ((128 : ℝ) : EReal) := by
  simp [Ideal.ofBits, Ideal.ieee, -EReal.coe_mul]; norm_num

theorem ofBits_127 : Ideal.ofBits FTy.f32 1123942400#32 = ((127 : ℝ) : EReal) := by
  simp [Ideal.ofBits, Ideal.ieee, -EReal.coe_mul]; norm_num

/-- A row number as a word, read signed. -/
theorem toInt_row (i : Fin 128) : (BitVec.ofNat 32 (i : ℕ)).toInt = (i : ℤ) := by
  have hi := i.isLt
  rw [BitVec.toInt_ofNat', Int.bmod_def]
  omega

/-- A row number, converted. -/
theorem sitofp_row (i : Fin 128) :
    FloatOps.sitofp (F := Ideal) FTy.f32 (BitVec.ofNat 32 (i : ℕ)) = pos i := by
  show (((BitVec.ofNat 32 (i : ℕ)).toInt : ℝ) : EReal) = _
  rw [toInt_row]
  simp [pos]

/-- The difference of two row numbers, taken on the words and converted, is the difference of the converted ones. -/
theorem sitofp_sub (i j : Fin 128) :
    FloatOps.sitofp (F := Ideal) FTy.f32 (IntOp.subi (BitVec.ofNat 32 (i : ℕ)) (BitVec.ofNat 32 (j : ℕ))) = pos i - pos j := by
  show (((BitVec.ofNat 32 (i : ℕ) - BitVec.ofNat 32 (j : ℕ)).toInt : ℝ) : EReal) = _
  have h : (BitVec.ofNat 32 (i : ℕ) - BitVec.ofNat 32 (j : ℕ)).toInt = (i : ℤ) - (j : ℤ) := by
    rw [BitVec.toInt_sub, toInt_row, toInt_row]
    have hi := i.isLt
    have hj := j.isLt
    rw [Int.bmod_def]
    omega
  rw [h]
  unfold pos
  rw [← EReal.coe_sub]
  simp

theorem pos_rev (i : Fin 128) : pos i.rev = ((127 : ℝ) : EReal) - pos i := by
  unfold pos
  rw [← EReal.coe_sub, EReal.coe_eq_coe_iff, Fin.val_rev, Nat.cast_sub (by omega)]
  push_cast
  ring

theorem pos_rev_sub (i j : Fin 128) : pos i.rev - pos j.rev = pos j - pos i := by
  simp only [pos_rev]
  unfold pos
  simp only [← EReal.coe_sub, EReal.coe_eq_coe_iff]
  ring

theorem pos_rev_add_one (i : Fin 128) : pos i.rev + 1 = ((128 : ℝ) : EReal) - pos i := by
  rw [pos_rev]
  unfold pos
  rw [← EReal.coe_one, ← EReal.coe_sub, ← EReal.coe_add, ← EReal.coe_sub, EReal.coe_eq_coe_iff]
  ring

theorem sub_pos_rev (i : Fin 128) : ((127 : ℝ) : EReal) - pos i.rev = pos i := by
  rw [pos_rev]
  unfold pos
  simp only [← EReal.coe_sub, EReal.coe_eq_coe_iff]
  ring

/-- The output of the flipped chunk at the flipped row: the distances change sign, and the query's power counts from
    the chunk's end. -/
theorem chunkOut_flip (lg : EReal) (q k : Chunk 128) (v s : Chunk 256) (i : Fin 128) (e : Fin 256) :
    chunkOut lg (flip q) (flip k) (flip v) s i.rev e
      = (∑ j, ((∑ d, q i d * (k j d * scale)) * decay lg (pos j - pos i)) * v j e)
        + ∑ d, (q i d * Ideal.exp (lg * (((128 : ℝ) : EReal) - pos i))) * s d e := by
  unfold chunkOut flip
  rw [← Equiv.sum_comp Fin.revPerm]
  simp only [Fin.revPerm_apply, Fin.rev_rev, pos_rev_sub, pos_rev_add_one]

/-- The state after the flipped chunk: the keys' power is the row number. -/
theorem chunkState_flip (lg : EReal) (k : Chunk 128) (v s : Chunk 256) (d : Fin 128) (e : Fin 256) :
    chunkState lg (flip k) (flip v) s d e
      = s d e * Ideal.exp (lg * ((128 : ℝ) : EReal)) + ∑ j, ((k j d * scale) * Ideal.exp (lg * pos j)) * v j e := by
  unfold chunkState flip
  rw [← Equiv.sum_comp Fin.revPerm]
  simp only [Fin.revPerm_apply, Fin.rev_rev, sub_pos_rev]

end Cert.Retention

end
-- ==== Proof.RetBlock.lean ====
/- What one grid point of the retention kernel stores: for each head and direction the two chunks' outputs and the head's
   last state, as the recurrence over the point's blocks. -/
module

public import proofs.«01_k».proof.Proof.Gen.KernelIdeal.Value
public import proofs.«01_k».proof.Proof.RetMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.Retention

variable (m : (ℓ : Loc nD τ sig) → Buf (Elt Ideal) ℓ)

/-- Head `h`'s two chunks of a block of queries or keys. -/
def chunks (A : FVec Ideal S256x512 .f32) (h : Fin 4) : Fin 2 → Chunk 128 := fun r i d =>
  A (ix2 ⟨128 * r + i, by omega⟩ ⟨128 * h + d, by omega⟩)

/-- Head `h`'s two chunks of a block of values. -/
def vChunks (A : FVec Ideal S256x1024 .f32) (h : Fin 4) : Fin 2 → Chunk 256 := fun r i e =>
  A (ix2 ⟨128 * r + i, by omega⟩ ⟨256 * h + e, by omega⟩)

/-- Later stores that cover an index decide what is read there, whatever was stored before them. -/
theorem canon_append_left {Val : EltTy → Type} [∀ e, Nonempty (Val e)] {S : Shape} {e : EltTy} (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_append_left L' L y ⟨q, hq', hyq⟩

/-- The forward output of a point, at row `i` of chunk `r` and feature `e` of head `h`. -/
theorem point7 (c : Dev nD) (t : Fin cfg0.N) (y : S256x1024.Idx) (r : Fin 2) (h : Fin 4) (i : Fin 128) (e : Fin 256)
    (hy0 : (y 0 : ℕ) = 128 * r + i) (hy1 : (y 1 : ℕ) = 256 * h + e) :
    (outsAt0 m c t).1 y = seqOut ((show FVec Ideal S2x4 .f32 from iblk m c 0 t) (ix2 0 h))
      (chunks (iblk m c 1 t) h) (chunks (iblk m c 2 t) h) (vChunks (iblk m c 3 t) h) r i e := by
  unfold outsAt0
  dsimp only
  frame_open
  simp (disch := decide) only [↓ View.readCov_skip, ↓ View.readCov_cons_toLoadRect, ↓ View.readCov_fill]
  frame_out
  canon_tiles x g
  all_goals
    first | (have hr : r = 0 := by omega); subst hr
          | (have hr : r = 1 := by omega); subst hr
    first | (have hh : h = 0 := by omega); subst hh
          | (have hh : h = 1 := by omega); subst hh
          | (have hh : h = 2 := by omega); subst hh
          | (have hh : h = 3 := by omega); subst hh
    obtain rfl : i = x 0 := Fin.ext (by simp at *; omega)
    obtain rfl : e = x 1 := Fin.ext (by simp at *; omega)
    open_payloads
    idx_vars x
    pointwise
    simp only [sitofp_sub, sitofp_row, ofBits_127, ofBits_128]
    simp only [seqOut, state1, chunkOut, chunkState, chunks, vChunks, zeros, decay, scale, one_ne_zero, if_false, if_true]
    blk_point []

/-- The backward output of a point: the recurrence over the sequence read backward, at the row counted from the end. -/
theorem point8 (c : Dev nD) (t : Fin cfg0.N) (y : S256x1024.Idx) (r : Fin 2) (h : Fin 4) (i : Fin 128) (e : Fin 256)
    (hy0 : (y 0 : ℕ) = 128 * r + i) (hy1 : (y 1 : ℕ) = 256 * h + e) :
    (outsAt0 m c t).2.1 y = seqOut ((show FVec Ideal S2x4 .f32 from iblk m c 0 t) (ix2 1 h))
      (back (chunks (iblk m c 4 t) h)) (back (chunks (iblk m c 5 t) h)) (back (vChunks (iblk m c 6 t) h)) r.rev i.rev e := by
  unfold outsAt0
  dsimp only
  frame_open
  simp (disch := decide) only [↓ View.readCov_skip, ↓ View.readCov_cons_toLoadRect, ↓ View.readCov_fill]
  frame_out
  canon_tiles x g
  all_goals
    first | (have hr : r = 0 := by omega); subst hr
          | (have hr : r = 1 := by omega); subst hr
    first | (have hh : h = 0 := by omega); subst hh
          | (have hh : h = 1 := by omega); subst hh
          | (have hh : h = 2 := by omega); subst hh
          | (have hh : h = 3 := by omega); subst hh
    obtain rfl : i = x 0 := Fin.ext (by simp at *; omega)
    obtain rfl : e = x 1 := Fin.ext (by simp at *; omega)
    open_payloads
    idx_vars x
    pointwise
    simp only [sitofp_sub, sitofp_row, ofBits_127, ofBits_128]
    simp only [seqOut, back, state1, chunkOut_flip, chunkState_flip, Fin.rev_rev, Fin.reduceRev, chunks, vChunks, zeros, decay, scale, one_ne_zero, if_false, if_true]
    blk_point []

/-- The states a point leaves. -/
theorem point9 (c : Dev nD) (t : Fin cfg0.N) (y : S1x2x4x128x256.Idx) (h : Fin 4) (d : Fin 128) (e : Fin 256)
    (hy2 : (y 2 : ℕ) = h) (hy3 : (y 3 : ℕ) = d) (hy4 : (y 4 : ℕ) = e) :
    (outsAt0 m c t).2.2 y =
      if (y 1 : ℕ) = 0 then state2 ((show FVec Ideal S2x4 .f32 from iblk m c 0 t) (ix2 0 h))
        (chunks (iblk m c 2 t) h) (vChunks (iblk m c 3 t) h) d e
      else state2 ((show FVec Ideal S2x4 .f32 from iblk m c 0 t) (ix2 1 h))
        (back (chunks (iblk m c 5 t) h)) (back (vChunks (iblk m c 6 t) h)) d e := by
  unfold outsAt0
  dsimp only
  frame_open
  simp (disch := decide) only [↓ View.readCov_skip, ↓ View.readCov_cons_toLoadRect, ↓ View.readCov_fill]
  frame_out
  rw [View.readCov_eq_canon']
  idx_vars y
  pointwise [k0_pay2]
  refine (canon_append_left [_] [_, _, _, _, _, _, _, _] _ (View.cover_of_tiled_head _ _ _ (by rfl) _)).trans ?_
  obtain rfl : y2 = h := Fin.ext hy2
  obtain rfl : y3 = d := Fin.ext hy3
  obtain rfl : y4 = e := Fin.ext hy4
  canon_tiles x g
  all_goals
    simp only [ix4_0, ix4_1, ix4_2, ix4_3] at g0 g1 g2 g3
    first | (have hr : y1 = 0 := by omega); subst hr
          | (have hr : y1 = 1 := by omega); subst hr
    first | (have hh : y2 = 0 := by omega); subst hh
          | (have hh : y2 = 1 := by omega); subst hh
          | (have hh : y2 = 2 := by omega); subst hh
          | (have hh : y2 = 3 := by omega); subst hh
    obtain rfl : y3 = x 2 := Fin.ext (by simp at *; omega)
    obtain rfl : y4 = x 3 := Fin.ext (by simp at *; omega)
    open_payloads
    idx_vars x
    pointwise
    simp only [sitofp_sub, sitofp_row, ofBits_127, ofBits_128]
    simp only [state2, back, state1, chunkState_flip]
    simp only [chunkState, Fin.reduceRev, chunks, vChunks, zeros, decay, scale, one_ne_zero, if_false, if_true]
    blk_point []

end Cert.KernelIdeal.Hand

end
-- ==== Proof.RetArray.lean ====
/- What the retention kernel's three result arrays hold when the grid is done, as functions of the arguments. -/
module

public import proofs.«01_k».proof.Proof.RetBlock

@[expose] public section

set_option maxRecDepth 16384

noncomputable section

namespace Cert.KernelIdeal.Hand

open Cert.KernelIdeal Cert.KernelIdeal.Gen Idealize.ShloMosaic Idealize.ShloMosaic.TcCoe Idealize.SL.Sem
open Cert.Retention

variable (m : (ℓ : Loc nD τ sig) → Buf (Elt Ideal) ℓ)

/-- The projection by row and column. -/
def proj (c : Dev nD) : Proj := fun r k => (show FVec Ideal S24576x8192 .f32 from m ((c : Thread nD τ).loc main_arg0)) (ix2 r k)

/-- The logarithm of the decay of direction `r`, head `h`, as the host prepares it. -/
def lgK (c : Dev nD) (r : Fin 2) (h : Fin 4) : EReal := (show FVec Ideal S2x4 .f32 from V m c main_v0) (ix2 r h)

/-- Each window's block at a point: the point's batch row, the columns of the queries, the keys or the values. -/
theorem idx : ∀ t : Fin cfg0.N, win0_0.index t = ![0, 0] ∧ win0_1.index t = ![t.val, 0] ∧ win0_2.index t = ![t.val, 1]
    ∧ win0_3.index t = ![t.val, 1] ∧ win0_4.index t = ![t.val, 0] ∧ win0_5.index t = ![t.val, 1] ∧ win0_6.index t = ![t.val, 1]
    ∧ win0_7.index t = ![t.val, 0] ∧ win0_8.index t = ![t.val, 0] ∧ win0_9.index t = ![t.val, 0, 0, 0, 0] :=
  (by decide +kernel : ∀ t : Fin grid0.N, _)

/-- A point's batch row. -/
def row (t : Fin cfg0.N) : Fin 32 := ⟨t.val, t.isLt⟩

theorem blk0 (c : Dev nD) (t : Fin cfg0.N) (r : Fin 2) (h : Fin 4) :
    (show FVec Ideal S2x4 .f32 from iblk m c 0 t) (ix2 r h) = lgK m c r h := by
  unfold lgK
  obtain ⟨i0, i1, i2, i3, i4, i5, i6, i7, i8, i9⟩ := idx t
  show V m c main_v0 _ = V m c main_v0 (ix2 r h)
  generalize V m c main_v0 = X
  blk_ext [i0]

/-! The point's heads are the batch row's. -/

theorem seq1 (c : Dev nD) (t : Fin cfg0.N) (h : Fin 4) : chunks (iblk m c 1 t) h = qSeq (proj m c) (row t) h := by
  obtain ⟨i0, i1, i2, i3, i4, i5, i6, i7, i8, i9⟩ := idx t
  funext r i d
  unfold chunks qSeq proj row
  blk_ext [iblk, V_main_arg0, i1]

theorem seq2 (c : Dev nD) (t : Fin cfg0.N) (h : Fin 4) : chunks (iblk m c 2 t) h = kSeq (proj m c) (row t) h := by
  obtain ⟨i0, i1, i2, i3, i4, i5, i6, i7, i8, i9⟩ := idx t
  funext r i d
  unfold chunks kSeq proj row
  blk_ext [iblk, V_main_arg0, i2]

theorem seq3 (c : Dev nD) (t : Fin cfg0.N) (h : Fin 4) : vChunks (iblk m c 3 t) h = vSeq (proj m c) (row t) h := by
  obtain ⟨i0, i1, i2, i3, i4, i5, i6, i7, i8, i9⟩ := idx t
  funext r i d
  unfold vChunks vSeq proj row
  blk_ext [iblk, V_main_arg0, i3]

theorem seq4 (c : Dev nD) (t : Fin cfg0.N) (h : Fin 4) : chunks (iblk m c 4 t) h = qSeq (proj m c) (row t) h := by
  obtain ⟨i0, i1, i2, i3, i4, i5, i6, i7, i8, i9⟩ := idx t
  funext r i d
  unfold chunks qSeq proj row
  blk_ext [iblk, V_main_arg0, i4]

theorem seq5 (c : Dev nD) (t : Fin cfg0.N) (h : Fin 4) : chunks (iblk m c 5 t) h = kSeq (proj m c) (row t) h := by
  obtain ⟨i0, i1, i2, i3, i4, i5, i6, i7, i8, i9⟩ := idx t
  funext r i d
  unfold chunks kSeq proj row
  blk_ext [iblk, V_main_arg0, i5]

theorem seq6 (c : Dev nD) (t : Fin cfg0.N) (h : Fin 4) : vChunks (iblk m c 6 t) h = vSeq (proj m c) (row t) h := by
  obtain ⟨i0, i1, i2, i3, i4, i5, i6, i7, i8, i9⟩ := idx t
  funext r i d
  unfold vChunks vSeq proj row
  blk_ext [iblk, V_main_arg0, i6]

/-- THE FORWARD OUTPUT ARRAY. -/
theorem final7 (c : Dev nD) : (dats m 0 c).arrAt 7 cfg0.N
    = fun j => byRow (fun b h => fwdOut (lgK m c 0 h) (proj m c) b h) (j 0) (j 1) := by
  refine (dats m 0 c).arrAt_eq_of_covers 7 _ (by decide +kernel) fun t hf y => ?_
  obtain ⟨i0, i1, i2, i3, i4, i5, i6, i7, i8, i9⟩ := idx t
  have hy0 : (y 0 : ℕ) < 256 := (y 0).isLt
  have hy1 : (y 1 : ℕ) < 1024 := (y 1).isLt
  blk_simp
  rw [after0_7]
  refine (point7 m c t _ ⟨(y 0 : ℕ) / 128, by omega⟩ ⟨(y 1 : ℕ) / 256, by omega⟩ ⟨(y 0 : ℕ) % 128, by omega⟩
    ⟨(y 1 : ℕ) % 256, by omega⟩ ?_ ?_).trans ?_
  · simp; omega
  · simp; omega
  · rw [blk0, seq1, seq2, seq3]
    refine (byRow_eq (fun b h => fwdOut (lgK m c 0 h) (proj m c) b h) _ _ (row t) ⟨(y 0 : ℕ) / 128, by omega⟩
      ⟨(y 0 : ℕ) % 128, by omega⟩ ⟨(y 1 : ℕ) / 256, by omega⟩ ⟨(y 1 : ℕ) % 256, by omega⟩ ?_ ?_).symm
    · unfold row
      blk_simp [i7]
      dsimp only
      omega
    · blk_simp [i7]
      dsimp only
      omega

/-- THE BACKWARD OUTPUT ARRAY. -/
theorem final8 (c : Dev nD) : (dats m 0 c).arrAt 8 cfg0.N
    = fun j => byRow (fun b h => bwdOut (lgK m c 1 h) (proj m c) b h) (j 0) (j 1) := by
  refine (dats m 0 c).arrAt_eq_of_covers 8 _ (by decide +kernel) fun t hf y => ?_
  obtain ⟨i0, i1, i2, i3, i4, i5, i6, i7, i8, i9⟩ := idx t
  have hy0 : (y 0 : ℕ) < 256 := (y 0).isLt
  have hy1 : (y 1 : ℕ) < 1024 := (y 1).isLt
  blk_simp
  rw [after0_8]
  refine (point8 m c t _ ⟨(y 0 : ℕ) / 128, by omega⟩ ⟨(y 1 : ℕ) / 256, by omega⟩ ⟨(y 0 : ℕ) % 128, by omega⟩
    ⟨(y 1 : ℕ) % 256, by omega⟩ ?_ ?_).trans ?_
  · simp; omega
  · simp; omega
  · rw [blk0, seq4, seq5, seq6]
    refine (byRow_eq (fun b h => bwdOut (lgK m c 1 h) (proj m c) b h) _ _ (row t) ⟨(y 0 : ℕ) / 128, by omega⟩
      ⟨(y 0 : ℕ) % 128, by omega⟩ ⟨(y 1 : ℕ) / 256, by omega⟩ ⟨(y 1 : ℕ) % 256, by omega⟩ ?_ ?_).symm
    · unfold row
      blk_simp [i8]
      dsimp only
      omega
    · blk_simp [i8]
      dsimp only
      omega

/-- What a point stores of the last states, for the batch row's heads. -/
theorem state_at (c : Dev nD) (t : Fin cfg0.N) (y : S1x2x4x128x256.Idx) (r : Fin 2) (h : Fin 4) (d : Fin 128) (e : Fin 256)
    (hy1 : (y 1 : ℕ) = r) (hy2 : (y 2 : ℕ) = h) (hy3 : (y 3 : ℕ) = d) (hy4 : (y 4 : ℕ) = e) :
    (outsAt0 m c t).2.2 y = lastState (lgK m c r h) (proj m c) (row t) r h d e := by
  rw [point9 m c t y h d e hy2 hy3 hy4, blk0, blk0, seq2, seq3, seq5, seq6]
  unfold lastState
  rw [hy1]
  split <;> rename_i hr
  · obtain rfl : r = 0 := Fin.ext hr
    rfl
  · obtain rfl : r = 1 := Fin.ext (by simp; omega)
    rfl

/-- THE LAST STATES. -/
theorem final9 (c : Dev nD) : (dats m 0 c).arrAt 9 cfg0.N
    = fun j => lastState (lgK m c (j 1) (j 2)) (proj m c) (j 0) (j 1) (j 2) (j 3) (j 4) := by
  refine (dats m 0 c).arrAt_eq_of_covers 9 _ (by decide +kernel) fun t hf y => ?_
  obtain ⟨i0, i1, i2, i3, i4, i5, i6, i7, i8, i9⟩ := idx t
  have e0 : (win0_9.blk t).view.emb y 0 = row t := Fin.ext (by
    have hy0 : (y 0 : ℕ) < 1 := (y 0).isLt
    unfold row
    blk_simp [i9])
  have e1 : (win0_9.blk t).view.emb y 1 = y 1 := Fin.ext (by blk_simp [i9])
  have e2 : (win0_9.blk t).view.emb y 2 = y 2 := Fin.ext (by blk_simp [i9])
  have e3 : (win0_9.blk t).view.emb y 3 = y 3 := Fin.ext (by blk_simp [i9])
  have e4 : (win0_9.blk t).view.emb y 4 = y 4 := Fin.ext (by blk_simp [i9])
  blk_simp
  rw [after0_9]
  refine (state_at m c t _ (y 1) (y 2) (y 3) (y 4) rfl rfl rfl rfl).trans ?_
  rw [← e0, ← e1, ← e2, ← e3, ← e4]

end Cert.KernelIdeal.Hand

end
-- ==== Proof.RetRef.lean ====
/- What the reference computes, read at an index: the two directions' outputs and last states are the recurrence of
   RetMath over the projection's rows. -/
module

public import proofs.«01_k».proof.Proof.Gen.ReferenceIdeal.Read
public import proofs.«01_k».proof.Proof.RetMath
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.SL.Sem
open Cert.Retention

variable (x0 : FVec Ideal S24576x8192 .f32) (x1 : FVec Ideal S2x4 .f32)

/-- The projection by row and column. -/
abbrev proj : Proj := fun r c => x0 (ix2 r c)

/-- The sequence of one of the eight heads: the first four read forward, the last four backward. -/
def heads {n : ℕ} (a : Fin 4 → Fin 2 → Chunk n) (g : Fin 8) : Fin 2 → Chunk n :=
  if h : (g : ℕ) < 4 then a ⟨g, h⟩ else back (a ⟨g - 4, by omega⟩)

/-- The head's logarithm. -/
def lg (g : Fin 8) : EReal := val_main_v0 (F := Ideal) x1 (ix2 ⟨g / 4, by omega⟩ ⟨g % 4, by omega⟩)

/-! The two chunks of the queries, the keys and the values. -/

theorem v7_at (j : S32x4x256x128.Idx) : val_main_v7 (F := Ideal) x0 j
    = x0 (ix2 ⟨256 * (j 0).val + (j 2).val, by have := (j 0).isLt; have := (j 2).isLt; simp at *; omega⟩
        ⟨128 * (j 1).val + (j 3).val, by have := (j 1).isLt; have := (j 3).isLt; simp at *; omega⟩) := by
  rw [val_main_v7_apply, val_main_v6_apply, val_main_v3_apply, val_main_v2_apply, val_main_v1_apply]
  idx_vars j
  blk_ext

theorem v11_at (j : S32x4x256x128.Idx) : val_main_v11 (F := Ideal) x0 j
    = x0 (ix2 ⟨256 * (j 0).val + (j 2).val, by have := (j 0).isLt; have := (j 2).isLt; simp at *; omega⟩
        ⟨512 + (128 * (j 1).val + (j 3).val), by have := (j 1).isLt; have := (j 3).isLt; simp at *; omega⟩) * scale := by
  rw [val_main_v11_apply, val_main_v9_apply, val_main_v8_apply, val_main_v4_apply, val_main_v2_apply, val_main_v1_apply,
    val_main_v10_apply, val_main_cst_apply]
  idx_vars j
  refine congrArg₂ (· * ·) ?_ rfl
  blk_ext

theorem v13_at (j : S32x4x256x256.Idx) : val_main_v13 (F := Ideal) x0 j
    = x0 (ix2 ⟨256 * (j 0).val + (j 2).val, by have := (j 0).isLt; have := (j 2).isLt; simp at *; omega⟩
        ⟨1024 + (256 * (j 1).val + (j 3).val), by have := (j 1).isLt; have := (j 3).isLt; simp at *; omega⟩) := by
  rw [val_main_v13_apply, val_main_v12_apply, val_main_v5_apply, val_main_v2_apply, val_main_v1_apply]
  idx_vars j
  blk_ext

theorem v62_at (r : Fin 2) (b : Fin 32) (g : Fin 8) (i d : Fin 128) :
    val_main_v62 (F := Ideal) x0 (ix5 r b g i d) = heads (qSeq (proj x0) b) g r i d := by
  rw [val_main_v62_apply, val_main_v61_apply]
  unfold val_main_v16 val_main_v15 heads
  pointwise
  split
  · rw [dif_pos (show (g : ℕ) < 4 by omega), v7_at]
    unfold qSeq
    blk_ext
  · rw [dif_neg (show ¬(g : ℕ) < 4 by omega), v7_at]
    unfold back Retention.flip qSeq
    blk_ext [Fin.val_rev, List.mem_singleton, Fin.reduceEq, ↓reduceIte]

theorem v64_at (r : Fin 2) (b : Fin 32) (g : Fin 8) (i d : Fin 128) :
    val_main_v64 (F := Ideal) x0 (ix5 r b g i d) = heads (kSeq (proj x0) b) g r i d * scale := by
  rw [val_main_v64_apply, val_main_v63_apply]
  unfold val_main_v18 val_main_v17 heads
  pointwise
  split
  · rw [dif_pos (show (g : ℕ) < 4 by omega), v11_at]
    refine congrArg₂ (· * ·) ?_ rfl
    unfold kSeq
    blk_ext
  · rw [dif_neg (show ¬(g : ℕ) < 4 by omega), v11_at]
    refine congrArg₂ (· * ·) ?_ rfl
    unfold back Retention.flip kSeq
    blk_ext [Fin.val_rev, List.mem_singleton, Fin.reduceEq, ↓reduceIte]

theorem v66_at (r : Fin 2) (b : Fin 32) (g : Fin 8) (i : Fin 128) (e : Fin 256) :
    val_main_v66 (F := Ideal) x0 (ix5 r b g i e) = heads (vSeq (proj x0) b) g r i e := by
  rw [val_main_v66_apply, val_main_v65_apply]
  unfold val_main_v20 val_main_v19 heads
  pointwise
  split
  · rw [dif_pos (show (g : ℕ) < 4 by omega), v13_at]
    unfold vSeq
    blk_ext
  · rw [dif_neg (show ¬(g : ℕ) < 4 by omega), v13_at]
    unfold back Retention.flip vSeq
    blk_ext [Fin.val_rev, List.mem_singleton, Fin.reduceEq, ↓reduceIte]

/-! The powers of the decay. -/

theorem v22_at (j : S128.Idx) : val_main_v22 (F := Ideal) j = pos (j 0) := sitofp_row (j 0)

theorem v21_at (j : S8.Idx) : val_main_v21 (F := Ideal) x1 j = lg x1 (j 0) := by
  rw [val_main_v21_apply]
  unfold lg
  idx_vars j
  blk_ext

theorem v27_at (j : S128x128.Idx) : val_main_v27 (F := Ideal) j = pos (j 0) - pos (j 1) := by
  rw [val_main_v27_apply, val_main_v25_apply, val_main_v23_apply, val_main_v26_apply, val_main_v24_apply, v22_at, v22_at]
  rfl

theorem v38_at (j : S8x128x128.Idx) :
    val_main_v38 (F := Ideal) x1 j = decay (lg x1 (j 0)) (pos (j 1) - pos (j 2)) := by
  rw [val_main_v38_apply, val_main_call1_v1_apply, val_main_v29_apply, val_main_v37_apply, val_main_v36_apply,
    val_main_v34_apply, val_main_v30_apply, val_main_v35_apply, val_main_v33_apply, val_main_v32_apply, v21_at, v27_at,
    val_main_v28_apply, val_main_v31_apply, val_main_cst_1_apply, val_main_cst_2_apply, val_main_call1_v2_apply,
    val_main_call1_v0_apply, val_main_cst_3_apply]
  pointwise
  rfl

/-- The power on the queries at row `i`. -/
theorem v47_at (j : S8x128x1.Idx) :
    val_main_v47 (F := Ideal) x1 j = Ideal.exp (lg x1 (j 0) * (pos (j 1) + 1)) := by
  rw [val_main_v47_apply, val_main_v46_apply, val_main_v45_apply, val_main_v43_apply, val_main_v39_apply, v21_at,
    val_main_v44_apply, val_main_v42_apply, val_main_v41_apply, v22_at, val_main_v40_apply, val_main_cst_4_apply]
  pointwise
  rfl

/-- The power on the keys at row `i`. -/
theorem v56_at (j : S8x128x1.Idx) :
    val_main_v56 (F := Ideal) x1 j = Ideal.exp (lg x1 (j 0) * (((127 : ℝ) : EReal) - pos (j 1))) := by
  rw [val_main_v56_apply, val_main_v55_apply, val_main_v54_apply, val_main_v52_apply, val_main_v48_apply, v21_at,
    val_main_v53_apply, val_main_v51_apply, val_main_v50_apply, v22_at, val_main_v49_apply, val_main_cst_5_apply]
  pointwise
  rw [ofBits_127]
  rfl

/-- The power over a whole chunk. -/
theorem v60_at (j : S8x1x1.Idx) :
    val_main_v60 (F := Ideal) x1 j = Ideal.exp (lg x1 (j 0) * ((128 : ℝ) : EReal)) := by
  rw [val_main_v60_apply, val_main_v59_apply, val_main_v58_apply, v21_at, val_main_v57_apply, val_main_cst_6_apply]
  pointwise
  rw [ofBits_128]
  rfl

/-! The chunks as the scan slices them out. -/

/-- A head's queries. -/
abbrev hq (b : Fin 32) (g : Fin 8) : Fin 2 → Chunk 128 := heads (qSeq (proj x0) b) g

/-- A head's keys, before the scale. -/
abbrev hk (b : Fin 32) (g : Fin 8) : Fin 2 → Chunk 128 := heads (kSeq (proj x0) b) g

/-- A head's values. -/
abbrev hv (b : Fin 32) (g : Fin 8) : Fin 2 → Chunk 256 := heads (vSeq (proj x0) b) g

theorem v68_at (j : S32x8x128x128.Idx) : val_main_v68 (F := Ideal) x0 j = hq x0 (j 0) (j 1) 0 (j 2) (j 3) := by
  rw [val_main_v68_apply, val_main_v67_apply]
  refine Eq.trans ?_ (v62_at x0 0 (j 0) (j 1) (j 2) (j 3))
  idx_vars j
  blk_ext

theorem v70_at (j : S32x8x128x128.Idx) : val_main_v70 (F := Ideal) x0 j = hq x0 (j 0) (j 1) 1 (j 2) (j 3) := by
  rw [val_main_v70_apply, val_main_v69_apply]
  refine Eq.trans ?_ (v62_at x0 1 (j 0) (j 1) (j 2) (j 3))
  idx_vars j
  blk_ext

theorem v72_at (j : S32x8x128x128.Idx) : val_main_v72 (F := Ideal) x0 j = hk x0 (j 0) (j 1) 0 (j 2) (j 3) * scale := by
  rw [val_main_v72_apply, val_main_v71_apply]
  refine Eq.trans ?_ (v64_at x0 0 (j 0) (j 1) (j 2) (j 3))
  idx_vars j
  blk_ext

theorem v74_at (j : S32x8x128x128.Idx) : val_main_v74 (F := Ideal) x0 j = hk x0 (j 0) (j 1) 1 (j 2) (j 3) * scale := by
  rw [val_main_v74_apply, val_main_v73_apply]
  refine Eq.trans ?_ (v64_at x0 1 (j 0) (j 1) (j 2) (j 3))
  idx_vars j
  blk_ext

theorem v76_at (j : S32x8x128x256.Idx) : val_main_v76 (F := Ideal) x0 j = hv x0 (j 0) (j 1) 0 (j 2) (j 3) := by
  rw [val_main_v76_apply, val_main_v75_apply]
  refine Eq.trans ?_ (v66_at x0 0 (j 0) (j 1) (j 2) (j 3))
  idx_vars j
  blk_ext

theorem v78_at (j : S32x8x128x256.Idx) : val_main_v78 (F := Ideal) x0 j = hv x0 (j 0) (j 1) 1 (j 2) (j 3) := by
  rw [val_main_v78_apply, val_main_v77_apply]
  refine Eq.trans ?_ (v66_at x0 1 (j 0) (j 1) (j 2) (j 3))
  idx_vars j
  blk_ext

end Cert.ReferenceIdeal.Hand

end
-- ==== Proof.RetScan.lean ====
/- The reference's scan over the two chunks, and its three results at an index. -/
module

public import proofs.«01_k».proof.Proof.RetRef
public import proofs.«01_k».proof.Proof.RetMath
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.SL.Sem
open Cert.Retention

variable (x0 : FVec Ideal S24576x8192 .f32) (x1 : FVec Ideal S2x4 .f32)

/-! The scan: each chunk's output and the state after it. -/

theorem v14_at (j : S32x8x128x256.Idx) : val_main_v14 (F := Ideal) j = 0 := by
  rw [val_main_v14_apply, val_main_cst_0_apply]
  pointwise

/-- The first chunk's decayed scores. -/
theorem v82_at (j : S32x8x128x128.Idx) : val_main_v82 (F := Ideal) x0 x1 j
    = (∑ d, hq x0 (j 0) (j 1) 0 (j 2) d * (hk x0 (j 0) (j 1) 0 (j 3) d * scale)) * decay (lg x1 (j 1)) (pos (j 2) - pos (j 3)) := by
  rw [val_main_v82_apply, val_main_v79_apply, val_main_v81_apply, val_main_v80_apply, v38_at]
  refine congrArg₂ (· * ·) (Finset.sum_congr rfl fun d _ => ?_) rfl
  rw [v68_at, v72_at]
  rfl

/-- The first chunk's queries times the power of their row. -/
theorem v86_at (j : S32x8x128x128.Idx) : val_main_v86 (F := Ideal) x0 x1 j
    = hq x0 (j 0) (j 1) 0 (j 2) (j 3) * Ideal.exp (lg x1 (j 1) * (pos (j 2) + 1)) := by
  rw [val_main_v86_apply, val_main_v85_apply, val_main_v84_apply, v47_at, v68_at]
  rfl

/-- The first chunk's keys times the power of their row. -/
theorem v94_at (j : S32x8x128x128.Idx) : val_main_v94 (F := Ideal) x0 x1 j
    = (hk x0 (j 0) (j 1) 0 (j 2) (j 3) * scale) * Ideal.exp (lg x1 (j 1) * (((127 : ℝ) : EReal) - pos (j 2))) := by
  rw [val_main_v94_apply, val_main_v93_apply, val_main_v92_apply, v56_at, v72_at]
  rfl

/-- The first chunk's output. -/
theorem v88_at (j : S32x8x128x256.Idx) : val_main_v88 (F := Ideal) x0 x1 j
    = seqOut (lg x1 (j 1)) (hq x0 (j 0) (j 1)) (hk x0 (j 0) (j 1)) (hv x0 (j 0) (j 1)) 0 (j 2) (j 3) := by
  rw [val_main_v88_apply, val_main_v83_apply, val_main_v87_apply]
  refine congrArg₂ (· + ·) (Finset.sum_congr rfl fun k _ => ?_) (Finset.sum_congr rfl fun k _ => ?_)
  · rw [v82_at, v76_at]
    rfl
  · rw [v86_at, v14_at]
    rfl

/-- The state after the first chunk. -/
theorem v96_at (j : S32x8x128x256.Idx) : val_main_v96 (F := Ideal) x0 x1 j
    = state1 (lg x1 (j 1)) (hk x0 (j 0) (j 1)) (hv x0 (j 0) (j 1)) (j 2) (j 3) := by
  rw [val_main_v96_apply, val_main_v91_apply, val_main_v95_apply, v14_at, val_main_v90_apply, val_main_v89_apply, v60_at]
  refine congrArg₂ (· + ·) rfl (Finset.sum_congr rfl fun k _ => ?_)
  rw [v94_at, v76_at]
  rfl

/-- The second chunk's decayed scores. -/
theorem v100_at (j : S32x8x128x128.Idx) : val_main_v100 (F := Ideal) x0 x1 j
    = (∑ d, hq x0 (j 0) (j 1) 1 (j 2) d * (hk x0 (j 0) (j 1) 1 (j 3) d * scale)) * decay (lg x1 (j 1)) (pos (j 2) - pos (j 3)) := by
  rw [val_main_v100_apply, val_main_v97_apply, val_main_v99_apply, val_main_v98_apply, v38_at]
  refine congrArg₂ (· * ·) (Finset.sum_congr rfl fun d _ => ?_) rfl
  rw [v70_at, v74_at]
  rfl

/-- The second chunk's queries times the power of their row. -/
theorem v104_at (j : S32x8x128x128.Idx) : val_main_v104 (F := Ideal) x0 x1 j
    = hq x0 (j 0) (j 1) 1 (j 2) (j 3) * Ideal.exp (lg x1 (j 1) * (pos (j 2) + 1)) := by
  rw [val_main_v104_apply, val_main_v103_apply, val_main_v102_apply, v47_at, v70_at]
  rfl

/-- The second chunk's keys times the power of their row. -/
theorem v112_at (j : S32x8x128x128.Idx) : val_main_v112 (F := Ideal) x0 x1 j
    = (hk x0 (j 0) (j 1) 1 (j 2) (j 3) * scale) * Ideal.exp (lg x1 (j 1) * (((127 : ℝ) : EReal) - pos (j 2))) := by
  rw [val_main_v112_apply, val_main_v111_apply, val_main_v110_apply, v56_at, v74_at]
  rfl

/-- The second chunk's output. -/
theorem v106_at (j : S32x8x128x256.Idx) : val_main_v106 (F := Ideal) x0 x1 j
    = seqOut (lg x1 (j 1)) (hq x0 (j 0) (j 1)) (hk x0 (j 0) (j 1)) (hv x0 (j 0) (j 1)) 1 (j 2) (j 3) := by
  rw [val_main_v106_apply, val_main_v101_apply, val_main_v105_apply]
  refine congrArg₂ (· + ·) (Finset.sum_congr rfl fun k _ => ?_) (Finset.sum_congr rfl fun k _ => ?_)
  · rw [v100_at, v78_at]
    rfl
  · rw [v104_at, v96_at]
    rfl

/-- The state after the second chunk. -/
theorem v114_at (j : S32x8x128x256.Idx) : val_main_v114 (F := Ideal) x0 x1 j
    = state2 (lg x1 (j 1)) (hk x0 (j 0) (j 1)) (hv x0 (j 0) (j 1)) (j 2) (j 3) := by
  rw [val_main_v114_apply, val_main_v109_apply, val_main_v113_apply, v96_at, val_main_v108_apply, val_main_v107_apply, v60_at]
  refine congrArg₂ (· + ·) rfl (Finset.sum_congr rfl fun k _ => ?_)
  rw [v112_at, v78_at]
  rfl

/-! The results: the heads of each direction, their rows in the layout of the results. -/

theorem heads_fwd {n : ℕ} (a : Fin 4 → Fin 2 → Chunk n) (g : Fin 8) (h : Fin 4) (hg : (g : ℕ) = h) : heads a g = a h := by
  unfold heads
  rw [dif_pos (by omega)]
  exact congrArg a (Fin.ext hg)

theorem heads_bwd {n : ℕ} (a : Fin 4 → Fin 2 → Chunk n) (g : Fin 8) (h : Fin 4) (hg : (g : ℕ) = 4 + h) :
    heads a g = back (a h) := by
  unfold heads
  rw [dif_neg (by omega)]
  exact congrArg (fun x => back (a x)) (Fin.ext (by simp; omega))

theorem lg_at (g : Fin 8) (r : Fin 2) (h : Fin 4) (hg : (g : ℕ) = 4 * r + h) : lg x1 g = val_main_v0 (F := Ideal) x1 (ix2 r h) := by
  unfold lg
  blk_ext

/-- The chunks' outputs, stacked. -/
theorem v117_at (j : S2x32x8x128x256.Idx) : val_main_v117 (F := Ideal) x0 x1 j
    = seqOut (lg x1 (j 2)) (hq x0 (j 1) (j 2)) (hk x0 (j 1) (j 2)) (hv x0 (j 1) (j 2)) (j 0) (j 3) (j 4) := by
  unfold val_main_v117
  rw [concatenate_pair_apply]
  split
  · rw [val_main_v115_apply, v88_at]
    have hj : j 0 = (0 : Fin 2) := Fin.ext (by simp at *; omega)
    exact congrArg (fun r : Fin 2 => seqOut (lg x1 (j 2)) (hq x0 (j 1) (j 2)) (hk x0 (j 1) (j 2)) (hv x0 (j 1) (j 2)) r (j 3) (j 4)) hj.symm
  · rw [val_main_v116_apply, v106_at]
    have hj : j 0 = (1 : Fin 2) := Fin.ext (by have := (j 0).isLt; simp at *; omega)
    exact congrArg (fun r : Fin 2 => seqOut (lg x1 (j 2)) (hq x0 (j 1) (j 2)) (hk x0 (j 1) (j 2)) (hv x0 (j 1) (j 2)) r (j 3) (j 4)) hj.symm

/-- The outputs of the eight heads, at chunk `r` and row `i` of the order the head reads in. -/
theorem v119_at (j : S32x8x256x256.Idx) (r : Fin 2) (i : Fin 128) (hj : (j 2 : ℕ) = 128 * r + i) :
    val_main_v119 (F := Ideal) x0 x1 j
      = seqOut (lg x1 (j 1)) (hq x0 (j 0) (j 1)) (hk x0 (j 0) (j 1)) (hv x0 (j 0) (j 1)) r i (j 3) := by
  rw [val_main_v119_apply, val_main_v118_apply]
  refine Eq.trans ?_ (v117_at x0 x1 (ix5 r (j 0) (j 1) i (j 3)))
  idx_vars j
  blk_ext

/-- THE FORWARD OUTPUT. -/
theorem out0_at (j : S8192x1024.Idx) (b : Fin 32) (r : Fin 2) (i : Fin 128) (h : Fin 4) (e : Fin 256)
    (h0 : (j 0 : ℕ) = 256 * b + (128 * r + i)) (h1 : (j 1 : ℕ) = 256 * h + e) :
    val_main_v122 (F := Ideal) x0 x1 j = fwdOut (val_main_v0 (F := Ideal) x1 (ix2 0 h)) (proj x0) b h r i e := by
  rw [val_main_v122_apply, val_main_v121_apply, val_main_v120_apply]
  have hk : val_main_v119 (F := Ideal) x0 x1 (ix4 b ⟨h, by omega⟩ ⟨128 * r + i, by omega⟩ e) = _ :=
    v119_at x0 x1 _ r i rfl
  refine Eq.trans ?_ (hk.trans ?_)
  · idx_vars j
    blk_ext
  · show seqOut (lg x1 ⟨h, _⟩) (heads _ ⟨h, _⟩) (heads _ ⟨h, _⟩) (heads _ ⟨h, _⟩) r i e = _
    rw [heads_fwd _ _ h rfl, heads_fwd _ _ h rfl, heads_fwd _ _ h rfl, lg_at x1 _ 0 h (by simp)]
    rfl

/-- THE BACKWARD OUTPUT. -/
theorem out1_at (j : S8192x1024.Idx) (b : Fin 32) (r : Fin 2) (i : Fin 128) (h : Fin 4) (e : Fin 256)
    (h0 : (j 0 : ℕ) = 256 * b + (128 * r + i)) (h1 : (j 1 : ℕ) = 256 * h + e) :
    val_main_v126 (F := Ideal) x0 x1 j = bwdOut (val_main_v0 (F := Ideal) x1 (ix2 1 h)) (proj x0) b h r i e := by
  rw [val_main_v126_apply, val_main_v125_apply]
  unfold val_main_v124
  pointwise
  rw [val_main_v123_apply]
  have hk : val_main_v119 (F := Ideal) x0 x1 (ix4 b ⟨4 + h, by omega⟩ ⟨128 * r.rev + i.rev, by omega⟩ e) = _ :=
    v119_at x0 x1 _ r.rev i.rev rfl
  refine Eq.trans ?_ (hk.trans ?_)
  · have hj0 : (j 0 : ℕ) < 8192 := (j 0).isLt
    have hj1 : (j 1 : ℕ) < 1024 := (j 1).isLt
    blk_ext [Fin.val_rev, List.mem_singleton, Fin.reduceEq, ↓reduceIte]
    show 256 - (((j 0).val * 1024 + (j 1).val) / 1024 % 256 + 1) = _
    omega
  · show seqOut (lg x1 ⟨4 + h, _⟩) (heads _ ⟨4 + h, _⟩) (heads _ ⟨4 + h, _⟩) (heads _ ⟨4 + h, _⟩) r.rev i.rev e = _
    rw [heads_bwd _ _ h rfl, heads_bwd _ _ h rfl, heads_bwd _ _ h rfl, lg_at x1 _ 1 h (by simp)]
    rfl

/-- THE LAST STATES. -/
theorem out2_at (b : Fin 32) (r : Fin 2) (h : Fin 4) (d : Fin 128) (e : Fin 256) :
    val_main_v127 (F := Ideal) x0 x1 (ix5 b r h d e)
      = lastState (val_main_v0 (F := Ideal) x1 (ix2 r h)) (proj x0) b r h d e := by
  rw [val_main_v127_apply]
  refine Eq.trans ?_ ((v114_at x0 x1 (ix4 b ⟨4 * r + h, by omega⟩ d e)).trans ?_)
  · blk_ext
  · show state2 (lg x1 ⟨4 * r + h, _⟩) (heads _ ⟨4 * r + h, _⟩) (heads _ ⟨4 * r + h, _⟩) d e = _
    rw [lg_at x1 _ r h rfl]
    unfold lastState
    split
    · rw [heads_fwd _ _ h (by simp; omega), heads_fwd _ _ h (by simp; omega)]
      rfl
    · rw [heads_bwd _ _ h (by simp; omega), heads_bwd _ _ h (by simp; omega)]
      rfl

end Cert.ReferenceIdeal.Hand

end
-- ==== Proof.RetEq.lean ====
/- The retention kernel and its reference at the ideal instance: equal outputs and equal last states. -/
module

public import proofs.«01_k».proof.Defs
public import proofs.«01_k».proof.Proof.RetArray
public import proofs.«01_k».proof.Proof.RetScan
public import Idealize.ShloMosaic.Lib.Claim
public import Idealize.ShloMosaic.Lib.Quiescent

@[expose] public section

set_option maxRecDepth 16384

noncomputable section

namespace Cert.Retention

open Idealize.ShloMosaic Idealize.ShloMosaic.TcCoe Idealize.SL.Sem
open Cert.KernelIdeal.Hand (lgK final7 final8 final9)
open Cert.ReferenceIdeal.Hand (out0_at out1_at out2_at)
open Cert.ReferenceIdeal.Read (val_main_v0 val_main_v122 val_main_v126 val_main_v127)

/-- The reference runs and leaves its arguments. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

section Kernel

open Cert.KernelIdeal Cert.KernelIdeal.Gen

variable (m : (ℓ : Loc nD τ sig) → Buf (Elt Ideal) ℓ)

/-- The projection of the kernel's run. -/
abbrev argP (c : Dev nD) : FVec Ideal S24576x8192 .f32 := m ((c.tc : Thread nD τ).loc main_arg0)

/-- The decays' logits of the kernel's run. -/
abbrev argL (c : Dev nD) : FVec Ideal S2x4 .f32 := m ((c.tc : Thread nD τ).loc main_arg1)

/-- The kernel's host line and the reference take the logarithm of the decay by the same operations. -/
theorem lgK_eq (c : Dev nD) (r : Fin 2) (h : Fin 4) : lgK m c r h = val_main_v0 (F := Ideal) (argL m c) (ix2 r h) := by
  unfold lgK
  entry_read
  rfl

/-- The forward outputs agree. -/
theorem eq0 (c : Dev nD) : (dats m 0 c).arrAt 7 cfg0.N = val_main_v122 (F := Ideal) (argP m c) (argL m c) := by
  rw [final7]
  funext j
  have h0 : (j 0 : ℕ) < 8192 := (j 0).isLt
  have h1 : (j 1 : ℕ) < 1024 := (j 1).isLt
  rw [out0_at (argP m c) (argL m c) j ⟨(j 0 : ℕ) / 256, by omega⟩ ⟨(j 0 : ℕ) % 256 / 128, by omega⟩ ⟨(j 0 : ℕ) % 128, by omega⟩
    ⟨(j 1 : ℕ) / 256, by omega⟩ ⟨(j 1 : ℕ) % 256, by omega⟩ (by simp only; omega) (by simp only; omega), ← lgK_eq]
  rfl

/-- The backward outputs agree. -/
theorem eq1 (c : Dev nD) : (dats m 0 c).arrAt 8 cfg0.N = val_main_v126 (F := Ideal) (argP m c) (argL m c) := by
  rw [final8]
  funext j
  have h0 : (j 0 : ℕ) < 8192 := (j 0).isLt
  have h1 : (j 1 : ℕ) < 1024 := (j 1).isLt
  rw [out1_at (argP m c) (argL m c) j ⟨(j 0 : ℕ) / 256, by omega⟩ ⟨(j 0 : ℕ) % 256 / 128, by omega⟩ ⟨(j 0 : ℕ) % 128, by omega⟩
    ⟨(j 1 : ℕ) / 256, by omega⟩ ⟨(j 1 : ℕ) % 256, by omega⟩ (by simp only; omega) (by simp only; omega), ← lgK_eq]
  rfl

/-- The last states agree. -/
theorem eq2 (c : Dev nD) : (dats m 0 c).arrAt 9 cfg0.N = val_main_v127 (F := Ideal) (argP m c) (argL m c) := by
  rw [final9]
  funext j
  idx_vars j
  rw [out2_at, ← lgK_eq]
  rfl

end Kernel

/-- THE RETENTION KERNEL COMPUTES THE REFERENCE'S FUNCTION. -/
theorem algebraic : Cert.algebraic_KernelIdeal_ReferenceIdeal := by
  intro m ρ m' ρ' _ hagree
  refine ⟨_, _, _, Cert.KernelIdeal.Value.run_blocks m ρ, (θ_run Cert.ReferenceIdeal.defs _ _).mono (fun r h c => ?_)
    (Cert.ReferenceIdeal.Value.run (F := Ideal) m' ρ')⟩
  obtain ⟨a0, a1, a2, a3⟩ := h c
  obtain ⟨e0, e1⟩ := hagree c
  refine ⟨a0.trans ?_, a1.trans ?_, a2.trans ?_, a3⟩
  · rw [Cert.ReferenceIdeal.Read.val_main_v122_eq, e0, e1]
    exact (eq0 m c).symm
  · rw [Cert.ReferenceIdeal.Read.val_main_v126_eq, e0, e1]
    exact (eq1 m c).symm
  · rw [Cert.ReferenceIdeal.Read.val_main_v127_eq, e0, e1]
    exact (eq2 m c).symm

end Cert.Retention

end
-- ==== Proof.ProjBlock.lean ====
/- What one grid point of the input projection leaves: the weights' block, cast, and the block of rows times it. -/
module

public import proofs.«01_k».proof.Proof.Gen.ProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem

variable (m : (ℓ : Loc nD τ sig) → Buf (Elt Ideal) ℓ)

/-- The first point of a column block leaves the weights' block in the scratch. -/
theorem weights_first (c : Dev nD) (t : Fin cfg0.N) (h0 : t.val % 24 = 0) (k : Fin 1024) (e : Fin 2048) :
    (outsAt0 m c t t.isLt).2 (ix2 k e) = (show FVec Ideal S1x1024x2048 .f32 from iblk m c 1 t) (ix3 0 k e) := by
  rw [outsAt0_A m c t h0]
  frame_open
  frame_out
  open_payloads
  pointwise

/-- The other points keep it. -/
theorem weights_next (c : Dev nD) (t : Fin cfg0.N) (h0 : ¬ t.val % 24 = 0) :
    (outsAt0 m c t t.isLt).2 = (outsAt0 m c (t.val - 1) (by have := t.isLt; omega)).2 := by
  rw [outsAt0_B m c t h0]
  rfl

/-- Every point stores its rows times the weights that the scratch then holds. -/
theorem product (c : Dev nD) (t : Fin cfg0.N) (i : Fin 1024) (e : Fin 2048) :
    (outsAt0 m c t t.isLt).1 (ix2 i e)
      = ∑ k : Fin 1024, (show FVec Ideal S1024x1024 .bf16 from iblk m c 0 t) (ix2 i k) * (outsAt0 m c t t.isLt).2 (ix2 k e) := by
  by_cases h0 : t.val % 24 = 0
  · simp only [weights_first m c t h0]
    rw [outsAt0_A m c t h0]
    frame_open
    simp (disch := decide) only [↓ View.readCov_skip, ↓ View.readCov_cons_toLoadRect, ↓ View.readCov_fill]
    frame_out
    open_payloads
    pointwise
  · rw [weights_next m c t h0, outsAt0_B m c t h0]
    frame_open
    frame_out
    open_payloads
    pointwise
    refine Finset.sum_congr rfl fun x _ => ?_
    congr 1
    exact congrFun (Memref.IsWhole.read_unread (Memref.isWhole_whole cc0_scratch0) _) _

end Cert.ProjIdeal.Hand

end
-- ==== Proof.ProjArray.lean ====
/- What the projection's array holds when the grid is done, and that the reference's product is the same. -/
module

public import proofs.«01_k».proof.Defs
public import proofs.«01_k».proof.Proof.ProjBlock
public import proofs.«01_k».proof.Proof.Gen.ProjRefIdeal.Run
public import Idealize.ShloMosaic.Lib.Quiescent

@[expose] public section

set_option maxRecDepth 16384

noncomputable section

namespace Cert.ProjIdeal.Hand

open Cert.ProjIdeal Cert.ProjIdeal.Gen Idealize.ShloMosaic Idealize.ShloMosaic.TcCoe Idealize.SL.Sem

/-- The activations times the first layer's weights. -/
def projection (h : FVec Ideal S24576x1024 .bf16) (w : FVec Ideal S2x1024x8192 .f32) (r : Fin 24576) (e : Fin 8192) : EReal :=
  ∑ k : Fin 1024, h (ix2 r k) * w (ix3 0 k e)

section Array

variable (m : (ℓ : Loc nD τ sig) → Buf (Elt Ideal) ℓ)

/-- The activations and the weights of the run. -/
abbrev acts (c : Dev nD) : FVec Ideal S24576x1024 .bf16 := m ((c.tc : Thread nD τ).loc main_arg0)
abbrev weights (c : Dev nD) : FVec Ideal S2x1024x8192 .f32 := m ((c.tc : Thread nD τ).loc main_arg1)

/-- Each window's block at a point: 24 blocks of rows for each of the 4 blocks of columns. -/
theorem idx : ∀ t : Fin cfg0.N, win0_0.index t = ![t.val % 24, 0] ∧ win0_1.index t = ![0, 0, t.val / 24]
    ∧ win0_2.index t = ![t.val % 24, t.val / 24] :=
  (by decide +kernel : ∀ t : Fin grid0.N, _)

/-- A point's rows. -/
theorem rows_at (c : Dev nD) (t : Fin cfg0.N) (i : Fin 1024) (k : Fin 1024) (r : Fin 24576) (hr : (r : ℕ) = 1024 * (t.val % 24) + i) :
    (show FVec Ideal S1024x1024 .bf16 from iblk m c 0 t) (ix2 i k) = acts m c (ix2 r k) := by
  obtain ⟨i0, i1, i2⟩ := idx t
  blk_ext [iblk, V_main_arg0, i0, hr]

/-- A point's weights. -/
theorem weights_at (c : Dev nD) (t : Fin cfg0.N) (k : Fin 1024) (e : Fin 2048) (q : Fin 8192) (hq : (q : ℕ) = 2048 * (t.val / 24) + e) :
    (show FVec Ideal S1x1024x2048 .f32 from iblk m c 1 t) (ix3 0 k e) = weights m c (ix3 0 k q) := by
  obtain ⟨i0, i1, i2⟩ := idx t
  blk_ext [iblk, V_main_arg1, i1, hq]

/-- After every point the scratch holds the weights of the point's columns. -/
theorem scratch_at (c : Dev nD) (k : Fin 1024) (e : Fin 2048) : ∀ (n : ℕ) (hn : n < cfg0.N) (q : Fin 8192),
    (q : ℕ) = 2048 * (n / 24) + e → (outsAt0 m c n hn).2 (ix2 k e) = weights m c (ix3 0 k q)
  | n, hn, q, hq => by
    by_cases h0 : n % 24 = 0
    · exact (weights_first m c ⟨n, hn⟩ h0 k e).trans (weights_at m c ⟨n, hn⟩ k e q hq)
    · rw [weights_next m c ⟨n, hn⟩ h0]
      exact scratch_at c k e (n - 1) _ q (by omega)
  termination_by n => n
  decreasing_by omega

/-- THE PROJECTION'S ARRAY. -/
theorem final (c : Dev nD) : (dats m 0 c).arrAt 2 cfg0.N = fun j => projection (acts m c) (weights m c) (j 0) (j 1) := by
  refine (dats m 0 c).arrAt_eq_of_covers 2 _ (by decide +kernel) fun t hf y => ?_
  obtain ⟨i0, i1, i2⟩ := idx t
  have ht : t.val < 96 := t.isLt
  idx_vars y
  blk_simp
  rw [after0_2]
  refine (product m c t y0 y1).trans ?_
  unfold projection
  refine Finset.sum_congr rfl fun k _ => congrArg₂ (· * ·) (rows_at m c t y0 k _ ?_) (scratch_at m c k y1 t.val t.isLt _ ?_)
  · blk_simp [i2]
    omega
  · blk_simp [i2]
    omega

end Array

/-- The reference runs and leaves its arguments. -/
theorem frame_reference : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- THE PROJECTION COMPUTES THE REFERENCE'S FUNCTION. -/
theorem algebraic : Cert.algebraic_ProjIdeal_ProjRefIdeal := by
  intro m ρ m' ρ' _ hagree
  refine ⟨_, Cert.ProjIdeal.Value.run_blocks m ρ, (θ_run Cert.ProjRefIdeal.defs _ _).mono (fun r h c => ?_)
    (Cert.ProjRefIdeal.Value.run (F := Ideal) m' ρ')⟩
  obtain ⟨a0, a1⟩ := h c
  obtain ⟨e0, e1⟩ := hagree c
  refine ⟨a0.trans ?_, a1⟩
  rw [e0, e1, final]
  funext j
  idx_vars j
  unfold projection
  pointwise

end Cert.ProjIdeal.Hand

end
-- ==== Proof.MixMath.lean ====
/- The end of the token mixer, row by row: the two branches' outputs normalised head by head and gated, the merge of the
   two branches, the output projection added to the token, and the normalised and modulated token. -/
module

public import Idealize.ShloMosaic.Lib.Pointwise

@[expose] public section

noncomputable section

namespace Cert.Mixer

open Idealize.ShloMosaic

/-- The divisors of the means as the program writes them, and the constant under the square roots. -/
def c128 : EReal := Ideal.ofBits .f32 1124073472#32
def c256 : EReal := Ideal.ofBits .f32 1132462080#32
def c1024 : EReal := Ideal.ofBits .f32 1149239296#32
def eps : EReal := Ideal.ofBits .f32 897988541#32

/-- The mean of a row, `n` being its length. -/
def mean {l : ℕ} (n : EReal) (f : Fin l → EReal) : EReal := Ideal.div (∑ k, f k) n

/-- A row divided by its root mean square. -/
def rms {l : ℕ} (n : EReal) (f : Fin l → EReal) (e : Fin l) : EReal :=
  f e * Ideal.rsqrt (mean n (fun k => f k * f k) + eps)

/-- A head less its mean, divided by its standard deviation. -/
def groupNorm (f : Fin 256 → EReal) : Fin 256 → EReal := rms c256 fun e => f e - mean c256 f

def silu (x : EReal) : EReal := x * Ideal.logistic x

/-- Head `h` of a row of `n` heads. -/
def head {n l : ℕ} (hl : n * l = 1024) (f : Fin 1024 → EReal) (h : Fin n) (e : Fin l) : EReal :=
  f ⟨l * h + e, by
    have h1 : l * h + l ≤ l * n := by rw [← Nat.mul_succ]; exact Nat.mul_le_mul_left _ h.isLt
    have := e.isLt
    rw [Nat.mul_comm] at hl
    omega⟩

/-- The retention branch before its projection: each head normalised, times the gate. -/
def retIn (o g : Fin 1024 → EReal) (j : Fin 1024) : EReal :=
  groupNorm (head (n := 4) (l := 256) rfl o ⟨(j : ℕ) / 256, by omega⟩) ⟨(j : ℕ) % 256, by omega⟩ * silu (g j)

/-- The linear recurrence's branch before its projection. -/
def hgIn (o g : Fin 1024 → EReal) (j : Fin 1024) : EReal :=
  rms c128 (head (n := 8) (l := 128) rfl o ⟨(j : ℕ) / 128, by omega⟩) ⟨(j : ℕ) % 128, by omega⟩ * silu (g j)

/-- The branches' projections, each times its gate, added and projected. -/
def mixed (a b h : Fin 1024 → EReal) (wr wh : Fin 1024 → Fin 1024 → EReal) (wm : Fin 1024 → Fin 2048 → EReal)
    (wo : Fin 1024 → Fin 1024 → EReal) (j : Fin 1024) : EReal :=
  ∑ k : Fin 1024, (Ideal.logistic (∑ x, h x * wm x ⟨k, by omega⟩) * (∑ x, a x * wr x k)
    + Ideal.logistic (∑ x, h x * wm x ⟨1024 + k, by omega⟩) * (∑ x, b x * wh x k)) * wo k j

/-- The token after the mixer. -/
def token (x gate y : Fin 1024 → EReal) (j : Fin 1024) : EReal := x j + gate j * y j

/-- The token normalised and modulated. -/
def modulated (x g scale shift : Fin 1024 → EReal) (j : Fin 1024) : EReal :=
  rms c1024 x j * g j * (1 + scale j) + shift j

/-- The last normalisation of a token, its feed-forward output `f` added. -/
def normed (x gate f g : Fin 1024 → EReal) (j : Fin 1024) : EReal := rms c1024 (token x gate f) j * g j

/-- Row `r` of the two directions' sum: the context's tokens first, then the latent ones. -/
def bothRow (a b : Fin 8192 → Fin 1024 → EReal) (c d : Fin 16384 → Fin 1024 → EReal) (r : Fin 24576) (j : Fin 1024) : EReal :=
  if h : (r : ℕ) < 8192 then a ⟨r, h⟩ j + b ⟨r, h⟩ j else c ⟨r - 8192, by omega⟩ j + d ⟨r - 8192, by omega⟩ j

/-- The request a token's modulation is of: the context's, or that of its latent sequence of 4096 tokens. -/
def request (r : Fin 24576) : Fin 8 := ⟨if (r : ℕ) < 8192 then 0 else 1 + (r - 8192) / 4096, by split <;> omega⟩

end Cert.Mixer

end
-- ==== Proof.MixBlock.lean ====
/- What one grid point of the mixer's last kernel stores. A point's 256 rows are worked in two halves. -/
module

public import proofs.«01_k».proof.Proof.Gen.MixIdeal.Value
public import proofs.«01_k».proof.Proof.MixMath
public import Idealize.ShloMosaic.Lib.Pipeline.ValueKit
public import Idealize.ShloMosaic.Lib.Pipeline.ReadBack

@[expose] public section

set_option maxRecDepth 16384

noncomputable section

namespace Cert.MixIdeal.Hand

open Cert.MixIdeal Cert.MixIdeal.Gen Idealize.ShloMosaic Idealize.ShloMosaic.TcCoe Idealize.SL.Sem
open Cert.Mixer

/-- Both directions' outputs at row `r` of a block, of the context's or of the latent tokens' scans. -/
def both (v0 : BitVec 1) (a b c d : Vec Ideal S256x1024 .f32) (r : Fin 256) (j : Fin 1024) : EReal :=
  Scalar.select v0 (a (ix2 r j) + b (ix2 r j)) (c (ix2 r j) + d (ix2 r j))

/-- Whether a point's rows are the context's. -/
abbrev isCtx (i : grid0.Coords) : BitVec 1 := Scalar.cmpi .slt (BitVec.ofNat 32 (i 0).val) 32#32

theorem retIn_at (o g : Fin 1024 → EReal) (h : Fin 4) (e : Fin 256) (j : Fin 1024) (hj : (j : ℕ) = 256 * h + e) :
    retIn o g j = groupNorm (head (n := 4) (l := 256) rfl o h) e * silu (g j) := by
  unfold retIn
  congr 2
  · congr 1; exact Fin.ext (by show (j : ℕ) / 256 = h; omega)
  · exact Fin.ext (by show (j : ℕ) % 256 = e; omega)

theorem hgIn_at (o g : Fin 1024 → EReal) (h : Fin 8) (e : Fin 128) (j : Fin 1024) (hj : (j : ℕ) = 128 * h + e) :
    hgIn o g j = rms c128 (head (n := 8) (l := 128) rfl o h) e * silu (g j) := by
  unfold hgIn
  congr 2
  · congr 1; exact Fin.ext (by show (j : ℕ) / 128 = h; omega)
  · exact Fin.ext (by show (j : ℕ) % 128 = e; omega)

/-- The retention's rows of a block's first half. -/
def retUpper (i : grid0.Coords) (x0 x1 x4 x5 x8 : Vec Ideal S256x1024 .f32) : FVec Ideal S128x1024 .f32 :=
  k0_pay10 (isCtx i) (k0_pay4 i (View.ld x0 r0_0) (View.ld x1 r0_0) (View.ld x4 r0_0) (View.ld x5 r0_0)) (k0_pay7 (k0_pay5 i (View.ld x0 r0_1) (View.ld x1 r0_1) (View.ld x4 r0_1) (View.ld x5 r0_1)) (k0_pay6 i (View.ld x0 r0_1) (View.ld x1 r0_1) (View.ld x4 r0_1) (View.ld x5 r0_1))) (k0_pay8 (isCtx i) (View.ld x0 r0_2) (View.ld x1 r0_2) (View.ld x4 r0_2) (View.ld x5 r0_2)) (k0_pay9 (View.ld x0 r0_3) (View.ld x1 r0_3)) (View.ld x4 r0_3) (View.ld x5 r0_3) (View.ld x8 r0_4)

theorem ret_upper (i : grid0.Coords) (x0 x1 x4 x5 x8 : Vec Ideal S256x1024 .f32) (r : Fin 128) (j : Fin 1024) :
    retUpper i x0 x1 x4 x5 x8 (ix2 r j) = retIn (both (isCtx i) x0 x1 x4 x5 ⟨r, by omega⟩) (fun j => x8 (ix2 ⟨r, by omega⟩ j)) j := by
  unfold retUpper
  open_payloads
  obtain ⟨h, e, hj⟩ : ∃ (h : Fin 4) (e : Fin 256), (j : ℕ) = 256 * h + e := ⟨⟨j / 256, by omega⟩, ⟨j % 256, by omega⟩, by simp; omega⟩
  rw [retIn_at _ _ h e j hj]
  unfold groupNorm rms mean head both silu c256 eps
  pointwise
  have he := e.isLt
  split_ifs
  all_goals first
    | (rename_i hn; exact absurd rfl hn)
    | (have hh : (h : ℕ) = 0 := by omega
       blk_point [hj, hh])
    | (have hh : (h : ℕ) = 1 := by omega
       blk_point [hj, hh])
    | (have hh : (h : ℕ) = 2 := by omega
       blk_point [hj, hh])
    | (have hh : (h : ℕ) = 3 := by omega
       blk_point [hj, hh])

/-- The recurrence's rows of a block's first half. -/
def hgUpper (i : grid0.Coords) (x2 x3 x6 x7 x9 : Vec Ideal S256x1024 .f32) : FVec Ideal S128x1024 .f32 :=
  k0_pay21 (isCtx i) (k0_pay13 (k0_pay11 (isCtx i) (View.ld x2 r0_5) (View.ld x3 r0_5) (View.ld x6 r0_5) (View.ld x7 r0_5)) (k0_pay12 (isCtx i) (View.ld x2 r0_5) (View.ld x3 r0_5) (View.ld x6 r0_5) (View.ld x7 r0_5))) (k0_pay14 (isCtx i) (View.ld x2 r0_6) (View.ld x3 r0_6) (View.ld x6 r0_6) (View.ld x7 r0_6)) (k0_pay15 (isCtx i) (View.ld x2 r0_7) (View.ld x3 r0_7) (View.ld x6 r0_7) (View.ld x7 r0_7)) (k0_pay16 (isCtx i) (View.ld x2 r0_8) (View.ld x3 r0_8) (View.ld x6 r0_8) (View.ld x7 r0_8)) (k0_pay17 (isCtx i) (View.ld x2 r0_9) (View.ld x3 r0_9) (View.ld x6 r0_9) (View.ld x7 r0_9)) (k0_pay18 (isCtx i) (View.ld x2 r0_10) (View.ld x3 r0_10) (View.ld x6 r0_10) (View.ld x7 r0_10)) (k0_pay19 (isCtx i) (View.ld x2 r0_11) (View.ld x3 r0_11) (View.ld x6 r0_11) (View.ld x7 r0_11)) (k0_pay20 (View.ld x2 r0_12) (View.ld x3 r0_12)) (View.ld x6 r0_12) (View.ld x7 r0_12) (View.ld x9 r0_4)

theorem hg_upper (i : grid0.Coords) (x2 x3 x6 x7 x9 : Vec Ideal S256x1024 .f32) (r : Fin 128) (j : Fin 1024) :
    hgUpper i x2 x3 x6 x7 x9 (ix2 r j) = hgIn (both (isCtx i) x2 x3 x6 x7 ⟨r, by omega⟩) (fun j => x9 (ix2 ⟨r, by omega⟩ j)) j := by
  unfold hgUpper
  open_payloads
  obtain ⟨h, e, hj⟩ : ∃ (h : Fin 8) (e : Fin 128), (j : ℕ) = 128 * h + e := ⟨⟨j / 128, by omega⟩, ⟨j % 128, by omega⟩, by simp; omega⟩
  rw [hgIn_at _ _ h e j hj]
  unfold rms mean head both silu c128 eps
  pointwise
  have he := e.isLt
  split_ifs
  all_goals first
    | (rename_i hn; exact absurd rfl hn)
    | (have hh : (h : ℕ) = 0 := by omega
       blk_point [hj, hh])
    | (have hh : (h : ℕ) = 1 := by omega
       blk_point [hj, hh])
    | (have hh : (h : ℕ) = 2 := by omega
       blk_point [hj, hh])
    | (have hh : (h : ℕ) = 3 := by omega
       blk_point [hj, hh])
    | (have hh : (h : ℕ) = 4 := by omega
       blk_point [hj, hh])
    | (have hh : (h : ℕ) = 5 := by omega
       blk_point [hj, hh])
    | (have hh : (h : ℕ) = 6 := by omega
       blk_point [hj, hh])
    | (have hh : (h : ℕ) = 7 := by omega
       blk_point [hj, hh])

/-- The retention's rows of a block's second half. -/
def retLower (i : grid0.Coords) (x0 x1 x4 x5 x8 : Vec Ideal S256x1024 .f32) : FVec Ideal S128x1024 .f32 :=
  k0_pay28 (isCtx i) (k0_pay24 (k0_pay22 (isCtx i) (View.ld x0 r0_13) (View.ld x1 r0_13) (View.ld x4 r0_13) (View.ld x5 r0_13)) (k0_pay23 (isCtx i) (View.ld x0 r0_13) (View.ld x1 r0_13) (View.ld x4 r0_13) (View.ld x5 r0_13))) (k0_pay25 (isCtx i) (View.ld x0 r0_14) (View.ld x1 r0_14) (View.ld x4 r0_14) (View.ld x5 r0_14)) (k0_pay26 (isCtx i) (View.ld x0 r0_15) (View.ld x1 r0_15) (View.ld x4 r0_15) (View.ld x5 r0_15)) (k0_pay27 (isCtx i) (View.ld x0 r0_15) (View.ld x1 r0_15) (View.ld x4 r0_15) (View.ld x5 r0_15)) (View.ld x0 r0_16) (View.ld x1 r0_16) (View.ld x4 r0_16) (View.ld x5 r0_16) (View.ld x8 r0_17)

theorem ret_lower (i : grid0.Coords) (x0 x1 x4 x5 x8 : Vec Ideal S256x1024 .f32) (r : Fin 128) (j : Fin 1024) :
    retLower i x0 x1 x4 x5 x8 (ix2 r j) = retIn (both (isCtx i) x0 x1 x4 x5 ⟨128 + r, by omega⟩) (fun j => x8 (ix2 ⟨128 + r, by omega⟩ j)) j := by
  unfold retLower
  open_payloads
  obtain ⟨h, e, hj⟩ : ∃ (h : Fin 4) (e : Fin 256), (j : ℕ) = 256 * h + e := ⟨⟨j / 256, by omega⟩, ⟨j % 256, by omega⟩, by simp; omega⟩
  rw [retIn_at _ _ h e j hj]
  unfold groupNorm rms mean head both silu c256 eps
  pointwise
  have he := e.isLt
  split_ifs
  all_goals first
    | (rename_i hn; exact absurd rfl hn)
    | (have hh : (h : ℕ) = 0 := by omega
       blk_point [hj, hh])
    | (have hh : (h : ℕ) = 1 := by omega
       blk_point [hj, hh])
    | (have hh : (h : ℕ) = 2 := by omega
       blk_point [hj, hh])
    | (have hh : (h : ℕ) = 3 := by omega
       blk_point [hj, hh])

/-- The recurrence's rows of a block's second half. -/
def hgLower (i : grid0.Coords) (x2 x3 x6 x7 x9 : Vec Ideal S256x1024 .f32) : FVec Ideal S128x1024 .f32 :=
  k0_pay37 (isCtx i) (k0_pay29 (isCtx i) (View.ld x2 r0_18) (View.ld x3 r0_18) (View.ld x6 r0_18) (View.ld x7 r0_18)) (k0_pay30 (isCtx i) (View.ld x2 r0_19) (View.ld x3 r0_19) (View.ld x6 r0_19) (View.ld x7 r0_19)) (k0_pay31 (isCtx i) (View.ld x2 r0_20) (View.ld x3 r0_20) (View.ld x6 r0_20) (View.ld x7 r0_20)) (k0_pay32 (isCtx i) (View.ld x2 r0_21) (View.ld x3 r0_21) (View.ld x6 r0_21) (View.ld x7 r0_21)) (k0_pay34 (isCtx i) (k0_pay33 (View.ld x2 r0_22) (View.ld x3 r0_22)) (View.ld x6 r0_22) (View.ld x7 r0_22)) (k0_pay35 (isCtx i) (View.ld x2 r0_23) (View.ld x3 r0_23) (View.ld x6 r0_23) (View.ld x7 r0_23)) (k0_pay36 (View.ld x2 r0_24) (View.ld x3 r0_24)) (View.ld x6 r0_24) (View.ld x7 r0_24) (View.ld x2 r0_25) (View.ld x3 r0_25) (View.ld x6 r0_25) (View.ld x7 r0_25) (View.ld x9 r0_17)

theorem hg_lower (i : grid0.Coords) (x2 x3 x6 x7 x9 : Vec Ideal S256x1024 .f32) (r : Fin 128) (j : Fin 1024) :
    hgLower i x2 x3 x6 x7 x9 (ix2 r j) = hgIn (both (isCtx i) x2 x3 x6 x7 ⟨128 + r, by omega⟩) (fun j => x9 (ix2 ⟨128 + r, by omega⟩ j)) j := by
  unfold hgLower
  open_payloads
  obtain ⟨h, e, hj⟩ : ∃ (h : Fin 8) (e : Fin 128), (j : ℕ) = 128 * h + e := ⟨⟨j / 128, by omega⟩, ⟨j % 128, by omega⟩, by simp; omega⟩
  rw [hgIn_at _ _ h e j hj]
  unfold rms mean head both silu c128 eps
  pointwise
  have he := e.isLt
  split_ifs
  all_goals first
    | (rename_i hn; exact absurd rfl hn)
    | (have hh : (h : ℕ) = 0 := by omega
       blk_point [hj, hh])
    | (have hh : (h : ℕ) = 1 := by omega
       blk_point [hj, hh])
    | (have hh : (h : ℕ) = 2 := by omega
       blk_point [hj, hh])
    | (have hh : (h : ℕ) = 3 := by omega
       blk_point [hj, hh])
    | (have hh : (h : ℕ) = 4 := by omega
       blk_point [hj, hh])
    | (have hh : (h : ℕ) = 5 := by omega
       blk_point [hj, hh])
    | (have hh : (h : ℕ) = 6 := by omega
       blk_point [hj, hh])
    | (have hh : (h : ℕ) = 7 := by omega
       blk_point [hj, hh])

end Cert.MixIdeal.Hand

end
-- ==== Proof.MixPoint.lean ====
/- The token and the normalised token one grid point of the mixer's last kernel stores. -/
module

public import proofs.«01_k».proof.Proof.MixBlock

@[expose] public section

set_option maxRecDepth 16384

noncomputable section

namespace Cert.MixIdeal.Hand

open Cert.MixIdeal Cert.MixIdeal.Gen Idealize.ShloMosaic Idealize.ShloMosaic.TcCoe Idealize.SL.Sem
open Cert.Mixer

/-- The mixer's output for row `r` of a point's blocks. -/
def mixRow (i : grid0.Coords) (x0 x1 x2 x3 x4 x5 x6 x7 x8 x9 : Vec Ideal S256x1024 .f32) (x10 : Vec Ideal S256x1024 .bf16)
    (x14 x15 : Vec Ideal S1024x1024 .bf16) (x16 : Vec Ideal S1024x2048 .bf16) (x17 : Vec Ideal S1024x1024 .bf16)
    (r : Fin 256) : Fin 1024 → EReal :=
  mixed (retIn (both (isCtx i) x0 x1 x4 x5 r) fun j => x8 (ix2 r j)) (hgIn (both (isCtx i) x2 x3 x6 x7 r) fun j => x9 (ix2 r j))
    (fun k => x10 (ix2 r k)) (fun k j => x14 (ix2 k j)) (fun k j => x15 (ix2 k j)) (fun k j => x16 (ix2 k j))
    fun k j => x17 (ix2 k j)

theorem mix_upper (i : grid0.Coords) (x0 x1 x2 x3 x4 x5 x6 x7 x8 x9 : Vec Ideal S256x1024 .f32) (x10 : Vec Ideal S256x1024 .bf16)
    (x11 : Vec Ideal S256x1024 .f32) (x12 : Vec Ideal S1x1x6144 .f32) (x13 : Vec Ideal S1x1024 .f32)
    (x14 x15 : Vec Ideal S1024x1024 .bf16) (x16 : Vec Ideal S1024x2048 .bf16) (x17 : Vec Ideal S1024x1024 .bf16)
    (x18 : Vec Ideal S2x16x1024 .bf16) (r : Fin 128) (j : Fin 1024) :
    k0_pay50 i x0 x1 x2 x3 x4 x5 x6 x7 x8 x9 x10 x11 x12 x13 x14 x15 x16 x17 x18 (ix2 r j)
      = mixRow i x0 x1 x2 x3 x4 x5 x6 x7 x8 x9 x10 x14 x15 x16 x17 ⟨r, by omega⟩ j := by
  change k0_pay39 (hgUpper i x2 x3 x6 x7 x9) (k0_pay38 (retUpper i x0 x1 x4 x5 x8) (View.ld x14 r0_26)) (View.ld x15 r0_26)
    (View.ld x10 r0_4) (View.ld x16 r0_27) (View.ld x17 r0_26) (ix2 r j) = _
  unfold mixRow mixed
  pointwise [k0_pay39, k0_pay38]
  simp only [ret_upper, hg_upper]

theorem mix_lower (i : grid0.Coords) (x0 x1 x2 x3 x4 x5 x6 x7 x8 x9 : Vec Ideal S256x1024 .f32) (x10 : Vec Ideal S256x1024 .bf16)
    (x11 : Vec Ideal S256x1024 .f32) (x12 : Vec Ideal S1x1x6144 .f32) (x13 : Vec Ideal S1x1024 .f32)
    (x14 x15 : Vec Ideal S1024x1024 .bf16) (x16 : Vec Ideal S1024x2048 .bf16) (x17 : Vec Ideal S1024x1024 .bf16)
    (x18 : Vec Ideal S2x16x1024 .bf16) (r : Fin 128) (j : Fin 1024) :
    k0_pay51 i x0 x1 x2 x3 x4 x5 x6 x7 x8 x9 x10 x11 x12 x13 x14 x15 x16 x17 x18 (ix2 r j)
      = mixRow i x0 x1 x2 x3 x4 x5 x6 x7 x8 x9 x10 x14 x15 x16 x17 ⟨128 + r, by omega⟩ j := by
  change k0_pay40 (retLower i x0 x1 x4 x5 x8) (hgLower i x2 x3 x6 x7 x9) (View.ld x14 r0_26) (View.ld x15 r0_26)
    (View.ld x10 r0_17) (View.ld x16 r0_27) (View.ld x17 r0_26) (ix2 r j) = _
  unfold mixRow mixed
  pointwise [k0_pay40]
  simp only [ret_lower, hg_lower]

/-- The gate, the scale and the shift among a request's modulation. -/
def gateOf (x12 : Vec Ideal S1x1x6144 .f32) (j : Fin 1024) : EReal := x12 (ix3 0 0 ⟨2048 + j, by omega⟩)
def scaleOf (x12 : Vec Ideal S1x1x6144 .f32) (j : Fin 1024) : EReal := x12 (ix3 0 0 ⟨4096 + j, by omega⟩)
def shiftOf (x12 : Vec Ideal S1x1x6144 .f32) (j : Fin 1024) : EReal := x12 (ix3 0 0 ⟨3072 + j, by omega⟩)

theorem token_upper (v : FVec Ideal S128x1024 .f32) (x11 : Vec Ideal S256x1024 .f32) (x12 : Vec Ideal S1x1x6144 .f32)
    (r : Fin 128) (j : Fin 1024) :
    k0_pay43 v (View.ld x11 r0_4) (View.ld x12 r0_30) (ix2 r j)
      = token (fun k => x11 (ix2 ⟨r, by omega⟩ k)) (gateOf x12) (fun k => v (ix2 r k)) j := by
  unfold token gateOf
  pointwise [k0_pay43]

theorem token_lower (v : FVec Ideal S128x1024 .f32) (x11 : Vec Ideal S256x1024 .f32) (x12 : Vec Ideal S1x1x6144 .f32)
    (r : Fin 128) (j : Fin 1024) :
    k0_pay47 v (View.ld x11 r0_17) (View.ld x12 r0_30) (ix2 r j)
      = token (fun k => x11 (ix2 ⟨128 + r, by omega⟩ k)) (gateOf x12) (fun k => v (ix2 r k)) j := by
  unfold token gateOf
  pointwise [k0_pay47]

theorem modulated_upper (v : FVec Ideal S128x1024 .f32) (x11 : Vec Ideal S256x1024 .f32) (x12 : Vec Ideal S1x1x6144 .f32)
    (x13 : Vec Ideal S1x1024 .f32) (r : Fin 128) (j : Fin 1024) :
    k0_pay45 (k0_pay44 v (View.ld x11 r0_4) (View.ld x12 r0_30) (View.ld x13 r0_31) (View.ld x12 r0_32) (View.ld x12 r0_33)) (ix2 r j)
      = modulated (token (fun k => x11 (ix2 ⟨r, by omega⟩ k)) (gateOf x12) fun k => v (ix2 r k)) (fun k => x13 (ix2 0 k))
          (scaleOf x12) (shiftOf x12) j := by
  unfold modulated rms mean c1024 eps scaleOf shiftOf
  simp only [← token_upper]
  generalize hq : k0_pay43 v (View.ld x11 r0_4) (View.ld x12 r0_30) = q
  pointwise [k0_pay45, k0_pay44]
  rw [hq]

theorem modulated_lower (v : FVec Ideal S128x1024 .f32) (x11 : Vec Ideal S256x1024 .f32) (x12 : Vec Ideal S1x1x6144 .f32)
    (x13 : Vec Ideal S1x1024 .f32) (r : Fin 128) (j : Fin 1024) :
    k0_pay2 (k0_pay48 v (View.ld x11 r0_17) (View.ld x12 r0_30) (View.ld x13 r0_31)) (k0_pay49 (View.ld x12 r0_32)) (View.ld x12 r0_33)
        (ix2 r j)
      = modulated (token (fun k => x11 (ix2 ⟨128 + r, by omega⟩ k)) (gateOf x12) fun k => v (ix2 r k)) (fun k => x13 (ix2 0 k))
          (scaleOf x12) (shiftOf x12) j := by
  unfold modulated rms mean c1024 eps scaleOf shiftOf
  simp only [← token_lower]
  generalize hq : k0_pay47 v (View.ld x11 r0_17) (View.ld x12 r0_30) = q
  pointwise [k0_pay2, k0_pay1, k0_pay48, k0_pay49]
  rw [hq]

section
variable (i : grid0.Coords) (x0 x1 x2 x3 x4 x5 x6 x7 x8 x9 : Vec Ideal S256x1024 .f32) (x10 : Vec Ideal S256x1024 .bf16)
    (x11 : Vec Ideal S256x1024 .f32) (x12 : Vec Ideal S1x1x6144 .f32) (x13 : Vec Ideal S1x1024 .f32)
    (x14 x15 : Vec Ideal S1024x1024 .bf16) (x16 : Vec Ideal S1024x2048 .bf16) (x17 : Vec Ideal S1024x1024 .bf16)
    (x18 : Vec Ideal S2x16x1024 .bf16)

/-- The first output's block. -/
theorem out_token (r : Fin 256) (j : Fin 1024) :
    out0_19 i x0 x1 x2 x3 x4 x5 x6 x7 x8 x9 x10 x11 x12 x13 x14 x15 x16 x17 x18 (ix2 r j)
      = token (fun k => x11 (ix2 r k)) (gateOf x12) (mixRow i x0 x1 x2 x3 x4 x5 x6 x7 x8 x9 x10 x14 x15 x16 x17 r) j := by
  unfold out0_19
  canon_tiles x g
  all_goals
    obtain rfl : j = x 1 := Fin.ext (by simp at *; omega)
    idx_vars x
  · have hb : 128 + (x0 : ℕ) < 256 := by omega
    obtain rfl : r = ⟨128 + x0, hb⟩ := Fin.ext g0
    refine (token_lower ..).trans ?_
    simp only [mix_lower]
  · have hb : (x0 : ℕ) < 256 := by omega
    obtain rfl : r = ⟨x0, hb⟩ := Fin.ext g0
    refine (token_upper ..).trans ?_
    simp only [mix_upper]

/-- The second output's block. -/
theorem out_modulated (r : Fin 256) (j : Fin 1024) :
    out0_20 i x0 x1 x2 x3 x4 x5 x6 x7 x8 x9 x10 x11 x12 x13 x14 x15 x16 x17 x18 (ix2 r j)
      = modulated (token (fun k => x11 (ix2 r k)) (gateOf x12) (mixRow i x0 x1 x2 x3 x4 x5 x6 x7 x8 x9 x10 x14 x15 x16 x17 r))
          (fun k => x13 (ix2 0 k)) (scaleOf x12) (shiftOf x12) j := by
  unfold out0_20
  canon_tiles x g
  all_goals
    obtain rfl : j = x 1 := Fin.ext (by simp at *; omega)
    idx_vars x
  · have hb : 128 + (x0 : ℕ) < 256 := by omega
    obtain rfl : r = ⟨128 + x0, hb⟩ := Fin.ext g0
    refine (modulated_lower ..).trans ?_
    simp only [mix_lower]
  · have hb : (x0 : ℕ) < 256 := by omega
    obtain rfl : r = ⟨x0, hb⟩ := Fin.ext g0
    refine (modulated_upper ..).trans ?_
    simp only [mix_upper]

end

end Cert.MixIdeal.Hand

end
-- ==== Proof.MixArray.lean ====
/- What the two result arrays of the mixer's last kernel hold when the grid is done, as functions of the arguments. -/
module

public import proofs.«01_k».proof.Proof.MixPoint

@[expose] public section

set_option maxRecDepth 16384

noncomputable section

namespace Cert.MixIdeal.Hand

open Cert.MixIdeal Cert.MixIdeal.Gen Idealize.ShloMosaic Idealize.ShloMosaic.TcCoe Idealize.SL.Sem
open Cert.Mixer

/-- Each window's block at a point: the context's blocks stand still once they are done, the latent tokens' begin then. -/
theorem idx : ∀ t : Fin cfg0.N, win0_0.index t = ![min t.val 31, 0] ∧ win0_1.index t = ![min t.val 31, 0]
    ∧ win0_2.index t = ![min t.val 31, 0] ∧ win0_3.index t = ![min t.val 31, 0]
    ∧ win0_4.index t = ![t.val - 32, 0] ∧ win0_5.index t = ![t.val - 32, 0]
    ∧ win0_6.index t = ![t.val - 32, 0] ∧ win0_7.index t = ![t.val - 32, 0]
    ∧ win0_8.index t = ![t.val, 2] ∧ win0_9.index t = ![t.val, 7] ∧ win0_10.index t = ![t.val, 0] ∧ win0_11.index t = ![t.val, 0]
    ∧ win0_12.index t = ![if t.val < 32 then 0 else 1 + (t.val - 32) / 16, 0, 0] :=
  (by decide +kernel : ∀ t : Fin grid0.N, _)

/-- The windows that stay where they are. -/
theorem idx_fixed : ∀ t : Fin cfg0.N, win0_13.index t = ![0, 0] ∧ win0_14.index t = ![0, 0] ∧ win0_15.index t = ![0, 0]
    ∧ win0_16.index t = ![0, 0] ∧ win0_17.index t = ![0, 0] ∧ win0_19.index t = ![t.val, 0] ∧ win0_20.index t = ![t.val, 0]
    ∧ isCtx (grid0.coords t) = (if t.val < 32 then 1#1 else 0#1) :=
  (by decide +kernel : ∀ t : Fin grid0.N, _)

section

variable (m : (ℓ : Loc nD τ sig) → Buf (Elt Ideal) ℓ)

/-- The arguments of the run. -/
abbrev arg0 (c : Dev nD) : FVec Ideal S8192x1024 .f32 := m ((c.tc : Thread nD τ).loc main_arg0)
abbrev arg1 (c : Dev nD) : FVec Ideal S8192x1024 .f32 := m ((c.tc : Thread nD τ).loc main_arg1)
abbrev arg2 (c : Dev nD) : FVec Ideal S8192x1024 .f32 := m ((c.tc : Thread nD τ).loc main_arg2)
abbrev arg3 (c : Dev nD) : FVec Ideal S8192x1024 .f32 := m ((c.tc : Thread nD τ).loc main_arg3)
abbrev arg4 (c : Dev nD) : FVec Ideal S16384x1024 .f32 := m ((c.tc : Thread nD τ).loc main_arg4)
abbrev arg5 (c : Dev nD) : FVec Ideal S16384x1024 .f32 := m ((c.tc : Thread nD τ).loc main_arg5)
abbrev arg6 (c : Dev nD) : FVec Ideal S16384x1024 .f32 := m ((c.tc : Thread nD τ).loc main_arg6)
abbrev arg7 (c : Dev nD) : FVec Ideal S16384x1024 .f32 := m ((c.tc : Thread nD τ).loc main_arg7)
abbrev arg8 (c : Dev nD) : FVec Ideal S24576x8192 .f32 := m ((c.tc : Thread nD τ).loc main_arg8)
abbrev arg9 (c : Dev nD) : FVec Ideal S24576x1024 .bf16 := m ((c.tc : Thread nD τ).loc main_arg9)
abbrev arg10 (c : Dev nD) : FVec Ideal S24576x1024 .f32 := m ((c.tc : Thread nD τ).loc main_arg10)
abbrev arg11 (c : Dev nD) : FVec Ideal S8x1x6144 .f32 := m ((c.tc : Thread nD τ).loc main_arg11)
abbrev arg12 (c : Dev nD) : FVec Ideal S1024 .f32 := m ((c.tc : Thread nD τ).loc main_arg12)
abbrev arg13 (c : Dev nD) : FVec Ideal S1024x1024 .f32 := m ((c.tc : Thread nD τ).loc main_arg13)
abbrev arg14 (c : Dev nD) : FVec Ideal S1024x1024 .f32 := m ((c.tc : Thread nD τ).loc main_arg14)
abbrev arg15 (c : Dev nD) : FVec Ideal S1024x2048 .f32 := m ((c.tc : Thread nD τ).loc main_arg15)
abbrev arg16 (c : Dev nD) : FVec Ideal S1024x1024 .f32 := m ((c.tc : Thread nD τ).loc main_arg16)

/-- A point's blocks. -/
abbrev blk0 (c : Dev nD) (t : Fin cfg0.N) : FVec Ideal S256x1024 .f32 := iblk m c 0 t
abbrev blk1 (c : Dev nD) (t : Fin cfg0.N) : FVec Ideal S256x1024 .f32 := iblk m c 1 t
abbrev blk2 (c : Dev nD) (t : Fin cfg0.N) : FVec Ideal S256x1024 .f32 := iblk m c 2 t
abbrev blk3 (c : Dev nD) (t : Fin cfg0.N) : FVec Ideal S256x1024 .f32 := iblk m c 3 t
abbrev blk4 (c : Dev nD) (t : Fin cfg0.N) : FVec Ideal S256x1024 .f32 := iblk m c 4 t
abbrev blk5 (c : Dev nD) (t : Fin cfg0.N) : FVec Ideal S256x1024 .f32 := iblk m c 5 t
abbrev blk6 (c : Dev nD) (t : Fin cfg0.N) : FVec Ideal S256x1024 .f32 := iblk m c 6 t
abbrev blk7 (c : Dev nD) (t : Fin cfg0.N) : FVec Ideal S256x1024 .f32 := iblk m c 7 t
abbrev blk8 (c : Dev nD) (t : Fin cfg0.N) : FVec Ideal S256x1024 .f32 := iblk m c 8 t
abbrev blk9 (c : Dev nD) (t : Fin cfg0.N) : FVec Ideal S256x1024 .f32 := iblk m c 9 t
abbrev blk10 (c : Dev nD) (t : Fin cfg0.N) : FVec Ideal S256x1024 .bf16 := iblk m c 10 t
abbrev blk11 (c : Dev nD) (t : Fin cfg0.N) : FVec Ideal S256x1024 .f32 := iblk m c 11 t
abbrev blk12 (c : Dev nD) (t : Fin cfg0.N) : FVec Ideal S1x1x6144 .f32 := iblk m c 12 t
abbrev blk13 (c : Dev nD) (t : Fin cfg0.N) : FVec Ideal S1x1024 .f32 := iblk m c 13 t
abbrev blk14 (c : Dev nD) (t : Fin cfg0.N) : FVec Ideal S1024x1024 .bf16 := iblk m c 14 t
abbrev blk15 (c : Dev nD) (t : Fin cfg0.N) : FVec Ideal S1024x1024 .bf16 := iblk m c 15 t
abbrev blk16 (c : Dev nD) (t : Fin cfg0.N) : FVec Ideal S1024x2048 .bf16 := iblk m c 16 t
abbrev blk17 (c : Dev nD) (t : Fin cfg0.N) : FVec Ideal S1024x1024 .bf16 := iblk m c 17 t

theorem row8 (c : Dev nD) (t : Fin cfg0.N) (i : Fin 256) (j : Fin 1024) (r : Fin 24576) (hr : (r : ℕ) = 256 * t.val + i) :
    blk8 m c t (ix2 i j) = arg8 m c (ix2 r ⟨2048 + j, by omega⟩) := by
  obtain ⟨i0, i1, i2, i3, i4, i5, i6, i7, i8, i9, i10, i11, i12⟩ := idx t
  blk_ext [iblk, V_main_arg8, i8, hr]

theorem row9 (c : Dev nD) (t : Fin cfg0.N) (i : Fin 256) (j : Fin 1024) (r : Fin 24576) (hr : (r : ℕ) = 256 * t.val + i) :
    blk9 m c t (ix2 i j) = arg8 m c (ix2 r ⟨7168 + j, by omega⟩) := by
  obtain ⟨i0, i1, i2, i3, i4, i5, i6, i7, i8, i9, i10, i11, i12⟩ := idx t
  blk_ext [iblk, V_main_arg8, i9, hr]

theorem row10 (c : Dev nD) (t : Fin cfg0.N) (i : Fin 256) (j : Fin 1024) (r : Fin 24576) (hr : (r : ℕ) = 256 * t.val + i) :
    blk10 m c t (ix2 i j) = arg9 m c (ix2 r j) := by
  obtain ⟨i0, i1, i2, i3, i4, i5, i6, i7, i8, i9, i10, i11, i12⟩ := idx t
  blk_ext [iblk, V_main_arg9, i10, hr]

theorem row11 (c : Dev nD) (t : Fin cfg0.N) (i : Fin 256) (j : Fin 1024) (r : Fin 24576) (hr : (r : ℕ) = 256 * t.val + i) :
    blk11 m c t (ix2 i j) = arg10 m c (ix2 r j) := by
  obtain ⟨i0, i1, i2, i3, i4, i5, i6, i7, i8, i9, i10, i11, i12⟩ := idx t
  blk_ext [iblk, V_main_arg10, i11, hr]

theorem fixed14 (c : Dev nD) (t : Fin cfg0.N) : blk14 m c t = arg13 m c := by
  obtain ⟨i13, i14, i15, i16, i17, i19, i20, ic⟩ := idx_fixed t
  have hV : ∀ j, V m c main_v8 j = (arg13 m c) j := by
    intro j
    entry_read
    rfl
  funext j
  idx_vars j
  refine Eq.trans ?_ (hV (ix2 j0 j1))
  show V m c main_v8 _ = V m c main_v8 (ix2 j0 j1)
  generalize V m c main_v8 = X
  blk_ext [i14]

theorem fixed15 (c : Dev nD) (t : Fin cfg0.N) : blk15 m c t = arg14 m c := by
  obtain ⟨i13, i14, i15, i16, i17, i19, i20, ic⟩ := idx_fixed t
  have hV : ∀ j, V m c main_v9 j = (arg14 m c) j := by
    intro j
    entry_read
    rfl
  funext j
  idx_vars j
  refine Eq.trans ?_ (hV (ix2 j0 j1))
  show V m c main_v9 _ = V m c main_v9 (ix2 j0 j1)
  generalize V m c main_v9 = X
  blk_ext [i15]

theorem fixed16 (c : Dev nD) (t : Fin cfg0.N) : blk16 m c t = arg15 m c := by
  obtain ⟨i13, i14, i15, i16, i17, i19, i20, ic⟩ := idx_fixed t
  have hV : ∀ j, V m c main_v10 j = (arg15 m c) j := by
    intro j
    entry_read
    rfl
  funext j
  idx_vars j
  refine Eq.trans ?_ (hV (ix2 j0 j1))
  show V m c main_v10 _ = V m c main_v10 (ix2 j0 j1)
  generalize V m c main_v10 = X
  blk_ext [i16]

theorem fixed17 (c : Dev nD) (t : Fin cfg0.N) : blk17 m c t = arg16 m c := by
  obtain ⟨i13, i14, i15, i16, i17, i19, i20, ic⟩ := idx_fixed t
  have hV : ∀ j, V m c main_v11 j = (arg16 m c) j := by
    intro j
    entry_read
    rfl
  funext j
  idx_vars j
  refine Eq.trans ?_ (hV (ix2 j0 j1))
  show V m c main_v11 _ = V m c main_v11 (ix2 j0 j1)
  generalize V m c main_v11 = X
  blk_ext [i17]

theorem both_ret (c : Dev nD) (t : Fin cfg0.N) (i : Fin 256) (r : Fin 24576) (hr : (r : ℕ) = 256 * t.val + i) :
    both (isCtx (grid0.coords t)) (blk0 m c t) (blk1 m c t) (blk4 m c t) (blk5 m c t) i
      = bothRow (fun r j => arg0 m c (ix2 r j)) (fun r j => arg1 m c (ix2 r j)) (fun r j => arg4 m c (ix2 r j)) (fun r j => arg5 m c (ix2 r j)) r := by
  obtain ⟨i0, i1, i2, i3, i4, i5, i6, i7, i8, i9, i10, i11, i12⟩ := idx t
  obtain ⟨i13, i14, i15, i16, i17, i19, i20, ic⟩ := idx_fixed t
  have ht : t.val < 96 := t.isLt
  funext j
  unfold both bothRow
  rw [ic]
  by_cases h : t.val < 32
  · rw [if_pos h, dif_pos (by omega)]
    refine congrArg₂ (· + ·) ?_ ?_
    · blk_ext [iblk, V_main_arg0, i0, hr]
    · blk_ext [iblk, V_main_arg1, i1, hr]
  · rw [if_neg h, dif_neg (by omega)]
    refine congrArg₂ (· + ·) ?_ ?_
    · blk_ext [iblk, V_main_arg4, i4, hr]
    · blk_ext [iblk, V_main_arg5, i5, hr]

theorem both_hg (c : Dev nD) (t : Fin cfg0.N) (i : Fin 256) (r : Fin 24576) (hr : (r : ℕ) = 256 * t.val + i) :
    both (isCtx (grid0.coords t)) (blk2 m c t) (blk3 m c t) (blk6 m c t) (blk7 m c t) i
      = bothRow (fun r j => arg2 m c (ix2 r j)) (fun r j => arg3 m c (ix2 r j)) (fun r j => arg6 m c (ix2 r j)) (fun r j => arg7 m c (ix2 r j)) r := by
  obtain ⟨i0, i1, i2, i3, i4, i5, i6, i7, i8, i9, i10, i11, i12⟩ := idx t
  obtain ⟨i13, i14, i15, i16, i17, i19, i20, ic⟩ := idx_fixed t
  have ht : t.val < 96 := t.isLt
  funext j
  unfold both bothRow
  rw [ic]
  by_cases h : t.val < 32
  · rw [if_pos h, dif_pos (by omega)]
    refine congrArg₂ (· + ·) ?_ ?_
    · blk_ext [iblk, V_main_arg2, i2, hr]
    · blk_ext [iblk, V_main_arg3, i3, hr]
  · rw [if_neg h, dif_neg (by omega)]
    refine congrArg₂ (· + ·) ?_ ?_
    · blk_ext [iblk, V_main_arg6, i6, hr]
    · blk_ext [iblk, V_main_arg7, i7, hr]

/-- The modulation of a point's rows. -/
theorem mod_at (c : Dev nD) (t : Fin cfg0.N) (i : Fin 256) (k : Fin 6144) (r : Fin 24576) (hr : (r : ℕ) = 256 * t.val + i) :
    blk12 m c t (ix3 0 0 k) = arg11 m c (ix3 (request r) 0 k) := by
  obtain ⟨i0, i1, i2, i3, i4, i5, i6, i7, i8, i9, i10, i11, i12⟩ := idx t
  have hq : (request r : ℕ) = if t.val < 32 then 0 else 1 + (t.val - 32) / 16 := by
    unfold request
    have := i.isLt
    simp only
    split <;> split <;> omega
  blk_ext [iblk, V_main_arg11, i12, hq]

theorem fixed13 (c : Dev nD) (t : Fin cfg0.N) (k : Fin 1024) : blk13 m c t (ix2 0 k) = arg12 m c (ix1 k) := by
  obtain ⟨i13, i14, i15, i16, i17, i19, i20, ic⟩ := idx_fixed t
  have hV : V m c main_v12 (ix2 0 k) = arg12 m c (ix1 k) := by
    entry_read
    pointwise
  refine Eq.trans ?_ hV
  show V m c main_v12 _ = V m c main_v12 (ix2 0 k)
  generalize V m c main_v12 = X
  blk_ext [i13]

/-- The mixer's output of token `r`. -/
def mixOf (c : Dev nD) (r : Fin 24576) : Fin 1024 → EReal :=
  mixed
    (retIn (bothRow (fun r j => arg0 m c (ix2 r j)) (fun r j => arg1 m c (ix2 r j)) (fun r j => arg4 m c (ix2 r j)) (fun r j => arg5 m c (ix2 r j)) r) fun j => arg8 m c (ix2 r ⟨2048 + j, by omega⟩))
    (hgIn (bothRow (fun r j => arg2 m c (ix2 r j)) (fun r j => arg3 m c (ix2 r j)) (fun r j => arg6 m c (ix2 r j)) (fun r j => arg7 m c (ix2 r j)) r) fun j => arg8 m c (ix2 r ⟨7168 + j, by omega⟩))
    (fun k => arg9 m c (ix2 r k)) (fun k j => arg13 m c (ix2 k j)) (fun k j => arg14 m c (ix2 k j))
    (fun k j => arg15 m c (ix2 k j)) (fun k j => arg16 m c (ix2 k j))

/-- Token `r` after the mixer. -/
def tokenOf (c : Dev nD) (r : Fin 24576) : Fin 1024 → EReal :=
  token (fun k => arg10 m c (ix2 r k)) (fun j => arg11 m c (ix3 (request r) 0 ⟨2048 + j, by omega⟩)) (mixOf m c r)

/-- Token `r` normalised and modulated. -/
def modulatedOf (c : Dev nD) (r : Fin 24576) : Fin 1024 → EReal :=
  modulated (tokenOf m c r) (fun k => arg12 m c (ix1 k)) (fun j => arg11 m c (ix3 (request r) 0 ⟨4096 + j, by omega⟩))
    fun j => arg11 m c (ix3 (request r) 0 ⟨3072 + j, by omega⟩)

theorem mixRow_at (c : Dev nD) (t : Fin cfg0.N) (i : Fin 256) (r : Fin 24576) (hr : (r : ℕ) = 256 * t.val + i) :
    mixRow (grid0.coords t) (blk0 m c t) (blk1 m c t) (blk2 m c t) (blk3 m c t) (blk4 m c t) (blk5 m c t) (blk6 m c t)
      (blk7 m c t) (blk8 m c t) (blk9 m c t) (blk10 m c t) (blk14 m c t) (blk15 m c t) (blk16 m c t) (blk17 m c t) i
      = mixOf m c r := by
  unfold mixRow mixOf
  rw [both_ret m c t i r hr, both_hg m c t i r hr, fixed14 m c t, fixed15 m c t, fixed16 m c t, fixed17 m c t,
    funext fun j => row8 m c t i j r hr, funext fun j => row9 m c t i j r hr, funext fun j => row10 m c t i j r hr]

theorem tokenRow_at (c : Dev nD) (t : Fin cfg0.N) (i : Fin 256) (r : Fin 24576) (hr : (r : ℕ) = 256 * t.val + i) :
    token (fun k => blk11 m c t (ix2 i k)) (gateOf (blk12 m c t))
      (mixRow (grid0.coords t) (blk0 m c t) (blk1 m c t) (blk2 m c t) (blk3 m c t) (blk4 m c t) (blk5 m c t) (blk6 m c t)
      (blk7 m c t) (blk8 m c t) (blk9 m c t) (blk10 m c t) (blk14 m c t) (blk15 m c t) (blk16 m c t) (blk17 m c t) i)
      = tokenOf m c r := by
  unfold tokenOf gateOf
  rw [mixRow_at m c t i r hr, funext fun j => row11 m c t i j r hr, funext fun j : Fin 1024 => mod_at m c t i ⟨2048 + j, by omega⟩ r hr]

theorem modulatedRow_at (c : Dev nD) (t : Fin cfg0.N) (i : Fin 256) (r : Fin 24576) (hr : (r : ℕ) = 256 * t.val + i) (j : Fin 1024) :
    modulated (token (fun k => blk11 m c t (ix2 i k)) (gateOf (blk12 m c t))
      (mixRow (grid0.coords t) (blk0 m c t) (blk1 m c t) (blk2 m c t) (blk3 m c t) (blk4 m c t) (blk5 m c t) (blk6 m c t)
      (blk7 m c t) (blk8 m c t) (blk9 m c t) (blk10 m c t) (blk14 m c t) (blk15 m c t) (blk16 m c t) (blk17 m c t) i))
      (fun k => blk13 m c t (ix2 0 k)) (scaleOf (blk12 m c t)) (shiftOf (blk12 m c t)) j = modulatedOf m c r j := by
  unfold modulatedOf scaleOf shiftOf
  rw [tokenRow_at m c t i r hr, funext fun k => fixed13 m c t k, funext fun j : Fin 1024 => mod_at m c t i ⟨4096 + j, by omega⟩ r hr,
    funext fun j : Fin 1024 => mod_at m c t i ⟨3072 + j, by omega⟩ r hr]

/-- THE TOKENS' ARRAY. -/
theorem final19 (c : Dev nD) : (dats m 0 c).arrAt 19 cfg0.N = fun j => tokenOf m c (j 0) (j 1) := by
  refine (dats m 0 c).arrAt_eq_of_covers 19 _ (by decide +kernel) fun t hf y => ?_
  obtain ⟨i13, i14, i15, i16, i17, i19, i20, ic⟩ := idx_fixed t
  have ht : t.val < 96 := t.isLt
  idx_vars y
  blk_simp
  rw [after0_19]
  obtain ⟨r, hr⟩ : ∃ r : Fin 24576, (r : ℕ) = 256 * t.val + y0 := ⟨⟨_, by omega⟩, rfl⟩
  refine (out_token ..).trans ?_
  refine (congrFun (tokenRow_at m c t y0 r hr) y1).trans ?_
  refine congrArg₂ (tokenOf m c) (Fin.ext ?_) (Fin.ext ?_)
  · blk_simp [i19]
    omega
  · blk_simp [i19]

/-- THE NORMALISED TOKENS' ARRAY. -/
theorem final20 (c : Dev nD) : (dats m 0 c).arrAt 20 cfg0.N = fun j => modulatedOf m c (j 0) (j 1) := by
  refine (dats m 0 c).arrAt_eq_of_covers 20 _ (by decide +kernel) fun t hf y => ?_
  obtain ⟨i13, i14, i15, i16, i17, i19, i20, ic⟩ := idx_fixed t
  have ht : t.val < 96 := t.isLt
  idx_vars y
  blk_simp
  rw [after0_20]
  obtain ⟨r, hr⟩ : ∃ r : Fin 24576, (r : ℕ) = 256 * t.val + y0 := ⟨⟨_, by omega⟩, rfl⟩
  refine (out_modulated ..).trans ((modulatedRow_at m c t y0 r hr y1).trans ?_)
  refine congrArg₂ (modulatedOf m c) (Fin.ext ?_) (Fin.ext ?_)
  · blk_simp [i20]
    omega
  · blk_simp [i20]

end

end Cert.MixIdeal.Hand

end
-- ==== Proof.MixRef.lean ====
/- What the mixer's reference computes, row by row. -/
module

public import proofs.«01_k».proof.Proof.Gen.MixRefIdeal.Read
public import proofs.«01_k».proof.Proof.MixMath
public import Idealize.ShloMosaic.Lib.Pipeline.ValueKit

@[expose] public section

set_option maxRecDepth 16384

noncomputable section

namespace Cert.MixRefIdeal.Hand

open Cert.MixRefIdeal Cert.MixRefIdeal.Read Idealize.ShloMosaic Idealize.ShloMosaic.TcCoe Idealize.SL.Sem
open Cert.Mixer

variable (x0 x1 x2 x3 : FVec Ideal S8192x1024 .f32) (x4 x5 x6 x7 : FVec Ideal S16384x1024 .f32) (x8 : FVec Ideal S24576x8192 .f32)
  (x9 : FVec Ideal S24576x1024 .bf16) (x10 : FVec Ideal S24576x1024 .f32) (x11 : FVec Ideal S8x1x6144 .f32) (x12 : FVec Ideal S1024 .f32)
  (x13 x14 : FVec Ideal S1024x1024 .f32) (x15 : FVec Ideal S1024x2048 .f32) (x16 : FVec Ideal S1024x1024 .f32)

theorem both_at (r : Fin 24576) (j : Fin 1024) : val_main_v14 (F := Ideal) x0 x1 x4 x5 (ix2 r j)
    = bothRow (fun r j => x0 (ix2 r j)) (fun r j => x1 (ix2 r j)) (fun r j => x4 (ix2 r j)) (fun r j => x5 (ix2 r j)) r j := by
  unfold val_main_v14 val_main_v12 val_main_v13 bothRow
  pointwise

theorem norm_at (r : Fin 24576) (h : Fin 4) (e : Fin 256) : val_main_v33 (F := Ideal) x0 x1 x4 x5 (ix3 r h e)
    = groupNorm (head (n := 4) (l := 256) rfl (fun j => val_main_v14 (F := Ideal) x0 x1 x4 x5 (ix2 r j)) h) e := by
  unfold val_main_v33 val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_cst val_main_cst_0 val_main_cst_1 val_main_cst_2 val_main_cst_3
  unfold groupNorm rms mean head c256 eps
  generalize val_main_v14 (F := Ideal) x0 x1 x4 x5 = X
  pointwise
  blk_point []

theorem ret_at (r : Fin 24576) (j : Fin 1024) : val_main_v36 (F := Ideal) x0 x1 x4 x5 x8 (ix2 r j)
    = retIn (fun j => val_main_v14 (F := Ideal) x0 x1 x4 x5 (ix2 r j)) (fun j => x8 (ix2 r ⟨2048 + j, by omega⟩)) j := by
  unfold retIn silu
  rw [← norm_at]
  unfold val_main_v36 val_main_v35 val_main_v34 val_main_call0_v5 val_main_call0_v4 val_main_call0_v3 val_main_call0_v2 val_main_call0_v1 val_main_call0_v0
    val_main_call0_cst val_main_call0_cst_0 val_main_v0
  generalize val_main_v33 (F := Ideal) x0 x1 x4 x5 = X
  pointwise
  rfl

theorem hgNorm_at (r : Fin 24576) (h : Fin 8) (e : Fin 128) : val_main_v51 (F := Ideal) x2 x3 x6 x7 (ix3 r h e)
    = rms c128 (head (n := 8) (l := 128) rfl (fun j => val_main_v40 (F := Ideal) x2 x3 x6 x7 (ix2 r j)) h) e := by
  unfold val_main_v51 val_main_v50 val_main_v49 val_main_v48 val_main_v47 val_main_v46 val_main_v45 val_main_v44 val_main_v43 val_main_v42 val_main_v41
    val_main_cst_4 val_main_cst_5 val_main_cst_6
  unfold rms mean head c128 eps
  generalize val_main_v40 (F := Ideal) x2 x3 x6 x7 = X
  pointwise
  blk_point []

theorem hg_at (r : Fin 24576) (j : Fin 1024) : val_main_v54 (F := Ideal) x2 x3 x6 x7 x8 (ix2 r j)
    = hgIn (fun j => val_main_v40 (F := Ideal) x2 x3 x6 x7 (ix2 r j)) (fun j => x8 (ix2 r ⟨7168 + j, by omega⟩)) j := by
  unfold hgIn silu
  rw [← hgNorm_at]
  unfold val_main_v54 val_main_v53 val_main_v52 val_main_call1_v5 val_main_call1_v4 val_main_call1_v3 val_main_call1_v2 val_main_call1_v1 val_main_call1_v0
    val_main_call1_cst val_main_call1_cst_0 val_main_v1
  generalize val_main_v51 (F := Ideal) x2 x3 x6 x7 = X
  pointwise
  rfl

theorem bothHg_at (r : Fin 24576) (j : Fin 1024) : val_main_v40 (F := Ideal) x2 x3 x6 x7 (ix2 r j)
    = bothRow (fun r j => x2 (ix2 r j)) (fun r j => x3 (ix2 r j)) (fun r j => x6 (ix2 r j)) (fun r j => x7 (ix2 r j)) r j := by
  unfold val_main_v40 val_main_v38 val_main_v39 bothRow
  pointwise

theorem mod_at (r : Fin 24576) (k : Fin 6144) : val_main_v8 (F := Ideal) x11 (ix2 r k) = x11 (ix3 (request r) 0 k) := by
  unfold val_main_v8 val_main_v7 val_main_v6 val_main_v5 val_main_v4 val_main_v3 val_main_v2 request
  pointwise
  by_cases h : (r : ℕ) < 8192
  · rw [dif_pos h]
    exact congrArg (fun q => x11 (ix3 q 0 k)) (Fin.ext (by simp [h]))
  · rw [dif_neg h]
    exact congrArg (fun q => x11 (ix3 q 0 k)) (Fin.ext (by simp [h]))

/-- The mixer's output of token `r`. -/
def mixOf (r : Fin 24576) : Fin 1024 → EReal :=
  mixed
    (retIn (bothRow (fun r j => x0 (ix2 r j)) (fun r j => x1 (ix2 r j)) (fun r j => x4 (ix2 r j)) (fun r j => x5 (ix2 r j)) r)
      fun j => x8 (ix2 r ⟨2048 + j, by omega⟩))
    (hgIn (bothRow (fun r j => x2 (ix2 r j)) (fun r j => x3 (ix2 r j)) (fun r j => x6 (ix2 r j)) (fun r j => x7 (ix2 r j)) r)
      fun j => x8 (ix2 r ⟨7168 + j, by omega⟩))
    (fun k => x9 (ix2 r k)) (fun k j => x13 (ix2 k j)) (fun k j => x14 (ix2 k j)) (fun k j => x15 (ix2 k j)) fun k j => x16 (ix2 k j)

theorem mixed_at (r : Fin 24576) (j : Fin 1024) :
    val_main_v69 (F := Ideal) x0 x1 x2 x3 x4 x5 x6 x7 x8 x9 x13 x14 x15 x16 (ix2 r j) = mixOf x0 x1 x2 x3 x4 x5 x6 x7 x8 x9 x13 x14 x15 x16 r j := by
  unfold mixOf mixed
  rw [← funext (both_at x0 x1 x4 x5 r), ← funext (bothHg_at x2 x3 x6 x7 r)]
  simp only [← ret_at, ← hg_at]
  unfold val_main_v69 val_main_v68 val_main_v67 val_main_v66 val_main_v65 val_main_v64 val_main_v63 val_main_v62 val_main_v61 val_main_v60
    val_main_v59 val_main_v58 val_main_v57 val_main_v56 val_main_v55 val_main_v37 val_main_cst_7 val_main_cst_8
  generalize val_main_v36 (F := Ideal) x0 x1 x4 x5 x8 = X
  generalize val_main_v54 (F := Ideal) x2 x3 x6 x7 x8 = Y
  pointwise
  rfl

/-- Token `r` after the mixer. -/
def tokenOf (r : Fin 24576) : Fin 1024 → EReal :=
  token (fun k => x10 (ix2 r k)) (fun j => x11 (ix3 (request r) 0 ⟨2048 + j, by omega⟩)) (mixOf x0 x1 x2 x3 x4 x5 x6 x7 x8 x9 x13 x14 x15 x16 r)

theorem token_at (r : Fin 24576) (j : Fin 1024) :
    val_main_v71 (F := Ideal) x0 x1 x2 x3 x4 x5 x6 x7 x8 x9 x10 x11 x13 x14 x15 x16 (ix2 r j)
      = tokenOf x0 x1 x2 x3 x4 x5 x6 x7 x8 x9 x10 x11 x13 x14 x15 x16 r j := by
  unfold tokenOf token
  simp only [← mixed_at, ← mod_at]
  unfold val_main_v71 val_main_v70 val_main_v9
  generalize val_main_v69 (F := Ideal) x0 x1 x2 x3 x4 x5 x6 x7 x8 x9 x13 x14 x15 x16 = X
  generalize val_main_v8 (F := Ideal) x11 = Y
  pointwise

/-- Token `r` normalised and modulated. -/
def modulatedOf (r : Fin 24576) : Fin 1024 → EReal :=
  modulated (tokenOf x0 x1 x2 x3 x4 x5 x6 x7 x8 x9 x10 x11 x13 x14 x15 x16 r) (fun k => x12 (ix1 k))
    (fun j => x11 (ix3 (request r) 0 ⟨4096 + j, by omega⟩)) fun j => x11 (ix3 (request r) 0 ⟨3072 + j, by omega⟩)

theorem modulated_at (r : Fin 24576) (j : Fin 1024) :
    val_main_v89 (F := Ideal) x0 x1 x2 x3 x4 x5 x6 x7 x8 x9 x10 x11 x12 x13 x14 x15 x16 (ix2 r j)
      = modulatedOf x0 x1 x2 x3 x4 x5 x6 x7 x8 x9 x10 x11 x12 x13 x14 x15 x16 r j := by
  unfold modulatedOf modulated rms mean c1024 eps
  simp only [← token_at, ← mod_at]
  unfold val_main_v89 val_main_v88 val_main_v87 val_main_v86 val_main_v85 val_main_v84 val_main_v83 val_main_v82 val_main_v81 val_main_v80
    val_main_v79 val_main_v78 val_main_v77 val_main_v76 val_main_v75 val_main_v74 val_main_v73 val_main_v72 val_main_v11 val_main_v10
    val_main_cst_9 val_main_cst_10 val_main_cst_11 val_main_cst_12
  generalize val_main_v71 (F := Ideal) x0 x1 x2 x3 x4 x5 x6 x7 x8 x9 x10 x11 x13 x14 x15 x16 = X
  generalize val_main_v8 (F := Ideal) x11 = Y
  pointwise

end Cert.MixRefIdeal.Hand

end
-- ==== Proof.MixEq.lean ====
/- The mixer's last kernel and its reference at the ideal instance: equal tokens and equal normalised tokens. -/
module

public import proofs.«01_k».proof.Defs
public import proofs.«01_k».proof.Proof.MixArray
public import proofs.«01_k».proof.Proof.MixRef
public import proofs.«01_k».proof.Proof.Gen.MixRefIdeal.Run
public import Idealize.ShloMosaic.Lib.Claim
public import Idealize.ShloMosaic.Lib.Quiescent

@[expose] public section

set_option maxRecDepth 16384

noncomputable section

namespace Cert.Mixer

open Idealize.ShloMosaic Idealize.ShloMosaic.TcCoe Idealize.SL.Sem

/-- The reference runs and leaves its arguments. -/
theorem frame_reference : Cert.quiescent_MixRefIdeal := fun m ρ _ =>
  (θ_run Cert.MixRefIdeal.defs _ _).mono (fun r h => ⟨fun c => (h c).2.2,
      Idealize.ShloMosaic.sem_eq_zero_of_no_sems (by decide) r.2⟩)
    (Cert.MixRefIdeal.Value.run (F := Ideal) m ρ)

section Kernel

open Cert.MixIdeal Cert.MixIdeal.Gen Cert.MixIdeal.Hand Cert.MixRefIdeal.Read

variable (m : (ℓ : Loc nD τ sig) → Buf (Elt Ideal) ℓ)

/-- The tokens agree. -/
theorem eq0 (c : Dev nD) : (dats m 0 c).arrAt 19 cfg0.N = val_main_v71 (F := Ideal) (arg0 m c) (arg1 m c) (arg2 m c) (arg3 m c) (arg4 m c)
    (arg5 m c) (arg6 m c) (arg7 m c) (arg8 m c) (arg9 m c) (arg10 m c) (arg11 m c) (arg13 m c) (arg14 m c) (arg15 m c) (arg16 m c) := by
  rw [final19]
  funext j
  idx_vars j
  exact (Cert.MixRefIdeal.Hand.token_at ..).symm

/-- The normalised tokens agree. -/
theorem eq1 (c : Dev nD) : (dats m 0 c).arrAt 20 cfg0.N = val_main_v89 (F := Ideal) (arg0 m c) (arg1 m c) (arg2 m c) (arg3 m c) (arg4 m c)
    (arg5 m c) (arg6 m c) (arg7 m c) (arg8 m c) (arg9 m c) (arg10 m c) (arg11 m c) (arg12 m c) (arg13 m c) (arg14 m c) (arg15 m c) (arg16 m c) := by
  rw [final20]
  funext j
  idx_vars j
  exact (Cert.MixRefIdeal.Hand.modulated_at ..).symm

end Kernel

/-- THE MIXER'S LAST KERNEL COMPUTES THE REFERENCE'S FUNCTION. -/
theorem algebraic : Cert.algebraic_MixIdeal_MixRefIdeal := by
  intro m ρ m' ρ' _ hagree
  refine ⟨_, _, (θ_run Cert.MixIdeal.defs _ _).mono (fun r h c => ⟨(h c).1, (h c).2.1, (h c).2.2.2⟩)
    (Cert.MixIdeal.Value.run_blocks m ρ), (θ_run Cert.MixRefIdeal.defs _ _).mono (fun r h c => ?_)
    (Cert.MixRefIdeal.Value.run (F := Ideal) m' ρ')⟩
  obtain ⟨a0, a1, a2⟩ := h c
  obtain ⟨e0, e1, e2, e3, e4, e5, e6, e7, e8, e9, e10, e11, e12, e13, e14, e15, e16, e17⟩ := hagree c
  refine ⟨a0.trans ?_, a1.trans ?_, a2⟩
  · rw [Cert.MixRefIdeal.Read.val_main_v71_eq, e0, e1, e2, e3, e4, e5, e6, e7, e8, e9, e10, e11, e13, e14, e15, e16]
    exact (eq0 m c).symm
  · rw [Cert.MixRefIdeal.Read.val_main_v89_eq, e0, e1, e2, e3, e4, e5, e6, e7, e8, e9, e10, e11, e12, e13, e14, e15, e16]
    exact (eq1 m c).symm

end Cert.Mixer

end
-- ==== Proof.FfnNames.lean ====
/- The expert kernel's transfers, named: the two slots of each weight scratch, the blocks of the weights in HBM, the two
   cells, and the offsets the body computes, as these names. The grid's point `t` is tile `t % 6` of chunk group `t / 6`;
   group `g` is chunk `g % 2` of expert `g / 2`, and its three blocks travel through slot `g % 2` on cell `g % 2`. -/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

/-! ## Slots, blocks and cells -/

theorem slot_inb (s : Fin 2) : ∀ a, (![s.val, 0, 0] : Fin 3 → Nat) a + S1x1024x1024.size a ≤ S2x1024x1024.size a := by
  have := s.isLt; intro a; fin_cases a <;> simp <;> omega
theorem wide_inb (b : Fin 32) : ∀ a, (![0, b.val / 2, 0, 1024 * (b.val % 2)] : Fin 4 → Nat) a + S1x1x1024x1024.size a ≤ S2x16x1024x2048.size a := by
  have := b.isLt; intro a; fin_cases a <;> simp <;> omega
theorem tall_inb (b : Fin 32) : ∀ a, (![0, b.val / 2, 1024 * (b.val % 2), 0] : Fin 4 → Nat) a + S1x1x1024x1024.size a ≤ S2x16x2048x1024.size a := by
  have := b.isLt; intro a; fin_cases a <;> simp <;> omega
theorem cell_inb (s : Fin 2) : ∀ a, (![s.val] : Fin 1 → Nat) a + S1.size a ≤ S2.size a := by
  have := s.isLt; intro a; fin_cases a <;> simp <;> omega

/-- Slot `s` of a weight scratch `M`. -/
abbrev slotOf (M : Memref sig .tc .vmem S2x1024x1024 .f32) (s : Fin 2) : Memref sig .tc .vmem S1024x1024 .f32 :=
  (M.slice (Rect.unit (s := S2x1024x1024) ![s.val, 0, 0] S1x1024x1024.size (slot_inb s)) (fun _ => rfl)).squeeze S1024x1024 squeezes_S1x1024x1024_S1024x1024
/-- Block `b` of a weight laid out model dimension by hidden dimension. -/
abbrev wideOf (M : Memref sig .tc .hbm S2x16x1024x2048 .f32) (b : Fin 32) : Memref sig .tc .hbm S1024x1024 .f32 :=
  (M.slice (Rect.unit (s := S2x16x1024x2048) ![0, b.val / 2, 0, 1024 * (b.val % 2)] S1x1x1024x1024.size (wide_inb b)) (fun _ => rfl)).squeeze S1024x1024 squeezes_S1x1x1024x1024_S1024x1024
/-- Block `b` of the weight laid out hidden dimension by model dimension. -/
abbrev tallOf (M : Memref sig .tc .hbm S2x16x2048x1024 .f32) (b : Fin 32) : Memref sig .tc .hbm S1024x1024 .f32 :=
  (M.slice (Rect.unit (s := S2x16x2048x1024) ![0, b.val / 2, 1024 * (b.val % 2), 0] S1x1x1024x1024.size (tall_inb b)) (fun _ => rfl)).squeeze S1024x1024 squeezes_S1x1x1024x1024_S1024x1024

def slot0 (s : Fin 2) : Memref sig .tc .vmem S1024x1024 .f32 := slotOf (Memref.whole cc0_scratch0) s
def slot1 (s : Fin 2) : Memref sig .tc .vmem S1024x1024 .f32 := slotOf (Memref.whole cc0_scratch1) s
def slot2 (s : Fin 2) : Memref sig .tc .vmem S1024x1024 .f32 := slotOf (Memref.whole cc0_scratch2) s
def src0 (b : Fin 32) : Memref sig .tc .hbm S1024x1024 .f32 := wideOf (Memref.whole main_arg2) b
def src1 (b : Fin 32) : Memref sig .tc .hbm S1024x1024 .f32 := wideOf (Memref.whole main_arg3) b
def src2 (b : Fin 32) : Memref sig .tc .hbm S1024x1024 .f32 := tallOf (Memref.whole main_arg4) b
/-- Cell `s` of the transfers' semaphores. -/
def cell (s : Fin 2) : DmaSems sig S_ := (cc0_scratch7.slice (Rect.unit (s := S2) ![s.val] S1.size (cell_inb s))).squeeze S_ squeezes_S1_S_
abbrev sem (s : Fin 2) : SemLoc sig := SemLoc.dma (cell s).sem
theorem sem_0 : sem 0 = SemLoc.dma 4 := by decide
theorem sem_1 : sem 1 = SemLoc.dma 5 := by decide

/-- The slot and the block of group `g`. -/
abbrev sl (g : ℕ) : Fin 2 := ⟨g % 2, Nat.mod_lt _ (by decide)⟩
abbrev bk (g : ℕ) : Fin 32 := ⟨g % 32, Nat.mod_lt _ (by decide)⟩

instance : NeZero grid0.N := ⟨by rw [N_0]; decide⟩

/-! ## The conditions and the offsets over the points -/

theorem cond1_iff : ∀ t : Fin grid0.N, k0_cond1 (grid0.coords t) = 1#1 ↔ t.val % 6 = 0 := by decide +kernel
theorem cond2_iff : ∀ t : Fin grid0.N, k0_cond2 (grid0.coords t) = 1#1 ↔ t.val / 6 = 0 := by decide +kernel
theorem cond3_iff : ∀ t : Fin grid0.N, k0_cond3 (grid0.coords t) = 1#1 ↔ t.val / 6 < 31 := by decide +kernel
theorem cond5_iff : ∀ t : Fin grid0.N, k0_cond5 (grid0.coords t) = 1#1 ↔ t.val / 6 % 2 = 0 := by decide +kernel
theorem cond6_iff : ∀ t : Fin grid0.N, k0_cond6 (grid0.coords t) = 1#1 ↔ t.val / 6 % 2 = 1 := by decide +kernel

theorem off1_eq : ∀ t : Fin grid0.N, k0_off1 (grid0.coords t) = ![(sl (t.val / 6)).val] := by decide +kernel
theorem off2_eq : ∀ t : Fin grid0.N, k0_off2 (grid0.coords t) = ![(sl (t.val / 6)).val, 0, 0] := by decide +kernel
theorem off3_eq : ∀ t : Fin grid0.N, k0_off3 (grid0.coords t) = ![0, (bk (t.val / 6)).val / 2, 0, 1024 * ((bk (t.val / 6)).val % 2)] := by decide +kernel
theorem off4_eq : ∀ t : Fin grid0.N, k0_off4 (grid0.coords t) = ![0, (bk (t.val / 6)).val / 2, 1024 * ((bk (t.val / 6)).val % 2), 0] := by decide +kernel
theorem off5_eq : ∀ t : Fin grid0.N, k0_off5 (grid0.coords t) = ![(sl (t.val / 6)).val] := by decide +kernel
theorem off6_eq : ∀ t : Fin grid0.N, k0_off6 (grid0.coords t) = ![(sl (t.val / 6)).val, 0, 0] := by decide +kernel
theorem off7_eq : ∀ t : Fin grid0.N, k0_off7 (grid0.coords t) = ![0, (bk (t.val / 6)).val / 2, 0, 1024 * ((bk (t.val / 6)).val % 2)] := by decide +kernel
theorem off8_eq : ∀ t : Fin grid0.N, k0_off8 (grid0.coords t) = ![0, (bk (t.val / 6)).val / 2, 1024 * ((bk (t.val / 6)).val % 2), 0] := by decide +kernel
theorem off9_eq : ∀ t : Fin grid0.N, k0_cond3 (grid0.coords t) = 1#1 → k0_off9 (grid0.coords t) = ![(sl (t.val / 6 + 1)).val] := by decide +kernel
theorem off10_eq : ∀ t : Fin grid0.N, k0_cond3 (grid0.coords t) = 1#1 → k0_off10 (grid0.coords t) = ![(sl (t.val / 6 + 1)).val, 0, 0] := by decide +kernel
theorem off11_eq : ∀ t : Fin grid0.N, k0_cond3 (grid0.coords t) = 1#1 → k0_off11 (grid0.coords t) = ![0, (bk (t.val / 6 + 1)).val / 2, 0, 1024 * ((bk (t.val / 6 + 1)).val % 2)] := by decide +kernel
theorem off12_eq : ∀ t : Fin grid0.N, k0_cond3 (grid0.coords t) = 1#1 → k0_off12 (grid0.coords t) = ![0, (bk (t.val / 6 + 1)).val / 2, 1024 * ((bk (t.val / 6 + 1)).val % 2), 0] := by decide +kernel
theorem off13_eq : ∀ t : Fin grid0.N, k0_off13 (grid0.coords t) = ![(sl (t.val / 6)).val, 0, 0] := by decide +kernel
theorem off14_eq : ∀ t : Fin grid0.N, k0_off14 (grid0.coords t) = ![t.val / 12] := by decide +kernel
theorem off15_eq : ∀ t : Fin grid0.N, k0_off15 (grid0.coords t) = ![592 * (t.val % 6), 0] := by decide +kernel
theorem off16_eq : ∀ t : Fin grid0.N, k0_off16 (grid0.coords t) = ![592 * (t.val % 6), 0] := by decide +kernel
theorem off17_eq : ∀ t : Fin grid0.N, k0_off17 (grid0.coords t) = ![592 * (t.val % 6), 0] := by decide +kernel

/-! ## The body's spellings are these names -/

section Spell

variable (t : Fin grid0.N)

/-- A slice of a scratch at slot `s`'s offset is slot `s`; of a weight at block `b`'s offset, block `b`; of the cells, cell `s`. -/
theorem slotOf_congr (M : Memref sig .tc .vmem S2x1024x1024 .f32) (s : Fin 2) (o : Fin 3 → Nat) (ho : o = ![s.val, 0, 0])
    (h : ∀ a, o a + S1x1024x1024.size a ≤ S2x1024x1024.size a) :
    (M.slice (Rect.unit (s := S2x1024x1024) o S1x1024x1024.size h) (fun _ => rfl)).squeeze S1024x1024 squeezes_S1x1024x1024_S1024x1024 = slotOf M s :=
  congrArg (fun M : Memref sig .tc .vmem S1x1024x1024 .f32 => M.squeeze S1024x1024 squeezes_S1x1024x1024_S1024x1024) (Memref.slice_unit_congr _ ho _ _ (fun _ => rfl) (fun _ => rfl))
theorem wideOf_congr (M : Memref sig .tc .hbm S2x16x1024x2048 .f32) (b : Fin 32) (o : Fin 4 → Nat) (ho : o = ![0, b.val / 2, 0, 1024 * (b.val % 2)])
    (h : ∀ a, o a + S1x1x1024x1024.size a ≤ S2x16x1024x2048.size a) :
    (M.slice (Rect.unit (s := S2x16x1024x2048) o S1x1x1024x1024.size h) (fun _ => rfl)).squeeze S1024x1024 squeezes_S1x1x1024x1024_S1024x1024 = wideOf M b :=
  congrArg (fun M : Memref sig .tc .hbm S1x1x1024x1024 .f32 => M.squeeze S1024x1024 squeezes_S1x1x1024x1024_S1024x1024) (Memref.slice_unit_congr _ ho _ _ (fun _ => rfl) (fun _ => rfl))
theorem tallOf_congr (M : Memref sig .tc .hbm S2x16x2048x1024 .f32) (b : Fin 32) (o : Fin 4 → Nat) (ho : o = ![0, b.val / 2, 1024 * (b.val % 2), 0])
    (h : ∀ a, o a + S1x1x1024x1024.size a ≤ S2x16x2048x1024.size a) :
    (M.slice (Rect.unit (s := S2x16x2048x1024) o S1x1x1024x1024.size h) (fun _ => rfl)).squeeze S1024x1024 squeezes_S1x1x1024x1024_S1024x1024 = tallOf M b :=
  congrArg (fun M : Memref sig .tc .hbm S1x1x1024x1024 .f32 => M.squeeze S1024x1024 squeezes_S1x1x1024x1024_S1024x1024) (Memref.slice_unit_congr _ ho _ _ (fun _ => rfl) (fun _ => rfl))
theorem cell_congr (s : Fin 2) (o : Fin 1 → Nat) (ho : o = ![s.val]) (h : ∀ a, o a + S1.size a ≤ S2.size a) :
    (cc0_scratch7.slice (Rect.unit (s := S2) o S1.size h)).squeeze S_ squeezes_S1_S_ = cell s :=
  congrArg (fun A : DmaSems sig S1 => A.squeeze S_ squeezes_S1_S_) (SemArray.slice_unit_congr _ ho _ _)

variable (h1 : k0_cond1 (grid0.coords t) = 1#1)

@[sl_canon] theorem first_cell (h2 : k0_cond2 (grid0.coords t) = 1#1) :
    (cc0_scratch7.slice (Rect.unit (s := S2) (k0_off1 (grid0.coords t)) S1.size (k0_off1_inb (grid0.coords t) h1 h2))).squeeze S_ squeezes_S1_S_ = cell (sl (t.val / 6)) :=
  cell_congr _ _ (off1_eq t) _
@[sl_canon] theorem first_slot0 (h2 : k0_cond2 (grid0.coords t) = 1#1) :
    ((Memref.whole cc0_scratch0).slice (Rect.unit (s := S2x1024x1024) (k0_off2 (grid0.coords t)) S1x1024x1024.size (k0_off2_inb (grid0.coords t) h1 h2)) (fun _ => rfl)).squeeze S1024x1024 squeezes_S1x1024x1024_S1024x1024 = slot0 (sl (t.val / 6)) :=
  slotOf_congr _ _ _ (off2_eq t) _
@[sl_canon] theorem first_slot1 (h2 : k0_cond2 (grid0.coords t) = 1#1) :
    ((Memref.whole cc0_scratch1).slice (Rect.unit (s := S2x1024x1024) (k0_off2 (grid0.coords t)) S1x1024x1024.size (k0_off2_inb (grid0.coords t) h1 h2)) (fun _ => rfl)).squeeze S1024x1024 squeezes_S1x1024x1024_S1024x1024 = slot1 (sl (t.val / 6)) :=
  slotOf_congr _ _ _ (off2_eq t) _
@[sl_canon] theorem first_slot2 (h2 : k0_cond2 (grid0.coords t) = 1#1) :
    ((Memref.whole cc0_scratch2).slice (Rect.unit (s := S2x1024x1024) (k0_off2 (grid0.coords t)) S1x1024x1024.size (k0_off2_inb (grid0.coords t) h1 h2)) (fun _ => rfl)).squeeze S1024x1024 squeezes_S1x1024x1024_S1024x1024 = slot2 (sl (t.val / 6)) :=
  slotOf_congr _ _ _ (off2_eq t) _
@[sl_canon] theorem first_src0 (h2 : k0_cond2 (grid0.coords t) = 1#1) :
    ((Memref.whole main_arg2).slice (Rect.unit (s := S2x16x1024x2048) (k0_off3 (grid0.coords t)) S1x1x1024x1024.size (k0_off3_inb (grid0.coords t) h1 h2)) (fun _ => rfl)).squeeze S1024x1024 squeezes_S1x1x1024x1024_S1024x1024 = src0 (bk (t.val / 6)) :=
  wideOf_congr _ _ _ (off3_eq t) _
@[sl_canon] theorem first_src1 (h2 : k0_cond2 (grid0.coords t) = 1#1) :
    ((Memref.whole main_arg3).slice (Rect.unit (s := S2x16x1024x2048) (k0_off3 (grid0.coords t)) S1x1x1024x1024.size (k0_off3_inb (grid0.coords t) h1 h2)) (fun _ => rfl)).squeeze S1024x1024 squeezes_S1x1x1024x1024_S1024x1024 = src1 (bk (t.val / 6)) :=
  wideOf_congr _ _ _ (off3_eq t) _
@[sl_canon] theorem first_src2 (h2 : k0_cond2 (grid0.coords t) = 1#1) :
    ((Memref.whole main_arg4).slice (Rect.unit (s := S2x16x2048x1024) (k0_off4 (grid0.coords t)) S1x1x1024x1024.size (k0_off4_inb (grid0.coords t) h1 h2)) (fun _ => rfl)).squeeze S1024x1024 squeezes_S1x1x1024x1024_S1024x1024 = src2 (bk (t.val / 6)) :=
  tallOf_congr _ _ _ (off4_eq t) _

@[sl_canon] theorem wait_cell :
    (cc0_scratch7.slice (Rect.unit (s := S2) (k0_off5 (grid0.coords t)) S1.size (k0_off5_inb (grid0.coords t) h1))).squeeze S_ squeezes_S1_S_ = cell (sl (t.val / 6)) :=
  cell_congr _ _ (off5_eq t) _
@[sl_canon] theorem wait_slot0 :
    ((Memref.whole cc0_scratch0).slice (Rect.unit (s := S2x1024x1024) (k0_off6 (grid0.coords t)) S1x1024x1024.size (k0_off6_inb (grid0.coords t) h1)) (fun _ => rfl)).squeeze S1024x1024 squeezes_S1x1024x1024_S1024x1024 = slot0 (sl (t.val / 6)) :=
  slotOf_congr _ _ _ (off6_eq t) _
@[sl_canon] theorem wait_slot1 :
    ((Memref.whole cc0_scratch1).slice (Rect.unit (s := S2x1024x1024) (k0_off6 (grid0.coords t)) S1x1024x1024.size (k0_off6_inb (grid0.coords t) h1)) (fun _ => rfl)).squeeze S1024x1024 squeezes_S1x1024x1024_S1024x1024 = slot1 (sl (t.val / 6)) :=
  slotOf_congr _ _ _ (off6_eq t) _
@[sl_canon] theorem wait_slot2 :
    ((Memref.whole cc0_scratch2).slice (Rect.unit (s := S2x1024x1024) (k0_off6 (grid0.coords t)) S1x1024x1024.size (k0_off6_inb (grid0.coords t) h1)) (fun _ => rfl)).squeeze S1024x1024 squeezes_S1x1024x1024_S1024x1024 = slot2 (sl (t.val / 6)) :=
  slotOf_congr _ _ _ (off6_eq t) _
@[sl_canon] theorem wait_src0 :
    ((Memref.whole main_arg2).slice (Rect.unit (s := S2x16x1024x2048) (k0_off7 (grid0.coords t)) S1x1x1024x1024.size (k0_off7_inb (grid0.coords t) h1)) (fun _ => rfl)).squeeze S1024x1024 squeezes_S1x1x1024x1024_S1024x1024 = src0 (bk (t.val / 6)) :=
  wideOf_congr _ _ _ (off7_eq t) _
@[sl_canon] theorem wait_src1 :
    ((Memref.whole main_arg3).slice (Rect.unit (s := S2x16x1024x2048) (k0_off7 (grid0.coords t)) S1x1x1024x1024.size (k0_off7_inb (grid0.coords t) h1)) (fun _ => rfl)).squeeze S1024x1024 squeezes_S1x1x1024x1024_S1024x1024 = src1 (bk (t.val / 6)) :=
  wideOf_congr _ _ _ (off7_eq t) _
@[sl_canon] theorem wait_src2 :
    ((Memref.whole main_arg4).slice (Rect.unit (s := S2x16x2048x1024) (k0_off8 (grid0.coords t)) S1x1x1024x1024.size (k0_off8_inb (grid0.coords t) h1)) (fun _ => rfl)).squeeze S1024x1024 squeezes_S1x1x1024x1024_S1024x1024 = src2 (bk (t.val / 6)) :=
  tallOf_congr _ _ _ (off8_eq t) _

variable (h3 : k0_cond3 (grid0.coords t) = 1#1)

@[sl_canon] theorem next_cell :
    (cc0_scratch7.slice (Rect.unit (s := S2) (k0_off9 (grid0.coords t)) S1.size (k0_off9_inb (grid0.coords t) h1 h3))).squeeze S_ squeezes_S1_S_ = cell (sl (t.val / 6 + 1)) :=
  cell_congr _ _ (off9_eq t h3) _
@[sl_canon] theorem next_slot0 :
    ((Memref.whole cc0_scratch0).slice (Rect.unit (s := S2x1024x1024) (k0_off10 (grid0.coords t)) S1x1024x1024.size (k0_off10_inb (grid0.coords t) h1 h3)) (fun _ => rfl)).squeeze S1024x1024 squeezes_S1x1024x1024_S1024x1024 = slot0 (sl (t.val / 6 + 1)) :=
  slotOf_congr _ _ _ (off10_eq t h3) _
@[sl_canon] theorem next_slot1 :
    ((Memref.whole cc0_scratch1).slice (Rect.unit (s := S2x1024x1024) (k0_off10 (grid0.coords t)) S1x1024x1024.size (k0_off10_inb (grid0.coords t) h1 h3)) (fun _ => rfl)).squeeze S1024x1024 squeezes_S1x1024x1024_S1024x1024 = slot1 (sl (t.val / 6 + 1)) :=
  slotOf_congr _ _ _ (off10_eq t h3) _
@[sl_canon] theorem next_slot2 :
    ((Memref.whole cc0_scratch2).slice (Rect.unit (s := S2x1024x1024) (k0_off10 (grid0.coords t)) S1x1024x1024.size (k0_off10_inb (grid0.coords t) h1 h3)) (fun _ => rfl)).squeeze S1024x1024 squeezes_S1x1024x1024_S1024x1024 = slot2 (sl (t.val / 6 + 1)) :=
  slotOf_congr _ _ _ (off10_eq t h3) _
@[sl_canon] theorem next_src0 :
    ((Memref.whole main_arg2).slice (Rect.unit (s := S2x16x1024x2048) (k0_off11 (grid0.coords t)) S1x1x1024x1024.size (k0_off11_inb (grid0.coords t) h1 h3)) (fun _ => rfl)).squeeze S1024x1024 squeezes_S1x1x1024x1024_S1024x1024 = src0 (bk (t.val / 6 + 1)) :=
  wideOf_congr _ _ _ (off11_eq t h3) _
@[sl_canon] theorem next_src1 :
    ((Memref.whole main_arg3).slice (Rect.unit (s := S2x16x1024x2048) (k0_off11 (grid0.coords t)) S1x1x1024x1024.size (k0_off11_inb (grid0.coords t) h1 h3)) (fun _ => rfl)).squeeze S1024x1024 squeezes_S1x1x1024x1024_S1024x1024 = src1 (bk (t.val / 6 + 1)) :=
  wideOf_congr _ _ _ (off11_eq t h3) _
@[sl_canon] theorem next_src2 :
    ((Memref.whole main_arg4).slice (Rect.unit (s := S2x16x2048x1024) (k0_off12 (grid0.coords t)) S1x1x1024x1024.size (k0_off12_inb (grid0.coords t) h1 h3)) (fun _ => rfl)).squeeze S1024x1024 squeezes_S1x1x1024x1024_S1024x1024 = src2 (bk (t.val / 6 + 1)) :=
  tallOf_congr _ _ _ (off12_eq t h3) _

end Spell

/-! ## What is held -/

section Held

variable (c : Dev nD)

/-- A memref's contents type on core `c`, and the memref's elements held at `f`. -/
abbrev Cont {sp : Space} {S : Shape} {e : EltTy} (M : Memref sig .tc sp S e) : Type := Buf (Elt F) (M.view.loc (c : Thread nD τ))
abbrev has {sp : Space} {S : Shape} {e : EltTy} (M : Memref sig .tc sp S e) (f : Cont (F := F) c M) : sProp 𝕄 :=
  M.view.loc (c : Thread nD τ) ↦[M.view.set]{fullShare} f
/-- The slot `M` once the block `B` of `W` has landed in it over `f`. -/
abbrev landed (M : Memref sig .tc .vmem S1024x1024 .f32) (B : Memref sig .tc .hbm S1024x1024 .f32) (W : Cont (F := F) c B) (f : Cont (F := F) c M) :
    Cont (F := F) c M :=
  M.view.writes (Elt F) f [⟨Rect.whole S1024x1024, ReadAs.same.apply (B.view.read (Elt F) W)⟩]

variable (W0 : Buf (Elt F) ((c : Thread nD τ).loc main_arg2)) (W1 : Buf (Elt F) ((c : Thread nD τ).loc main_arg3)) (W2 : Buf (Elt F) ((c : Thread nD τ).loc main_arg4))

/-- The weights are lent by share: slot `s` has a copy of each weight of its own, one half of the full share. -/
abbrev half (s : Fin 2) : PosShare TreeShare := if s.val = 0 then fullShare.left else fullShare.right
/-- The elements of a block of the copy of slot `s`. -/
abbrev lent (s : Fin 2) {sp : Space} {S : Shape} {e : EltTy} (M : Memref sig .tc sp S e) (f : Cont (F := F) c M) : sProp 𝕄 :=
  M.view.loc (c : Thread nD τ) ↦[M.view.set]{half s} f

/-- Two memrefs' elements, held, may wait inside a transfer. -/
theorem storable_pair (s : Fin 2) {sp sp' : Space} {S S' : Shape} {e e' : EltTy} (M : Memref sig .tc sp S e) (M' : Memref sig .tc sp' S' e')
    (f : Cont (F := F) c M) (f' : Cont (F := F) c M') : Storable (upEmb : UEmb _ 𝕄) iprop(has c M f ∗ lent c s M' f') := by
  infer_instance

/-- What group `g`'s three transfers deliver: the slot with the block landed, and the block's elements of the weight back. -/
abbrev deliv (g : ℕ) (f0 : Cont (F := F) c (slot0 (sl g))) (f1 : Cont (F := F) c (slot1 (sl g))) (f2 : Cont (F := F) c (slot2 (sl g))) : Fin 3 → sProp 𝕄
  | 0 => iprop(has c (slot0 (sl g)) (landed c (slot0 (sl g)) (src0 (bk g)) W0 f0) ∗ lent c (sl g) (src0 (bk g)) W0)
  | 1 => iprop(has c (slot1 (sl g)) (landed c (slot1 (sl g)) (src1 (bk g)) W1 f1) ∗ lent c (sl g) (src1 (bk g)) W1)
  | 2 => iprop(has c (slot2 (sl g)) (landed c (slot2 (sl g)) (src2 (bk g)) W2 f2) ∗ lent c (sl g) (src2 (bk g)) W2)

instance deliv_storable (g : ℕ) (f0 : Cont (F := F) c (slot0 (sl g))) (f1 : Cont (F := F) c (slot1 (sl g))) (f2 : Cont (F := F) c (slot2 (sl g))) :
    ∀ w : Fin 3, Storable (upEmb : UEmb _ 𝕄) (deliv c W0 W1 W2 g f0 f1 f2 w)
  | 0 => storable_pair c _ _ _ _ _
  | 1 => storable_pair c _ _ _ _ _
  | 2 => storable_pair c _ _ _ _ _

/-! ## The states of a slot -/

/-- The copies of the three weights that slot `s` borrows from. -/
def copies (s : Fin 2) : sProp 𝕄 :=
  iprop((((c : Thread nD τ).loc main_arg2) ↦[Finset.univ]{half s} W0) ∗ (((c : Thread nD τ).loc main_arg3) ↦[Finset.univ]{half s} W1)
    ∗ (((c : Thread nD τ).loc main_arg4) ↦[Finset.univ]{half s} W2))
/-- Group `g`'s blocks of the copies, and the rest of the copies. -/
def blocks (g : ℕ) : sProp 𝕄 :=
  iprop(lent c (sl g) (src0 (bk g)) W0 ∗ lent c (sl g) (src1 (bk g)) W1 ∗ lent c (sl g) (src2 (bk g)) W2)
def rests (g : ℕ) : sProp 𝕄 :=
  iprop((((c : Thread nD τ).loc main_arg2) ↦[Finset.univ \ (src0 (bk g)).view.set]{half (sl g)} W0)
    ∗ (((c : Thread nD τ).loc main_arg3) ↦[Finset.univ \ (src1 (bk g)).view.set]{half (sl g)} W1)
    ∗ (((c : Thread nD τ).loc main_arg4) ↦[Finset.univ \ (src2 (bk g)).view.set]{half (sl g)} W2))

theorem copies_split (g : ℕ) : copies c W0 W1 W2 (sl g) ⊢ iprop(blocks c W0 W1 W2 g ∗ rests c W0 W1 W2 g) := by
  unfold copies blocks rests
  iintro ⟨H0, H1, H2⟩
  ihave H0' := (pointsTo_split_subset (Finset.subset_univ (src0 (bk g)).view.set)).1 $$ H0
  ihave H1' := (pointsTo_split_subset (Finset.subset_univ (src1 (bk g)).view.set)).1 $$ H1
  ihave H2' := (pointsTo_split_subset (Finset.subset_univ (src2 (bk g)).view.set)).1 $$ H2
  icases H0' with ⟨A0, B0⟩
  icases H1' with ⟨A1, B1⟩
  icases H2' with ⟨A2, B2⟩
  isplitl [A0 A1 A2]
  · isplitl [A0]; · iexact A0
    isplitl [A1]; · iexact A1
    iexact A2
  isplitl [B0]; · iexact B0
  isplitl [B1]; · iexact B1
  iexact B2

theorem copies_join (g : ℕ) : iprop(blocks c W0 W1 W2 g ∗ rests c W0 W1 W2 g) ⊢ copies c W0 W1 W2 (sl g) := by
  unfold copies blocks rests
  iintro ⟨⟨A0, A1, A2⟩, B0, B1, B2⟩
  isplitl [A0 B0]
  · iapply (pointsTo_split_subset (Finset.subset_univ (src0 (bk g)).view.set)).2
    isplitl [A0]; · iexact A0
    iexact B0
  isplitl [A1 B1]
  · iapply (pointsTo_split_subset (Finset.subset_univ (src1 (bk g)).view.set)).2
    isplitl [A1]; · iexact A1
    iexact B1
  iapply (pointsTo_split_subset (Finset.subset_univ (src2 (bk g)).view.set)).2
  isplitl [A2]; · iexact A2
  iexact B2

/-- Slot `s` is free: its three buffers at something, its copies whole, its cell at zero. -/
def free (s : Fin 2) : sProp 𝕄 :=
  iprop((∃ f, has (F := F) c (slot0 s) f) ∗ (∃ f, has (F := F) c (slot1 s) f) ∗ (∃ f, has (F := F) c (slot2 s) f) ∗ semVal ((c : Thread nD τ), sem s) 0
    ∗ copies c W0 W1 W2 s)
/-- Group `g`'s three transfers are in flight. -/
def flying (g : ℕ) : sProp 𝕄 :=
  iprop((∃ f0 f1 f2, Transfers.Batch countersEmb (c : Thread nD τ) (sem (sl g)) () ((slot0 (sl g)).view.amount (sem (sl g))) (deliv c W0 W1 W2 g f0 f1 f2) 3 0)
    ∗ rests c W0 W1 W2 g)
/-- Group `g`'s three blocks have landed. -/
def arrived (g : ℕ) : sProp 𝕄 :=
  iprop(∃ f0 f1 f2, has c (slot0 (sl g)) (landed c (slot0 (sl g)) (src0 (bk g)) W0 f0) ∗ has c (slot1 (sl g)) (landed c (slot1 (sl g)) (src1 (bk g)) W1 f1)
    ∗ has c (slot2 (sl g)) (landed c (slot2 (sl g)) (src2 (bk g)) W2 f2) ∗ semVal ((c : Thread nD τ), sem (sl g)) 0 ∗ copies c W0 W1 W2 (sl g))

/-- A slot whose blocks have been read is free. -/
theorem arrived_free (g : ℕ) : arrived c W0 W1 W2 g ⊢ free c W0 W1 W2 (sl g) := by
  unfold arrived free
  iintro ⟨%f0, %f1, %f2, H0, H1, H2, Hs, Hc⟩
  isplitl [H0]; · iexists _; iexact H0
  isplitl [H1]; · iexists _; iexact H1
  isplitl [H2]; · iexists _; iexact H2
  isplitl [Hs]; · iexact Hs
  iexact Hc

end Held

end Cert.FfnIdeal.Hand

end
-- ==== Proof.FfnFetch.lean ====
/- The expert kernel's fetching: what its three parts — the first issue, the wait with the next issue, the casts — do to
   the transfers in flight, the slots and the half-width copies of the weights. -/
module

public import proofs.«01_k».proof.Proof.FfnNames

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

section

variable (c : Dev nD)
variable (W0 : Buf (Elt F) ((c : Thread nD τ).loc main_arg2)) (W1 : Buf (Elt F) ((c : Thread nD τ).loc main_arg3)) (W2 : Buf (Elt F) ((c : Thread nD τ).loc main_arg4))

variable (t : Fin grid0.N) (h1 : k0_cond1 (grid0.coords t) = 1#1)
    (a3 : Memref sig .tc .smem S16 .i32) (ha3 : a3.IsWhole) (a4 : Memref sig .tc .vmem S1x592x1024 .bf16) (ha4 : a4.IsWhole)
    (h5 : (Memref.whole main_arg2).IsWhole) (h6 : (Memref.whole main_arg3).IsWhole) (h7 : (Memref.whole main_arg4).IsWhole)
    (a8 : Memref sig .tc .vmem S1x592x1024 .bf16) (ha8 : a8.IsWhole)
    (h9 : (Memref.whole cc0_scratch0).IsWhole) (h10 : (Memref.whole cc0_scratch1).IsWhole) (h11 : (Memref.whole cc0_scratch2).IsWhole)
    (a12 : Memref sig .tc .vmem S1024x1024 .bf16) (ha12 : a12.IsWhole) (a13 : Memref sig .tc .vmem S1024x1024 .bf16) (ha13 : a13.IsWhole)
    (a14 : Memref sig .tc .vmem S1024x1024 .bf16) (ha14 : a14.IsWhole) (a15 : Memref sig .tc .vmem S3552x1024 .f32) (ha15 : a15.IsWhole) (v1 : BitVec 32)

/-- The three issues of the first group. -/
theorem first_issue [∀ e, Nonempty (Elt F e)] (h2 : k0_cond2 (grid0.coords t) = 1#1) (Q : _ → sProp 𝕄) :
    iprop(free c W0 W1 W2 (sl (t.val / 6)) ∗ (∀ v, flying c W0 W1 W2 (t.val / 6) -∗ Q v))
      ⊢ wp frame (wpE defs₀ Variants.none (c : Thread nD τ) none) Set.univ
        (k0_part3 (F := F) (grid0.coords t) a3 ha3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7 v1 h1) Q := by
  unfold free
  iintro ⟨⟨⟨%f0, HD0⟩, ⟨%f1, HD1⟩, ⟨%f2, HD2⟩, Hs, Hc⟩, Hk⟩
  ihave Hc' := (copies_split c W0 W1 W2 (t.val / 6)) $$ Hc
  icases Hc' with ⟨Hb, Hr⟩
  unfold blocks
  icases Hb with ⟨HC0, HC1, HC2⟩
  imod (Transfers.batch_alloc' (Lvl := ℕ) countersEmb (c : Thread nD τ) () ((slot0 (sl (t.val / 6))).view.amount (sem (sl (t.val / 6)))) (deliv c W0 W1 W2 (t.val / 6) f0 f1 f2)
    (sm := sem (sl (t.val / 6))) (E := Set.univ)) $$ Hs with HB
  rw [k0_part3_eq_skeleton]
  unfold k0_part3_skel
  rw [dif_pos h2]
  sl_exec
  sl_step
  iapply Hk
  unfold flying
  isplitl [HB]
  · iexists f0, f1, f2
    iexact HB
  iexact Hr

/-- At a later group the first part does nothing. -/
theorem no_issue (h2 : ¬ k0_cond2 (grid0.coords t) = 1#1) (Q : _ → sProp 𝕄) :
    iprop(∀ v, Q v)
      ⊢ wp frame (wpE defs₀ Variants.none (c : Thread nD τ) none) Set.univ
        (k0_part3 (F := F) (grid0.coords t) a3 ha3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7 v1 h1) Q := by
  iintro Hk
  rw [k0_part3_eq_skeleton]
  unfold k0_part3_skel
  rw [dif_neg h2]
  sl_exec
  sl_step
  iapply Hk

variable (v51 v53 v54 : BitVec 32) (v59 : BitVec 1)

/-- The three waits, and the three issues of the next group. -/
theorem wait_next [∀ e, Nonempty (Elt F e)] (h3 : k0_cond3 (grid0.coords t) = 1#1) (W : Waits sig Unit) (Q : _ → sProp 𝕄) :
    iprop(flying c W0 W1 W2 (t.val / 6) ∗ free c W0 W1 W2 (sl (t.val / 6 + 1)) ∗ owes (c : Thread nD τ) 0 W
        ∗ (∀ v, iprop(arrived c W0 W1 W2 (t.val / 6) ∗ flying c W0 W1 W2 (t.val / 6 + 1) ∗ (∃ W', owes (c : Thread nD τ) 0 W')) -∗ Q v))
      ⊢ wp frame (wpE defs₀ Variants.none (c : Thread nD τ) none) Set.univ
        (k0_part4 (F := F) (grid0.coords t) a3 ha3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7 v1 h1
          v51 v53 v54 v59) Q := by
  unfold free flying
  iintro ⟨⟨⟨%e0, %e1, %e2, HA⟩, Hra⟩, ⟨⟨%f0, HD0⟩, ⟨%f1, HD1⟩, ⟨%f2, HD2⟩, Hs, Hc⟩, HO, Hk⟩
  ihave Hc' := (copies_split c W0 W1 W2 (t.val / 6 + 1)) $$ Hc
  icases Hc' with ⟨Hb, Hr⟩
  unfold blocks
  icases Hb with ⟨HC0, HC1, HC2⟩
  imod (Transfers.batch_alloc' (Lvl := ℕ) countersEmb (c : Thread nD τ) () ((slot0 (sl (t.val / 6 + 1))).view.amount (sem (sl (t.val / 6 + 1)))) (deliv c W0 W1 W2 (t.val / 6 + 1) f0 f1 f2)
    (sm := sem (sl (t.val / 6 + 1))) (E := Set.univ)) $$ Hs with HB
  rw [k0_part4_eq_skeleton]
  unfold k0_part4_skel
  rw [dif_pos h3]
  sl_exec
  sl_step
  iapply Hk
  isplitl [HA HA_dst0 HA_dst1 HA_dst2 HA_src0 HA_src1 HA_src2 Hra]
  · unfold arrived
    iexists e0, e1, e2
    isplitl [HA_dst0]; · iexact HA_dst0
    isplitl [HA_dst1]; · iexact HA_dst1
    isplitl [HA_dst2]; · iexact HA_dst2
    isplitl [HA]; · iexact HA
    iapply (copies_join c W0 W1 W2 (t.val / 6))
    unfold blocks
    isplitl [HA_src0 HA_src1 HA_src2]
    · isplitl [HA_src0]; · iexact HA_src0
      isplitl [HA_src1]; · iexact HA_src1
      iexact HA_src2
    iexact Hra
  isplitl [HB Hr]
  · isplitl [HB]
    · iexists f0, f1, f2
      iexact HB
    iexact Hr
  iexists _; iexact HO

/-- The three waits of the last group. -/
theorem wait_last [∀ e, Nonempty (Elt F e)] (h3 : ¬ k0_cond3 (grid0.coords t) = 1#1) (W : Waits sig Unit) (Q : _ → sProp 𝕄) :
    iprop(flying c W0 W1 W2 (t.val / 6) ∗ owes (c : Thread nD τ) 0 W
        ∗ (∀ v, iprop(arrived c W0 W1 W2 (t.val / 6) ∗ (∃ W', owes (c : Thread nD τ) 0 W')) -∗ Q v))
      ⊢ wp frame (wpE defs₀ Variants.none (c : Thread nD τ) none) Set.univ
        (k0_part4 (F := F) (grid0.coords t) a3 ha3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7 v1 h1
          v51 v53 v54 v59) Q := by
  unfold flying
  iintro ⟨⟨⟨%e0, %e1, %e2, HA⟩, Hra⟩, HO, Hk⟩
  rw [k0_part4_eq_skeleton]
  unfold k0_part4_skel
  rw [dif_neg h3]
  sl_exec
  sl_step
  iapply Hk
  isplitl [HA HA_dst0 HA_dst1 HA_dst2 HA_src0 HA_src1 HA_src2 Hra]
  · unfold arrived
    iexists e0, e1, e2
    isplitl [HA_dst0]; · iexact HA_dst0
    isplitl [HA_dst1]; · iexact HA_dst1
    isplitl [HA_dst2]; · iexact HA_dst2
    isplitl [HA]; · iexact HA
    iapply (copies_join c W0 W1 W2 (t.val / 6))
    unfold blocks
    isplitl [HA_src0 HA_src1 HA_src2]
    · isplitl [HA_src0]; · iexact HA_src0
      isplitl [HA_src1]; · iexact HA_src1
      iexact HA_src2
    iexact Hra
  iexists _; iexact HO

end

end Cert.FfnIdeal.Hand

end
-- ==== Proof.FfnCast.lean ====
/- The expert kernel's casts: a group's three landed blocks, rounded to half width into the kernel's own copies. -/
module

public import proofs.«01_k».proof.Proof.FfnFetch
public import Idealize.ShloMosaic.Lib.VecWindow

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

/-- The slot the body reads a landed block from, in the slot's own spelling. -/
instance (priority := high) read_slot (t : Fin grid0.N) : ClosedOff (k0_off13 (grid0.coords t)) := ⟨![(sl (t.val / 6)).val, 0, 0], off13_eq t⟩

/-- A slot in which `X` has landed reads `X`, through the whole scratch at the slot's rectangle too. -/
theorem read_landed (M : Memref sig .tc .vmem S2x1024x1024 .f32) (s : Fin 2) (o : Fin 3 → Nat) (ho : o = ![s.val, 0, 0])
    (h : ∀ a, o a + S1x1024x1024.size a ≤ S2x1024x1024.size a) (f : (slotOf M s).view.ty.Contents (Elt F)) (X : S1024x1024.Idx → Elt F .f32) :
    shapeCast S1024x1024 (M.view.readAt (Elt F) (Rect.unit (s := S2x1024x1024) o S1x1024x1024.size h).toLoadRect
      ((slotOf M s).view.writes (Elt F) f [⟨Rect.whole S1024x1024, X⟩])) shapeCasts_S1x1024x1024_S1024x1024 = X := by
  subst ho
  exact View.read_writes_whole (slotOf M s).view f X

/-- A shape cast to the same shape changes nothing. -/
theorem shapeCast_id {s : Shape} {α : Type} (x : s.Idx → α) (h : s.ShapeCasts s) : shapeCast s x h = x := by
  funext j
  unfold shapeCast
  rw [Shape.reshapeEquiv_self]

/-- A block of a weight at half width. -/
def narrow (X : S1024x1024.Idx → Elt F .f32) : Vec F S1024x1024 .bf16 := truncf .bf16 X bitsLt_bf16_f32

theorem pay1_eq (v : Vec F S1x1024x1024 .f32) (X : S1024x1024.Idx → Elt F .f32) (h : shapeCast S1024x1024 v shapeCasts_S1x1024x1024_S1024x1024 = X) :
    k0_pay1 v = narrow X := by
  subst h
  unfold k0_pay1 narrow
  exact shapeCast_id _ _
theorem pay2_eq (v : Vec F S1x1024x1024 .f32) : k0_pay2 v = k0_pay1 v := rfl
theorem pay3_eq (v : Vec F S1x1024x1024 .f32) : k0_pay3 v = k0_pay1 v := rfl

section

variable (c : Dev nD)
variable (W0 : Buf (Elt F) ((c : Thread nD τ).loc main_arg2)) (W1 : Buf (Elt F) ((c : Thread nD τ).loc main_arg3)) (W2 : Buf (Elt F) ((c : Thread nD τ).loc main_arg4))
variable (t : Fin grid0.N) (h1 : k0_cond1 (grid0.coords t) = 1#1)
    (a12 : Memref sig .tc .vmem S1024x1024 .bf16) (ha12 : a12.IsWhole) (a13 : Memref sig .tc .vmem S1024x1024 .bf16) (ha13 : a13.IsWhole)
    (a14 : Memref sig .tc .vmem S1024x1024 .bf16) (ha14 : a14.IsWhole)

/-- Group `g`'s blocks at half width. -/
def narrow0 (g : ℕ) : Vec F S1024x1024 .bf16 := narrow ((src0 (bk g)).view.read (Elt F) W0)
def narrow1 (g : ℕ) : Vec F S1024x1024 .bf16 := narrow ((src1 (bk g)).view.read (Elt F) W1)
def narrow2 (g : ℕ) : Vec F S1024x1024 .bf16 := narrow ((src2 (bk g)).view.read (Elt F) W2)

/-- The three copies at something; at group `g`'s blocks. -/
def copied (a12 a13 a14 : Memref sig .tc .vmem S1024x1024 .bf16) (g : ℕ) : sProp 𝕄 :=
  iprop(owns (c : Thread nD τ) a12 fullShare (narrow0 c W0 g) ∗ owns (c : Thread nD τ) a13 fullShare (narrow1 c W1 g) ∗ owns (c : Thread nD τ) a14 fullShare (narrow2 c W2 g))
def anything (a12 a13 a14 : Memref sig .tc .vmem S1024x1024 .bf16) : sProp 𝕄 :=
  iprop((∃ d : Vec F S1024x1024 .bf16, owns (c : Thread nD τ) a12 fullShare d) ∗ (∃ d : Vec F S1024x1024 .bf16, owns (c : Thread nD τ) a13 fullShare d) ∗ (∃ d : Vec F S1024x1024 .bf16, owns (c : Thread nD τ) a14 fullShare d))

/-- The body's cast of the landed blocks. -/
def castBlocks : Prog (TpuEff nD τ sig (Elt F) Λ₀ .tc) PUnit := do
  let v97 : Vec F S1x1024x1024 .f32 ← Prog.lift (.load (Memref.whole cc0_scratch0) (Rect.unit (s := S2x1024x1024) (k0_off13 (grid0.coords t)) S1x1024x1024.size (k0_off13_inb (grid0.coords t) h1)).toLoadRect (View.loadsAt_vmem h_S1x1024x1024))
  let _v100 : Vec F S1024x1024 .bf16 ← Prog.lift (.load a12 (Rect.unit (s := S1024x1024) ![0, 0] S1024x1024.size inb_S1024x1024_S1024x1024_0_0).toLoadRect (View.loadsAt_vmem h_S1024x1024))
  Prog.lift (.store a12 (Rect.unit (s := S1024x1024) ![0, 0] S1024x1024.size inb_S1024x1024_S1024x1024_0_0) (k0_pay1 v97) Finset.univ (View.stores_vmem h_S1024x1024 (ha12.storeExact_slice rfl _ packedbf16_S1024x1024_S1024x1024_0_0) (fun _ => rfl)) (.inl rfl))
  let v104 : Vec F S1x1024x1024 .f32 ← Prog.lift (.load (Memref.whole cc0_scratch1) (Rect.unit (s := S2x1024x1024) (k0_off13 (grid0.coords t)) S1x1024x1024.size (k0_off13_inb (grid0.coords t) h1)).toLoadRect (View.loadsAt_vmem h_S1x1024x1024))
  let _v107 : Vec F S1024x1024 .bf16 ← Prog.lift (.load a13 (Rect.unit (s := S1024x1024) ![0, 0] S1024x1024.size inb_S1024x1024_S1024x1024_0_0).toLoadRect (View.loadsAt_vmem h_S1024x1024))
  Prog.lift (.store a13 (Rect.unit (s := S1024x1024) ![0, 0] S1024x1024.size inb_S1024x1024_S1024x1024_0_0) (k0_pay2 v104) Finset.univ (View.stores_vmem h_S1024x1024 (ha13.storeExact_slice rfl _ packedbf16_S1024x1024_S1024x1024_0_0) (fun _ => rfl)) (.inl rfl))
  let v111 : Vec F S1x1024x1024 .f32 ← Prog.lift (.load (Memref.whole cc0_scratch2) (Rect.unit (s := S2x1024x1024) (k0_off13 (grid0.coords t)) S1x1024x1024.size (k0_off13_inb (grid0.coords t) h1)).toLoadRect (View.loadsAt_vmem h_S1x1024x1024))
  let _v114 : Vec F S1024x1024 .bf16 ← Prog.lift (.load a14 (Rect.unit (s := S1024x1024) ![0, 0] S1024x1024.size inb_S1024x1024_S1024x1024_0_0).toLoadRect (View.loadsAt_vmem h_S1024x1024))
  Prog.lift (.store a14 (Rect.unit (s := S1024x1024) ![0, 0] S1024x1024.size inb_S1024x1024_S1024x1024_0_0) (k0_pay3 v111) Finset.univ (View.stores_vmem h_S1024x1024 (ha14.storeExact_slice rfl _ packedbf16_S1024x1024_S1024x1024_0_0) (fun _ => rfl)) (.inl rfl))
  pure ⟨⟩

theorem cast_blocks [∀ e, Nonempty (Elt F e)] (Q : _ → sProp 𝕄) :
    iprop(arrived c W0 W1 W2 (t.val / 6) ∗ anything (F := F) c a12 a13 a14
        ∗ (iprop(free c W0 W1 W2 (sl (t.val / 6)) ∗ copied c W0 W1 W2 a12 a13 a14 (t.val / 6)) -∗ Q ⟨⟩))
      ⊢ wp frame (wpE defs₀ Variants.none (c : Thread nD τ) none) Set.univ (castBlocks (F := F) t h1 a12 ha12 a13 ha13 a14 ha14) Q := by
  unfold arrived anything owns
  iintro ⟨⟨%f0, %f1, %f2, HD0, HD1, HD2, Hs, Hc⟩, ⟨⟨%d0, %g0, %hg0, HS0⟩, ⟨%d1, %g1, %hg1, HS1⟩, ⟨%d2, %g2, %hg2, HS2⟩⟩, Hk⟩
  unfold castBlocks
  sl_exec
  sl_step
  iapply Hk
  isplitl [HD0 HD1 HD2 Hs Hc]
  · unfold free
    isplitl [HD0]; · iexists _; iexact HD0
    isplitl [HD1]; · iexists _; iexact HD1
    isplitl [HD2]; · iexists _; iexact HD2
    isplitl [Hs]; · iexact Hs
    iexact Hc
  unfold copied owns
  isplitl [HS0]
  · iexists _
    isplitr; swap
    · iexact HS0
    ipureintro
    refine (View.read_writes_full _ _ _ _ _).trans ?_
    unfold cast_blocks.sl.v97
    exact pay1_eq _ _ (read_landed _ _ _ (off13_eq t) _ _ _)
  isplitl [HS1]
  · iexists _
    isplitr; swap
    · iexact HS1
    ipureintro
    refine (View.read_writes_full _ _ _ _ _).trans ?_
    unfold cast_blocks.sl.v104
    exact (pay2_eq _).trans (pay1_eq _ _ (read_landed _ _ _ (off13_eq t) _ _ _))
  iexists _
  isplitr; swap
  · iexact HS2
  ipureintro
  refine (View.read_writes_full _ _ _ _ _).trans ?_
  unfold cast_blocks.sl.v111
  exact (pay3_eq _).trans (pay1_eq _ _ (read_landed _ _ _ (off13_eq t) _ _ _))

end

end Cert.FfnIdeal.Hand

end
-- ==== Proof.FfnBody.lean ====
/- The expert kernel's fetching, at the first tile of a chunk group: from the transfers as the group before left them, its
   three blocks in the kernel's copies and the next group's transfers started. -/
module

public import proofs.«01_k».proof.Proof.FfnCast

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

section

variable (c : Dev nD)
variable (W0 : Buf (Elt F) ((c : Thread nD τ).loc main_arg2)) (W1 : Buf (Elt F) ((c : Thread nD τ).loc main_arg3)) (W2 : Buf (Elt F) ((c : Thread nD τ).loc main_arg4))

/-- The two slots once `k` groups have been fetched: both free before the first group and after the last; between, group `k`
    travels through its slot and the other is free. -/
def ring (k : ℕ) : sProp 𝕄 :=
  if 0 < k ∧ k < 32 then iprop(flying c W0 W1 W2 k ∗ free c W0 W1 W2 (sl (k + 1)))
  else iprop(free c W0 W1 W2 (sl k) ∗ free c W0 W1 W2 (sl (k + 1)))

theorem ring_mid (k : ℕ) (h : 0 < k ∧ k < 32) : ring c W0 W1 W2 k = iprop(flying c W0 W1 W2 k ∗ free c W0 W1 W2 (sl (k + 1))) := if_pos h
theorem ring_end (k : ℕ) (h : ¬ (0 < k ∧ k < 32)) : ring c W0 W1 W2 k = iprop(free c W0 W1 W2 (sl k) ∗ free c W0 W1 W2 (sl (k + 1))) := if_neg h

variable (t : Fin grid0.N) (h1 : k0_cond1 (grid0.coords t) = 1#1)
    (a3 : Memref sig .tc .smem S16 .i32) (ha3 : a3.IsWhole) (a4 : Memref sig .tc .vmem S1x592x1024 .bf16) (ha4 : a4.IsWhole)
    (h5 : (Memref.whole main_arg2).IsWhole) (h6 : (Memref.whole main_arg3).IsWhole) (h7 : (Memref.whole main_arg4).IsWhole)
    (a8 : Memref sig .tc .vmem S1x592x1024 .bf16) (ha8 : a8.IsWhole)
    (h9 : (Memref.whole cc0_scratch0).IsWhole) (h10 : (Memref.whole cc0_scratch1).IsWhole) (h11 : (Memref.whole cc0_scratch2).IsWhole)
    (a12 : Memref sig .tc .vmem S1024x1024 .bf16) (ha12 : a12.IsWhole) (a13 : Memref sig .tc .vmem S1024x1024 .bf16) (ha13 : a13.IsWhole)
    (a14 : Memref sig .tc .vmem S1024x1024 .bf16) (ha14 : a14.IsWhole) (a15 : Memref sig .tc .vmem S3552x1024 .f32) (ha15 : a15.IsWhole) (v1 : BitVec 32)

/-- The body's fetch: the first issue, the wait with the next issue, the casts. -/
def fetch : Prog (TpuEff nD τ sig (Elt F) Λ₀ .tc) PUnit := do
  let ⟨v51, v53, v54, v59⟩ : Σ' (v51 : BitVec 32) (v53 : BitVec 32) (v54 : BitVec 32), BitVec 1 ←
    k0_part3 (grid0.coords t) a3 ha3 a4 ha4 (Memref.whole main_arg2) h5 (Memref.whole main_arg3) h6 (Memref.whole main_arg4) h7 a8 ha8
      (Memref.whole cc0_scratch0) h9 (Memref.whole cc0_scratch1) h10 (Memref.whole cc0_scratch2) h11 a12 ha12 a13 ha13 a14 ha14 a15 ha15 cc0_scratch7 v1 h1
  let ⟨_v87, _v88, _v93⟩ : Σ' (v87 : BitVec 32) (v88 : BitVec 32), BitVec 1 ←
    k0_part4 (grid0.coords t) a3 ha3 a4 ha4 (Memref.whole main_arg2) h5 (Memref.whole main_arg3) h6 (Memref.whole main_arg4) h7 a8 ha8
      (Memref.whole cc0_scratch0) h9 (Memref.whole cc0_scratch1) h10 (Memref.whole cc0_scratch2) h11 a12 ha12 a13 ha13 a14 ha14 a15 ha15 cc0_scratch7 v1 h1
      v51 v53 v54 v59
  castBlocks t h1 a12 ha12 a13 ha13 a14 ha14

/-- The waits and the casts, the group's transfers in flight: the next group's are started where there is one. -/
theorem wait_cast [∀ e, Nonempty (Elt F e)] (v51 v53 v54 : BitVec 32) (v59 : BitVec 1) (W : Waits sig Unit) (Q : PUnit → sProp 𝕄) :
    iprop(flying c W0 W1 W2 (t.val / 6) ∗ free c W0 W1 W2 (sl (t.val / 6 + 1)) ∗ owes (c : Thread nD τ) 0 W ∗ anything (F := F) c a12 a13 a14
        ∗ (iprop(ring c W0 W1 W2 (t.val / 6 + 1) ∗ copied c W0 W1 W2 a12 a13 a14 (t.val / 6) ∗ (∃ W', owes (c : Thread nD τ) 0 W')) -∗ Q ⟨⟩))
      ⊢ wp frame (wpE defs₀ Variants.none (c : Thread nD τ) none) Set.univ
        (k0_part4 (F := F) (grid0.coords t) a3 ha3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7 v1 h1
          v51 v53 v54 v59) fun _ => wp frame (wpE defs₀ Variants.none (c : Thread nD τ) none) Set.univ (castBlocks (F := F) t h1 a12 ha12 a13 ha13 a14 ha14) Q := by
  have e : (sl (t.val / 6 + 1 + 1)) = sl (t.val / 6) := Fin.ext (by simp only [sl]; omega)
  have hN : t.val < 192 := lt_of_lt_of_eq t.isLt N_0
  iintro ⟨Hf, Hs, HO, Ha, Hk⟩
  by_cases h3 : k0_cond3 (grid0.coords t) = 1#1
  · have h3' := (cond3_iff t).1 h3
    iapply (wait_next c W0 W1 W2 t h1 a3 ha3 a4 ha4 h5 h6 h7 a8 ha8 h9 h10 h11 a12 ha12 a13 ha13 a14 ha14 a15 ha15 v1 v51 v53 v54 v59 h3 W)
    isplitl [Hf]; · iexact Hf
    isplitl [Hs]; · iexact Hs
    isplitl [HO]; · iexact HO
    iintro %v ⟨Hr, Hn, HO⟩
    iapply (cast_blocks c W0 W1 W2 t h1 a12 ha12 a13 ha13 a14 ha14)
    isplitl [Hr]; · iexact Hr
    isplitl [Ha]; · iexact Ha
    iintro ⟨Hfr, Hc⟩
    iapply Hk
    rw [ring_mid c W0 W1 W2 (t.val / 6 + 1) ⟨by omega, by omega⟩, e]
    isplitl [Hn Hfr]
    · isplitl [Hn]; · iexact Hn
      iexact Hfr
    isplitl [Hc]; · iexact Hc
    iexact HO
  · have h3' : ¬ t.val / 6 < 31 := fun h => h3 ((cond3_iff t).2 h)
    iapply (wait_last c W0 W1 W2 t h1 a3 ha3 a4 ha4 h5 h6 h7 a8 ha8 h9 h10 h11 a12 ha12 a13 ha13 a14 ha14 a15 ha15 v1 v51 v53 v54 v59 h3 W)
    isplitl [Hf]; · iexact Hf
    isplitl [HO]; · iexact HO
    iintro %v ⟨Hr, HO⟩
    iapply (cast_blocks c W0 W1 W2 t h1 a12 ha12 a13 ha13 a14 ha14)
    isplitl [Hr]; · iexact Hr
    isplitl [Ha]; · iexact Ha
    iintro ⟨Hfr, Hc⟩
    iapply Hk
    rw [ring_end c W0 W1 W2 (t.val / 6 + 1) (by omega), e]
    isplitl [Hs Hfr]
    · isplitl [Hs]; · iexact Hs
      iexact Hfr
    isplitl [Hc]; · iexact Hc
    iexact HO

/-- The whole fetch. -/
theorem fetch_wp [∀ e, Nonempty (Elt F e)] (W : Waits sig Unit) (Q : PUnit → sProp 𝕄) :
    iprop(ring c W0 W1 W2 (t.val / 6) ∗ owes (c : Thread nD τ) 0 W ∗ anything (F := F) c a12 a13 a14
        ∗ (iprop(ring c W0 W1 W2 (t.val / 6 + 1) ∗ copied c W0 W1 W2 a12 a13 a14 (t.val / 6) ∗ (∃ W', owes (c : Thread nD τ) 0 W')) -∗ Q ⟨⟩))
      ⊢ wp frame (wpE defs₀ Variants.none (c : Thread nD τ) none) Set.univ
        (fetch (F := F) t h1 a3 ha3 a4 ha4 h5 h6 h7 a8 ha8 h9 h10 h11 a12 ha12 a13 ha13 a14 ha14 a15 ha15 v1) Q := by
  have hN : t.val < 192 := lt_of_lt_of_eq t.isLt N_0
  unfold fetch
  rw [wp_bind]
  by_cases h2 : k0_cond2 (grid0.coords t) = 1#1
  · have h2' := (cond2_iff t).1 h2
    rw [ring_end c W0 W1 W2 (t.val / 6) (by omega)]
    iintro ⟨⟨H0, Hs⟩, HO, Ha, Hk⟩
    iapply (first_issue c W0 W1 W2 t h1 a3 ha3 a4 ha4 h5 h6 h7 a8 ha8 h9 h10 h11 a12 ha12 a13 ha13 a14 ha14 a15 ha15 v1 h2)
    isplitl [H0]; · iexact H0
    iintro %v Hf
    obtain ⟨v51, v53, v54, v59⟩ := v
    dsimp only
    rw [wp_bind]
    iapply (wait_cast c W0 W1 W2 t h1 a3 ha3 a4 ha4 h5 h6 h7 a8 ha8 h9 h10 h11 a12 ha12 a13 ha13 a14 ha14 a15 ha15 v1 v51 v53 v54 v59 W Q)
    isplitl [Hf]; · iexact Hf
    isplitl [Hs]; · iexact Hs
    isplitl [HO]; · iexact HO
    isplitl [Ha]; · iexact Ha
    iexact Hk
  · have h2' : ¬ t.val / 6 = 0 := fun h => h2 ((cond2_iff t).2 h)
    rw [ring_mid c W0 W1 W2 (t.val / 6) ⟨by omega, by omega⟩]
    iintro ⟨⟨Hf, Hs⟩, HO, Ha, Hk⟩
    iapply (no_issue c t h1 a3 ha3 a4 ha4 h5 h6 h7 a8 ha8 h9 h10 h11 a12 ha12 a13 ha13 a14 ha14 a15 ha15 v1 h2)
    iintro %v
    obtain ⟨v51, v53, v54, v59⟩ := v
    dsimp only
    rw [wp_bind]
    iapply (wait_cast c W0 W1 W2 t h1 a3 ha3 a4 ha4 h5 h6 h7 a8 ha8 h9 h10 h11 a12 ha12 a13 ha13 a14 ha14 a15 ha15 v1 v51 v53 v54 v59 W Q)
    isplitl [Hf]; · iexact Hf
    isplitl [Hs]; · iexact Hs
    isplitl [HO]; · iexact HO
    isplitl [Ha]; · iexact Ha
    iexact Hk

end

end Cert.FfnIdeal.Hand

end
-- ==== Proof.FfnTile.lean ====
/- The expert kernel's tile: the two parts of the body after the fetch — the tile's products into its rows of the
   accumulator, and the tile of the result —, and what they leave, by the chunk and by whether the tile holds a token. -/
module

public import proofs.«01_k».proof.Proof.FfnBody
public import Idealize.ShloMosaic.Lib.WritesUnit

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

/-! ## Which tiles hold a token -/

/-- The body's test of the tile against the expert's number of tokens `w`. -/
def live (t : Fin grid0.N) (w : BitVec 32) : BitVec 1 :=
  Scalar.cmpi .ne ((Scalar.extui (Scalar.cmpi .slt (Scalar.muli (BitVec.ofNat 32 (grid0.coords t 2).val) 592#32) w) : BitVec 32)) 0#32

theorem chunk_word : ∀ t : Fin grid0.N, Scalar.cmpi .eq (BitVec.ofNat 32 (grid0.coords t 1).val) 1#32 = if t.val / 6 % 2 = 1 then 1#1 else 0#1 := by decide +kernel

theorem bit_cases : ∀ b : BitVec 1, b = 0#1 ∨ b = 1#1 := by decide

theorem cond7_iff (t : Fin grid0.N) (w : BitVec 32) : k0_cond7 (grid0.coords t) w = 1#1 ↔ t.val / 6 % 2 = 1 ∧ live t w = 1#1 := by
  unfold k0_cond7 live
  dsimp only
  rw [chunk_word t]
  rcases bit_cases (Scalar.cmpi .slt (Scalar.muli (BitVec.ofNat 32 (grid0.coords t 2).val) 592#32) w) with h | h <;> rw [h] <;>
    by_cases hf : t.val / 6 % 2 = 1 <;> simp [hf] <;> decide

theorem cond8_iff (t : Fin grid0.N) (w : BitVec 32) : k0_cond8 (grid0.coords t) w = 1#1 ↔ t.val / 6 % 2 = 1 ∧ ¬ live t w = 1#1 := by
  unfold k0_cond8 live
  dsimp only
  rw [chunk_word t]
  rcases bit_cases (Scalar.cmpi .slt (Scalar.muli (BitVec.ofNat 32 (grid0.coords t 2).val) 592#32) w) with h | h <;> rw [h] <;>
    by_cases hf : t.val / 6 % 2 = 1 <;> simp [hf] <;> decide

/-! ## The accumulator's rows -/

/-- The tile of point `t`. -/
abbrev tl (t : ℕ) : Fin 6 := ⟨t % 6, Nat.mod_lt _ (by decide)⟩
theorem rows_inb (i : Fin 6) : ∀ a, (![592 * i.val, 0] : Fin 2 → Nat) a + S592x1024.size a ≤ S3552x1024.size a := by
  have := i.isLt; intro a; fin_cases a <;> simp <;> omega
/-- Tile `i`'s rows of the accumulator. -/
def rowsOf (A : S3552x1024.Idx → Elt F .f32) (i : Fin 6) : Vec F S592x1024 .f32 :=
  fun j => A ((Rect.unit (s := S3552x1024) ![592 * i.val, 0] S592x1024.size (rows_inb i)).emb j)

/-- `A'` is `A` with tile `i`'s rows at `P`. -/
def Put (A A' : S3552x1024.Idx → Elt F .f32) (i : Fin 6) (P : Vec F S592x1024 .f32) : Prop :=
  rowsOf A' i = P ∧ ∀ i' : Fin 6, i' ≠ i → rowsOf A' i' = rowsOf A i'

/-- A store into tile `i`'s rows puts its payload there. -/
theorem put_rows (M : Memref sig .tc .vmem S3552x1024 .f32) (f : M.view.ty.Contents (Elt F)) (i : Fin 6) (o : Fin 2 → Nat) (ho : o = ![592 * i.val, 0])
    (h : ∀ a, o a + S592x1024.size a ≤ S3552x1024.size a) (P : Vec F S592x1024 .f32) :
    Put (M.view.read (Elt F) f) (M.view.read (Elt F) (M.view.writes (Elt F) f [⟨Rect.unit (s := S3552x1024) o S592x1024.size h, P⟩])) i P := by
  refine ⟨funext fun j => ?_, fun i' hi => funext fun j => ?_⟩
  · exact View.read_writes_cons_rows_of_mem M.view f h P [] _ j ho (by simp [rowsOf, Rect.emb, Rect.unit]) (by simp [rowsOf, Rect.emb, Rect.unit])
  · refine (View.read_writes_cons_rows_of_not_mem (W := 592) M.view f h P [] _ ho rfl ?_).trans rfl
    have hj : (j 0).val < 592 := (j 0).isLt
    have hne : i'.val ≠ i.val := fun e => hi (Fin.ext e)
    simp only [Rect.emb, Rect.unit]
    simp
    omega

/-- A read of tile `i`'s rows. -/
theorem read_rows (M : Memref sig .tc .vmem S3552x1024 .f32) (f : M.view.ty.Contents (Elt F)) (i : Fin 6) (o : Fin 2 → Nat) (ho : o = ![592 * i.val, 0])
    (h : ∀ a, o a + S592x1024.size a ≤ S3552x1024.size a) :
    M.view.readAt (Elt F) (Rect.unit (s := S3552x1024) o S592x1024.size h).toLoadRect f = rowsOf (M.view.read (Elt F) f) i := by
  subst ho
  rfl

theorem pay5_eq (X : Vec F S1x592x1024 .bf16) (N0 N1 N2 : Vec F S1024x1024 .bf16) : k0_pay5 X N0 N1 N2 = k0_pay4 X N0 N1 N2 := by
  unfold k0_pay5
  exact shapeCast_id _ _
theorem pay6_eq (X : Vec F S1x592x1024 .bf16) (N0 N1 N2 : Vec F S1024x1024 .bf16) (R : Vec F S592x1024 .f32) :
    k0_pay6 X N0 N1 N2 R = addf R (k0_pay4 X N0 N1 N2) := by
  unfold k0_pay6
  exact shapeCast_id _ _

/-! ## The two parts -/

section

variable (c : Dev nD) (t : Fin grid0.N)
    (a4 : Memref sig .tc .vmem S1x592x1024 .bf16) (ha4 : a4.IsWhole)
    (a8 : Memref sig .tc .vmem S1x592x1024 .bf16) (ha8 : a8.IsWhole)
    (a12 : Memref sig .tc .vmem S1024x1024 .bf16) (ha12 : a12.IsWhole) (a13 : Memref sig .tc .vmem S1024x1024 .bf16) (ha13 : a13.IsWhole)
    (a14 : Memref sig .tc .vmem S1024x1024 .bf16) (ha14 : a14.IsWhole) (a15 : Memref sig .tc .vmem S3552x1024 .f32) (ha15 : a15.IsWhole)
    (v9 : BitVec 32)

/-- The tile's products, where it holds a token. -/
def work : Prog (TpuEff nD τ sig (Elt F) Λ₀ .tc) PUnit := do
  if live t v9 = 1#1 then do
    let v22 : Vec F S1x592x1024 .bf16 ← Prog.lift (.load a4 (Rect.unit (s := S1x592x1024) ![0, 0, 0] S1x592x1024.size inb_S1x592x1024_S1x592x1024_0_0_0).toLoadRect (View.loadsAt_vmem h_S1x592x1024))
    let v24 : Vec F S1024x1024 .bf16 ← Prog.lift (.load a12 (Rect.unit (s := S1024x1024) ![0, 0] S1024x1024.size inb_S1024x1024_S1024x1024_0_0).toLoadRect (View.loadsAt_vmem h_S1024x1024))
    let v28 : Vec F S1024x1024 .bf16 ← Prog.lift (.load a13 (Rect.unit (s := S1024x1024) ![0, 0] S1024x1024.size inb_S1024x1024_S1024x1024_0_0).toLoadRect (View.loadsAt_vmem h_S1024x1024))
    let v32 : Vec F S1024x1024 .bf16 ← Prog.lift (.load a14 (Rect.unit (s := S1024x1024) ![0, 0] S1024x1024.size inb_S1024x1024_S1024x1024_0_0).toLoadRect (View.loadsAt_vmem h_S1024x1024))
    if k0_h5 : k0_cond5 (grid0.coords t) = 1#1 then do
      let _v41 : Vec F S592x1024 .f32 ← Prog.lift (.load a15 (Rect.unit (s := S3552x1024) (k0_off15 (grid0.coords t)) S592x1024.size (k0_off15_inb (grid0.coords t) k0_h5)).toLoadRect (View.loadsAt_vmem h_S592x1024))
      Prog.lift (.store a15 (Rect.unit (s := S3552x1024) (k0_off15 (grid0.coords t)) S592x1024.size (k0_off15_inb (grid0.coords t) k0_h5)) (k0_pay5 v22 v24 v28 v32) Finset.univ (View.stores_vmem_bits_univ h_S592x1024 rfl) (.inl rfl))
      pure ⟨⟩
    else do
      pure ⟨⟩
    if k0_h6 : k0_cond6 (grid0.coords t) = 1#1 then do
      let v41 : Vec F S592x1024 .f32 ← Prog.lift (.load a15 (Rect.unit (s := S3552x1024) (k0_off16 (grid0.coords t)) S592x1024.size (k0_off16_inb (grid0.coords t) k0_h6)).toLoadRect (View.loadsAt_vmem h_S592x1024))
      let _v44 : Vec F S592x1024 .f32 ← Prog.lift (.load a15 (Rect.unit (s := S3552x1024) (k0_off16 (grid0.coords t)) S592x1024.size (k0_off16_inb (grid0.coords t) k0_h6)).toLoadRect (View.loadsAt_vmem h_S592x1024))
      Prog.lift (.store a15 (Rect.unit (s := S3552x1024) (k0_off16 (grid0.coords t)) S592x1024.size (k0_off16_inb (grid0.coords t) k0_h6)) (k0_pay6 v22 v24 v28 v32 v41) Finset.univ (View.stores_vmem_bits_univ h_S592x1024 rfl) (.inl rfl))
      pure ⟨⟩
    else do
      pure ⟨⟩
    pure ⟨⟩
  else do
    pure ⟨⟩

/-- The tile of the result, at an expert's second chunk. -/
def emit : Prog (TpuEff nD τ sig (Elt F) Λ₀ .tc) PUnit := do
  if k0_h7 : k0_cond7 (grid0.coords t) v9 = 1#1 then do
    let v23 : Vec F S592x1024 .f32 ← Prog.lift (.load a15 (Rect.unit (s := S3552x1024) (k0_off17 (grid0.coords t)) S592x1024.size (k0_off17_inb (grid0.coords t))).toLoadRect (View.loadsAt_vmem h_S592x1024))
    let _v25 : Vec F S1x592x1024 .bf16 ← Prog.lift (.load a8 (Rect.unit (s := S1x592x1024) ![0, 0, 0] S1x592x1024.size inb_S1x592x1024_S1x592x1024_0_0_0).toLoadRect (View.loadsAt_vmem h_S1x592x1024))
    Prog.lift (.store a8 (Rect.unit (s := S1x592x1024) ![0, 0, 0] S1x592x1024.size inb_S1x592x1024_S1x592x1024_0_0_0) (k0_pay7 v23) Finset.univ (View.stores_vmem h_S1x592x1024 (ha8.storeExact_slice rfl _ packedbf16_S1x592x1024_S1x592x1024_0_0_0) (fun _ => rfl)) (.inl rfl))
    pure ⟨⟩
  else do
    pure ⟨⟩
  if k0_h8 : k0_cond8 (grid0.coords t) v9 = 1#1 then do
    let _v23 : Vec F S1x592x1024 .bf16 ← Prog.lift (.load a8 (Rect.unit (s := S1x592x1024) ![0, 0, 0] S1x592x1024.size inb_S1x592x1024_S1x592x1024_0_0_0).toLoadRect (View.loadsAt_vmem h_S1x592x1024))
    Prog.lift (.store a8 (Rect.unit (s := S1x592x1024) ![0, 0, 0] S1x592x1024.size inb_S1x592x1024_S1x592x1024_0_0_0) (k0_pay8 (F := F)) Finset.univ (View.stores_vmem h_S1x592x1024 (ha8.storeExact_slice rfl _ packedbf16_S1x592x1024_S1x592x1024_0_0_0) (fun _ => rfl)) (.inl rfl))
    pure ⟨⟩
  else do
    pure ⟨⟩
  pure ⟨⟩

variable (X : Vec F S1x592x1024 .bf16) (N0 N1 N2 : Vec F S1024x1024 .bf16) (A : Vec F S3552x1024 .f32)

/-- What the first part reads. -/
def read4 : sProp 𝕄 :=
  iprop(owns (c : Thread nD τ) a4 fullShare X ∗ owns (c : Thread nD τ) a12 fullShare N0 ∗ owns (c : Thread nD τ) a13 fullShare N1 ∗ owns (c : Thread nD τ) a14 fullShare N2)

/-- What the first part adds to the tile's rows: at an expert's first chunk nothing is kept of what they held. -/
def rowsAfter : Vec F S592x1024 .f32 :=
  if t.val / 6 % 2 = 0 then k0_pay4 X N0 N1 N2 else addf (rowsOf A (tl t.val)) (k0_pay4 X N0 N1 N2)

theorem work_dead (hl : ¬ live t v9 = 1#1) (Q : PUnit → sProp 𝕄) :
    Q ⟨⟩ ⊢ wp frame (wpE defs₀ Variants.none (c : Thread nD τ) none) Set.univ (work (F := F) t a4 a12 a13 a14 a15 v9) Q := by
  unfold work
  rw [if_neg hl]
  iintro H
  sl_exec
  sl_step
  iexact H

theorem work_live (hl : live t v9 = 1#1) (Q : PUnit → sProp 𝕄) :
    iprop(read4 c a4 a12 a13 a14 X N0 N1 N2 ∗ owns (c : Thread nD τ) a15 fullShare A
        ∗ (iprop(read4 c a4 a12 a13 a14 X N0 N1 N2 ∗ ∃ A', ⌜Put A A' (tl t.val) (rowsAfter t X N0 N1 N2 A)⌝ ∗ owns (c : Thread nD τ) a15 fullShare A') -∗ Q ⟨⟩))
      ⊢ wp frame (wpE defs₀ Variants.none (c : Thread nD τ) none) Set.univ (work (F := F) t a4 a12 a13 a14 a15 v9) Q := by
  unfold read4 owns
  iintro ⟨⟨⟨%g4, %hg4, H4⟩, ⟨%g12, %hg12, H12⟩, ⟨%g13, %hg13, H13⟩, ⟨%g14, %hg14, H14⟩⟩, ⟨%g15, %hg15, H15⟩, Hk⟩
  unfold work
  rw [if_pos hl]
  by_cases hf : t.val / 6 % 2 = 0
  · have h5 := (cond5_iff t).2 hf
    have h6 : ¬ k0_cond6 (grid0.coords t) = 1#1 := fun h => by have := (cond6_iff t).1 h; omega
    sl_exec
    sl_step
    iapply Hk
    isplitl [H4 H12 H13 H14]
    · isplitl [H4]; · iexists g4; isplitr; · ipureintro; exact hg4
                      iexact H4
      isplitl [H12]; · iexists g12; isplitr; · ipureintro; exact hg12
                       iexact H12
      isplitl [H13]; · iexists g13; isplitr; · ipureintro; exact hg13
                       iexact H13
      iexists g14; isplitr; · ipureintro; exact hg14
      iexact H14
    iexists _
    isplitr; swap
    · iexists _; isplitr; swap; · iexact H15
      ipureintro; rfl
    ipureintro
    subst hg4 hg12 hg13 hg14 hg15
    unfold rowsAfter
    rw [if_pos hf]
    have e := put_rows a15 g15 (tl t.val) _ (off15_eq t) (k0_off15_inb (grid0.coords t) h5)
      (k0_pay4 (a4.view.read (Elt F) g4) (a12.view.read (Elt F) g12) (a13.view.read (Elt F) g13) (a14.view.read (Elt F) g14))
    rewrite [View.readAt_full a4.view g4 inb_S1x592x1024_S1x592x1024_0_0_0, View.readAt_full a12.view g12 inb_S1024x1024_S1024x1024_0_0,
      View.readAt_full a13.view g13 inb_S1024x1024_S1024x1024_0_0, View.readAt_full a14.view g14 inb_S1024x1024_S1024x1024_0_0]
    rw [← pay5_eq] at e
    rw [← pay5_eq]
    exact e
  · have h5 : ¬ k0_cond5 (grid0.coords t) = 1#1 := fun h => hf ((cond5_iff t).1 h)
    have h6 := (cond6_iff t).2 (by omega)
    sl_exec
    sl_step
    iapply Hk
    isplitl [H4 H12 H13 H14]
    · isplitl [H4]; · iexists g4; isplitr; · ipureintro; exact hg4
                      iexact H4
      isplitl [H12]; · iexists g12; isplitr; · ipureintro; exact hg12
                       iexact H12
      isplitl [H13]; · iexists g13; isplitr; · ipureintro; exact hg13
                       iexact H13
      iexists g14; isplitr; · ipureintro; exact hg14
      iexact H14
    iexists _
    isplitr; swap
    · iexists _; isplitr; swap; · iexact H15
      ipureintro; rfl
    ipureintro
    subst hg4 hg12 hg13 hg14 hg15
    unfold rowsAfter
    rw [if_neg hf]
    have e := put_rows a15 g15 (tl t.val) _ (off16_eq t) (k0_off16_inb (grid0.coords t) h6)
      (addf (rowsOf (a15.view.read (Elt F) g15) (tl t.val)) (k0_pay4 (a4.view.read (Elt F) g4) (a12.view.read (Elt F) g12) (a13.view.read (Elt F) g13) (a14.view.read (Elt F) g14)))
    rewrite [View.readAt_full a4.view g4 inb_S1x592x1024_S1x592x1024_0_0_0, View.readAt_full a12.view g12 inb_S1024x1024_S1024x1024_0_0,
      View.readAt_full a13.view g13 inb_S1024x1024_S1024x1024_0_0, View.readAt_full a14.view g14 inb_S1024x1024_S1024x1024_0_0]
    rewrite [read_rows a15 g15 (tl t.val) _ (off16_eq t) (k0_off16_inb (grid0.coords t) h6)]
    rw [← pay6_eq] at e
    rw [← pay6_eq]
    exact e

/-- At an expert's first chunk no tile of the result is written. -/
theorem emit_none (hf : ¬ t.val / 6 % 2 = 1) (Q : PUnit → sProp 𝕄) :
    Q ⟨⟩ ⊢ wp frame (wpE defs₀ Variants.none (c : Thread nD τ) none) Set.univ (emit (F := F) t a8 ha8 a15 v9) Q := by
  have h7 : ¬ k0_cond7 (grid0.coords t) v9 = 1#1 := fun h => hf ((cond7_iff t v9).1 h).1
  have h8 : ¬ k0_cond8 (grid0.coords t) v9 = 1#1 := fun h => hf ((cond8_iff t v9).1 h).1
  unfold emit
  iintro H
  sl_exec
  sl_step
  iexact H

/-- What the second part leaves in the tile of the result. -/
def tileOut : Vec F S1x592x1024 .bf16 := if live t v9 = 1#1 then k0_pay7 (rowsOf A (tl t.val)) else k0_pay8

theorem emit_tile (hf : t.val / 6 % 2 = 1) (Q : PUnit → sProp 𝕄) :
    iprop(owns (c : Thread nD τ) a15 fullShare A ∗ (∃ d, owns (c : Thread nD τ) a8 fullShare d)
        ∗ (iprop(owns (c : Thread nD τ) a15 fullShare A ∗ owns (c : Thread nD τ) a8 fullShare (tileOut t v9 A)) -∗ Q ⟨⟩))
      ⊢ wp frame (wpE defs₀ Variants.none (c : Thread nD τ) none) Set.univ (emit (F := F) t a8 ha8 a15 v9) Q := by
  unfold owns
  iintro ⟨⟨%g15, %hg15, H15⟩, ⟨%d, %g8, %hg8, H8⟩, Hk⟩
  unfold emit tileOut
  by_cases hl : live t v9 = 1#1
  · have h7 := (cond7_iff t v9).2 ⟨hf, hl⟩
    have h8 : ¬ k0_cond8 (grid0.coords t) v9 = 1#1 := fun h => ((cond8_iff t v9).1 h).2 hl
    sl_exec
    sl_step
    iapply Hk
    isplitl [H15]
    · iexists g15; isplitr; · ipureintro; exact hg15
      iexact H15
    iexists _
    isplitr; swap; · iexact H8
    ipureintro
    rw [if_pos hl]
    subst hg15
    exact (View.read_writes_full _ _ _ _ _).trans (congrArg k0_pay7 (read_rows a15 g15 (tl t.val) _ (off17_eq t) _))
  · have h7 : ¬ k0_cond7 (grid0.coords t) v9 = 1#1 := fun h => hl ((cond7_iff t v9).1 h).2
    have h8 := (cond8_iff t v9).2 ⟨hf, hl⟩
    sl_exec
    sl_step
    iapply Hk
    isplitl [H15]
    · iexists g15; isplitr; · ipureintro; exact hg15
      iexact H15
    iexists _
    isplitr; swap; · iexact H8
    ipureintro
    rw [if_neg hl]
    exact View.read_writes_full _ _ _ _ _

end

end Cert.FfnIdeal.Hand

end
-- ==== Proof.FfnPoint.lean ====
/- The expert kernel's body at a grid point: the fetch at a chunk group's first tile, the read of the expert's number of
   tokens, and the tile. -/
module

public import proofs.«01_k».proof.Proof.FfnTile

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

section

variable (c : Dev nD)
variable (W0 : Buf (Elt F) ((c : Thread nD τ).loc main_arg2)) (W1 : Buf (Elt F) ((c : Thread nD τ).loc main_arg3)) (W2 : Buf (Elt F) ((c : Thread nD τ).loc main_arg4))
variable (t : Fin grid0.N)
    (h3 : (Memref.whole main_arg1).IsWhole) (a4 : Memref sig .tc .vmem S1x592x1024 .bf16) (ha4 : a4.IsWhole)
    (h5 : (Memref.whole main_arg2).IsWhole) (h6 : (Memref.whole main_arg3).IsWhole) (h7 : (Memref.whole main_arg4).IsWhole)
    (a8 : Memref sig .tc .vmem S1x592x1024 .bf16) (ha8 : a8.IsWhole)
    (h9 : (Memref.whole cc0_scratch0).IsWhole) (h10 : (Memref.whole cc0_scratch1).IsWhole) (h11 : (Memref.whole cc0_scratch2).IsWhole)
    (a12 : Memref sig .tc .vmem S1024x1024 .bf16) (ha12 : a12.IsWhole) (a13 : Memref sig .tc .vmem S1024x1024 .bf16) (ha13 : a13.IsWhole)
    (a14 : Memref sig .tc .vmem S1024x1024 .bf16) (ha14 : a14.IsWhole) (a15 : Memref sig .tc .vmem S3552x1024 .f32) (ha15 : a15.IsWhole)

/-- The number of the expert and chunk, as the body computes it. -/
abbrev gword : BitVec 32 := Scalar.addi (Scalar.muli (BitVec.ofNat 32 (grid0.coords t 0).val) 2#32) (BitVec.ofNat 32 (grid0.coords t 1).val)

/-- The fetch where there is one. -/
def fetchIf : Prog (TpuEff nD τ sig (Elt F) Λ₀ .tc) PUnit :=
  if h1 : k0_cond1 (grid0.coords t) = 1#1 then
    fetch (F := F) t h1 (Memref.whole main_arg1) h3 a4 ha4 h5 h6 h7 a8 ha8 h9 h10 h11 a12 ha12 a13 ha13 a14 ha14 a15 ha15 (gword t)
  else pure ⟨⟩

/-- The body is its four parts. -/
theorem body_eq : cc0_expert_ffn (F := F) (grid0.coords t) (Memref.whole main_arg1) h3 a4 ha4 (Memref.whole main_arg2) h5 (Memref.whole main_arg3) h6 (Memref.whole main_arg4) h7 a8 ha8
      (Memref.whole cc0_scratch0) h9 (Memref.whole cc0_scratch1) h10 (Memref.whole cc0_scratch2) h11 a12 ha12 a13 ha13 a14 ha14 a15 ha15 cc0_scratch7
    = (fetchIf (F := F) t h3 a4 ha4 h5 h6 h7 a8 ha8 h9 h10 h11 a12 ha12 a13 ha13 a14 ha14 a15 ha15 >>= fun _ =>
        smemLoad (Memref.whole main_arg1) (Rect.unit (s := S16) (k0_off14 (grid0.coords t)) S1.size (k0_off14_inb (grid0.coords t))) numel1_S1 rfl >>= fun v9 =>
        work (F := F) t a4 a12 a13 a14 a15 v9 >>= fun _ => emit (F := F) t a8 ha8 a15 v9) := by
  rw [cc0_expert_ffn_eq_skeleton]
  unfold cc0_expert_ffn_skel fetchIf
  by_cases h1 : k0_cond1 (grid0.coords t) = 1#1
  · simp only [dif_pos h1]
    unfold fetch castBlocks
    simp only [bind_assoc, pure_bind]
    iterate 12 refine bind_congr fun _ => ?_
    unfold work emit live
    split_ifs <;> rfl
  · simp only [dif_neg h1, pure_bind]
    refine bind_congr fun _ => ?_
    unfold work emit live
    split_ifs <;> rfl

/-- The slots, and the half-width copies, before point `n`. -/
def ringAt (n : ℕ) : sProp 𝕄 := ring c W0 W1 W2 ((n + 5) / 6)
def copiesAt (n : ℕ) : sProp 𝕄 := if n % 6 = 0 then anything (F := F) c a12 a13 a14 else copied c W0 W1 W2 a12 a13 a14 (n / 6)

theorem fetchIf_wp [∀ e, Nonempty (Elt F e)] (W : Waits sig Unit) (Q : PUnit → sProp 𝕄) :
    iprop(ringAt c W0 W1 W2 t.val ∗ owes (c : Thread nD τ) 0 W ∗ copiesAt c W0 W1 W2 a12 a13 a14 t.val
        ∗ (iprop(ring c W0 W1 W2 (t.val / 6 + 1) ∗ copied c W0 W1 W2 a12 a13 a14 (t.val / 6) ∗ (∃ W', owes (c : Thread nD τ) 0 W')) -∗ Q ⟨⟩))
      ⊢ wp frame (wpE defs₀ Variants.none (c : Thread nD τ) none) Set.univ
        (fetchIf (F := F) t h3 a4 ha4 h5 h6 h7 a8 ha8 h9 h10 h11 a12 ha12 a13 ha13 a14 ha14 a15 ha15) Q := by
  unfold fetchIf ringAt copiesAt
  by_cases h : t.val % 6 = 0
  · rw [if_pos h, dif_pos ((cond1_iff t).2 h), show (t.val + 5) / 6 = t.val / 6 by omega]
    exact fetch_wp c W0 W1 W2 t _ (Memref.whole main_arg1) h3 a4 ha4 h5 h6 h7 a8 ha8 h9 h10 h11 a12 ha12 a13 ha13 a14 ha14 a15 ha15 (gword t) W Q
  · rw [if_neg h, dif_neg (fun e => h ((cond1_iff t).1 e)), show (t.val + 5) / 6 = t.val / 6 + 1 by omega]
    iintro ⟨Hr, HO, Hc, Hk⟩
    sl_step
    iapply Hk
    isplitl [Hr]; · iexact Hr
    isplitl [Hc]; · iexact Hc
    iexists W; iexact HO

variable (T : pre0.Contents (Elt F))

/-- The number of tokens of point `t`'s expert, from the table `T`. -/
def word (t : Fin grid0.N) : BitVec 32 := T.atD 0 (k0_off14 (grid0.coords t))

/-- The table, held at a half share. -/
def table : sProp 𝕄 := ((c : Thread nD τ).loc main_arg1) ↦{fullShare.right} (T 0 : Buf (Elt F) ((c : Thread nD τ).loc main_arg1))

theorem word_read (x : (Rect.unit (s := S16) (k0_off14 (grid0.coords t)) S1.size (k0_off14_inb (grid0.coords t))).shape.Idx) :
    (((Memref.whole main_arg1).access (Rect.unit (s := S16) (k0_off14 (grid0.coords t)) S1.size (k0_off14_inb (grid0.coords t)))).read (Elt F)
      (T 0 : Buf (Elt F) ((c : Thread nD τ).loc main_arg1)) x : Elt F .i32) = word T t := by
  have hw : ∀ a : Fin 1, k0_off14 (grid0.coords t) a + 1 ≤ S16.size a := by intro a; fin_cases a; exact k0_off14_inb (grid0.coords t) 0
  have e : word T t = (T 0 : S16.Idx → Elt F .i32) (fun a => ⟨k0_off14 (grid0.coords t) a, hw a⟩) := dif_pos hw
  rw [e]
  refine congrArg (T 0 : S16.Idx → Elt F .i32) (funext fun a => Fin.ext ?_)
  have hx : (x a).val < 1 := lt_of_lt_of_eq (x a).isLt (by fin_cases a; rfl)
  show k0_off14 (grid0.coords t) a + 1 * (x a).val = k0_off14 (grid0.coords t) a
  omega

theorem table_wp (Q : Elt F .i32 → sProp 𝕄) :
    iprop(table c T ∗ (table c T -∗ Q (word T t))) ⊢ wp frame (wpE defs₀ Variants.none (c : Thread nD τ) none) Set.univ
      (smemLoad (Memref.whole main_arg1) (Rect.unit (s := S16) (k0_off14 (grid0.coords t)) S1.size (k0_off14_inb (grid0.coords t))) numel1_S1 rfl) Q := by
  have h := wp_smemLoadElt (defs := defs₀ (F := F)) (Γ := .empty) (Q := Q) Variants.none (c : Thread nD τ) none Set.univ (m := Memref.whole main_arg1)
    (r := Rect.unit (s := S16) (k0_off14 (grid0.coords t)) S1.size (k0_off14_inb (grid0.coords t))) (hw := View.loads_smem_one rfl numel1_S1) (x := Shape.Idx.first (numel1_S1.symm ▸ Nat.one_pos))
    (k := .ret) (q := fullShare.right) (f := (T 0 : Buf (Elt F) ((c : Thread nD τ).loc main_arg1))) (Finset.subset_univ _)
  rw [word_read t T] at h
  unfold table smemLoad
  iintro ⟨HT, Hk⟩
  iapply h $$ HT
  iintro HT
  sl_step
  iapply Hk
  iexact HT

/-- What the tile's part leaves of the accumulator. -/
def Step (X : Vec F S1x592x1024 .bf16) (N0 N1 N2 : Vec F S1024x1024 .bf16) (A A' : Vec F S3552x1024 .f32) : Prop :=
  if live t (word T t) = 1#1 then Put A A' (tl t.val) (rowsAfter t X N0 N1 N2 A) else A' = A

/-- The body up to the tile of the result. -/
theorem front_wp [∀ e, Nonempty (Elt F e)] (W : Waits sig Unit) (X : Vec F S1x592x1024 .bf16) (A : Vec F S3552x1024 .f32) (Q : PUnit → sProp 𝕄) :
    iprop(ringAt c W0 W1 W2 t.val ∗ owes (c : Thread nD τ) 0 W ∗ copiesAt c W0 W1 W2 a12 a13 a14 t.val ∗ table c T
        ∗ owns (c : Thread nD τ) a4 fullShare X ∗ owns (c : Thread nD τ) a15 fullShare A
        ∗ (∀ A', iprop(ring c W0 W1 W2 (t.val / 6 + 1) ∗ copied c W0 W1 W2 a12 a13 a14 (t.val / 6) ∗ (∃ W', owes (c : Thread nD τ) 0 W') ∗ table c T
              ∗ owns (c : Thread nD τ) a4 fullShare X ∗ owns (c : Thread nD τ) a15 fullShare A'
              ∗ ⌜Step t T X (narrow0 c W0 (t.val / 6)) (narrow1 c W1 (t.val / 6)) (narrow2 c W2 (t.val / 6)) A A'⌝)
            -∗ wp frame (wpE defs₀ Variants.none (c : Thread nD τ) none) Set.univ (emit (F := F) t a8 ha8 a15 (word T t)) Q))
      ⊢ wp frame (wpE defs₀ Variants.none (c : Thread nD τ) none) Set.univ
        (cc0_expert_ffn (F := F) (grid0.coords t) (Memref.whole main_arg1) h3 a4 ha4 (Memref.whole main_arg2) h5 (Memref.whole main_arg3) h6 (Memref.whole main_arg4) h7 a8 ha8
          (Memref.whole cc0_scratch0) h9 (Memref.whole cc0_scratch1) h10 (Memref.whole cc0_scratch2) h11 a12 ha12 a13 ha13 a14 ha14 a15 ha15 cc0_scratch7) Q := by
  rw [body_eq, wp_bind]
  iintro ⟨Hr, HO, Hc, HT, HX, HA, Hk⟩
  iapply (fetchIf_wp c W0 W1 W2 t h3 a4 ha4 h5 h6 h7 a8 ha8 h9 h10 h11 a12 ha12 a13 ha13 a14 ha14 a15 ha15 W)
  isplitl [Hr]; · iexact Hr
  isplitl [HO]; · iexact HO
  isplitl [Hc]; · iexact Hc
  iintro ⟨Hr, Hc, HO⟩
  rw [wp_bind]
  iapply (table_wp c t T)
  isplitl [HT]; · iexact HT
  iintro HT
  rw [wp_bind]
  by_cases hl : live t (word T t) = 1#1
  · iapply (work_live c t a4 a12 a13 a14 a15 (word T t) X (narrow0 c W0 (t.val / 6)) (narrow1 c W1 (t.val / 6)) (narrow2 c W2 (t.val / 6)) A hl)
    unfold copied read4
    icases Hc with ⟨H0, H1, H2⟩
    isplitl [HX H0 H1 H2]
    · isplitl [HX]; · iexact HX
      isplitl [H0]; · iexact H0
      isplitl [H1]; · iexact H1
      iexact H2
    isplitl [HA]; · iexact HA
    iintro ⟨⟨HX, H0, H1, H2⟩, %A', %hA', HA⟩
    iapply Hk
    isplitl [Hr]; · iexact Hr
    isplitl [H0 H1 H2]
    · isplitl [H0]; · iexact H0
      isplitl [H1]; · iexact H1
      iexact H2
    isplitl [HO]; · iexact HO
    isplitl [HT]; · iexact HT
    isplitl [HX]; · iexact HX
    isplitl [HA]; · iexact HA
    ipureintro
    unfold Step
    rw [if_pos hl]
    exact hA'
  · iapply (work_dead c t a4 a12 a13 a14 a15 (word T t) hl)
    iapply Hk
    isplitl [Hr]; · iexact Hr
    isplitl [Hc]; · iexact Hc
    isplitl [HO]; · iexact HO
    isplitl [HT]; · iexact HT
    isplitl [HX]; · iexact HX
    isplitl [HA]; · iexact HA
    ipureintro
    unfold Step
    rw [if_neg hl]

end

end Cert.FfnIdeal.Hand

end
-- ==== Proof.FfnLaunch.lean ====
/- The expert kernel's launch: what the launch hands over, cut into the slots, the halves of the weights and the cells of
   the transfers, and the invariant that runs along the grid's points. -/
module

public import proofs.«01_k».proof.Proof.FfnPoint
public import proofs.«01_k».proof.Proof.Gen.FfnIdeal.Launch
public import Idealize.ShloMosaic.Lib.Pipeline.FrameBody
public import Idealize.ShloMosaic.Lib.Ring

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.FfnIdeal Cert.FfnIdeal.Gen

variable {F : FTy → Type} [FloatOps F]

local notation "𝕄" => MT nD τ sig Unit (Elt F) ℕ (Pipeline.UD sig nD τ) ℕ

/-! ## The slots of a weight scratch -/

section

variable (c : Dev nD)

abbrev slotSet (s : Fin 2) : Finset S2x1024x1024.Idx := (Rect.unit (s := S2x1024x1024) ![s.val, 0, 0] S1x1024x1024.size (slot_inb s)).set
theorem slot_disjoint (s s' : Fin 2) (h : s ≠ s') : Disjoint (slotSet s) (slotSet s') :=
  Ring.lead_disjoint (s := S2x1024x1024) (0 : Fin 3) 1 (fun s : Fin 2 => (![s.val, 0, 0] : Fin 3 → Nat)) S1x1024x1024.size slot_inb (fun s => by simp) rfl s s' h
theorem slot_cover : Finset.univ.biUnion slotSet = Finset.univ :=
  Ring.lead_cover (s := S2x1024x1024) (0 : Fin 3) 1 (fun s : Fin 2 => (![s.val, 0, 0] : Fin 3 → Nat)) S1x1024x1024.size slot_inb (fun s => by simp)
    (fun s a ha => by fin_cases a <;> first | exact absurd rfl ha | rfl) rfl (fun a ha => by fin_cases a <;> first | exact absurd rfl ha | rfl) rfl

theorem has0_eq (s : Fin 2) (f) : has (F := F) c (slot0 s) f = (((c : Thread nD τ).loc cc0_scratch0) ↦[slotSet s]{fullShare} f : sProp 𝕄) := by
  have e : (slot0 s).view.set = slotSet s := by simp only [slot0, slotOf, Memref.view_squeeze, View.set_reshape]; exact View.set_slice_whole _ _
  unfold has; rw [e]; rfl
theorem has1_eq (s : Fin 2) (f) : has (F := F) c (slot1 s) f = (((c : Thread nD τ).loc cc0_scratch1) ↦[slotSet s]{fullShare} f : sProp 𝕄) := by
  have e : (slot1 s).view.set = slotSet s := by simp only [slot1, slotOf, Memref.view_squeeze, View.set_reshape]; exact View.set_slice_whole _ _
  unfold has; rw [e]; rfl
theorem has2_eq (s : Fin 2) (f) : has (F := F) c (slot2 s) f = (((c : Thread nD τ).loc cc0_scratch2) ↦[slotSet s]{fullShare} f : sProp 𝕄) := by
  have e : (slot2 s).view.set = slotSet s := by simp only [slot2, slotOf, Memref.view_squeeze, View.set_reshape]; exact View.set_slice_whole _ _
  unfold has; rw [e]; rfl

/-! A scratch is its two slots. -/
set_option maxHeartbeats 1000000 in
theorem slots0_split : iprop(∃ f : Buf (Elt F) ((c : Thread nD τ).loc cc0_scratch0), ((c : Thread nD τ).loc cc0_scratch0) ↦{fullShare} f) ⊢ (iprop((∃ f, has (F := F) c (slot0 0) f) ∗ ∃ f, has (F := F) c (slot0 1) f) : sProp 𝕄) :=
  Ring.slots2_split (U := Pipeline.UD sig nD τ) (ℓ := (c : Thread nD τ).loc cc0_scratch0) (q := fullShare) slotSet slot_disjoint slot_cover _ _ (has0_eq c 0) (has0_eq c 1)
set_option maxHeartbeats 1000000 in
theorem slots0_join : (iprop((∃ f, has (F := F) c (slot0 0) f) ∗ ∃ f, has (F := F) c (slot0 1) f) : sProp 𝕄) ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) slotSet slot_disjoint slot_cover _ _ (has0_eq c 0) (has0_eq c 1)
set_option maxHeartbeats 1000000 in
theorem slots1_split : iprop(∃ f : Buf (Elt F) ((c : Thread nD τ).loc cc0_scratch1), ((c : Thread nD τ).loc cc0_scratch1) ↦{fullShare} f) ⊢ (iprop((∃ f, has (F := F) c (slot1 0) f) ∗ ∃ f, has (F := F) c (slot1 1) f) : sProp 𝕄) :=
  Ring.slots2_split (U := Pipeline.UD sig nD τ) (ℓ := (c : Thread nD τ).loc cc0_scratch1) (q := fullShare) slotSet slot_disjoint slot_cover _ _ (has1_eq c 0) (has1_eq c 1)
set_option maxHeartbeats 1000000 in
theorem slots1_join : (iprop((∃ f, has (F := F) c (slot1 0) f) ∗ ∃ f, has (F := F) c (slot1 1) f) : sProp 𝕄) ⊢ iprop(∃ f : Buf (Elt F) ((c : Thread nD τ).loc cc0_scratch1), ((c : Thread nD τ).loc cc0_scratch1) ↦{fullShare} f) :=
  Ring.slots2_join (U := Pipeline.UD sig nD τ) (ℓ := (c : Thread nD τ).loc cc0_scratch1) (q := fullShare) slotSet slot_disjoint slot_cover _ _ (has1_eq c 0) (has1_eq c 1)
set_option maxHeartbeats 1000000 in
theorem slots2_split : iprop(∃ f : Buf (Elt F) ((c : Thread nD τ).loc cc0_scratch2), ((c : Thread nD τ).loc cc0_scratch2) ↦{fullShare} f) ⊢ (iprop((∃ f, has (F := F) c (slot2 0) f) ∗ ∃ f, has (F := F) c (slot2 1) f) : sProp 𝕄) :=
  Ring.slots2_split (U := Pipeline.UD sig nD τ) (ℓ := (c : Thread nD τ).loc cc0_scratch2) (q := fullShare) slotSet slot_disjoint slot_cover _ _ (has2_eq c 0) (has2_eq c 1)
set_option maxHeartbeats 1000000 in
theorem slots2_join : (iprop((∃ f, has (F := F) c (slot2 0) f) ∗ ∃ f, has (F := F) c (slot2 1) f) : sProp 𝕄) ⊢ iprop(∃ f : Buf (Elt F) ((c : Thread nD τ).loc cc0_scratch2), ((c : Thread nD τ).loc cc0_scratch2) ↦{fullShare} f) :=
  Ring.slots2_join (U := Pipeline.UD sig nD τ) (ℓ := (c : Thread nD τ).loc cc0_scratch2) (q := fullShare) slotSet slot_disjoint slot_cover _ _ (has2_eq c 0) (has2_eq c 1)

variable (W0 : Buf (Elt F) ((c : Thread nD τ).loc main_arg2)) (W1 : Buf (Elt F) ((c : Thread nD τ).loc main_arg3)) (W2 : Buf (Elt F) ((c : Thread nD τ).loc main_arg4))

/-- The three weights whole. -/
def weights : sProp 𝕄 :=
  iprop((((c : Thread nD τ).loc main_arg2) ↦{fullShare} W0) ∗ (((c : Thread nD τ).loc main_arg3) ↦{fullShare} W1) ∗ (((c : Thread nD τ).loc main_arg4) ↦{fullShare} W2))
/-- The three weight scratches at something. -/
def scratches : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The two cells at zero. -/
def cells : sProp 𝕄 := iprop(semVal ((c : Thread nD τ), SemLoc.dma 4) 0 ∗ semVal ((c : Thread nD τ), SemLoc.dma 5) 0)

/-- They are the two slots, free; -/
theorem slots_in : iprop(scratches (F := F) c ∗ cells (F := F) c ∗ weights c W0 W1 W2) ⊢ iprop(free c W0 W1 W2 0 ∗ free c W0 W1 W2 1) := by
  unfold scratches cells weights free copies
  rw [sem_0, sem_1]
  iintro ⟨⟨S0, S1, S2⟩, ⟨C0, C1⟩, H0, H1, H2⟩
  ihave S0' := (slots0_split (F := F) c) $$ S0
  ihave S1' := (slots1_split (F := F) c) $$ S1
  ihave S2' := (slots2_split (F := F) c) $$ S2
  ihave H0' := (pointsTo_share (PosShare.mem_left_op_right fullShare)).1 $$ H0
  ihave H1' := (pointsTo_share (PosShare.mem_left_op_right fullShare)).1 $$ H1
  ihave H2' := (pointsTo_share (PosShare.mem_left_op_right fullShare)).1 $$ H2
  icases S0' with ⟨S00, S01⟩
  icases S1' with ⟨S10, S11⟩
  icases S2' with ⟨S20, S21⟩
  icases H0' with ⟨H00, H01⟩
  icases H1' with ⟨H10, H11⟩
  icases H2' with ⟨H20, H21⟩
  isplitl [S00 S10 S20 C0 H00 H10 H20]
  · isplitl [S00]; · iexact S00
    isplitl [S10]; · iexact S10
    isplitl [S20]; · iexact S20
    isplitl [C0]; · iexact C0
    isplitl [H00]; · iexact H00
    isplitl [H10]; · iexact H10
    iexact H20
  isplitl [S01]; · iexact S01
  isplitl [S11]; · iexact S11
  isplitl [S21]; · iexact S21
  isplitl [C1]; · iexact C1
  isplitl [H01]; · iexact H01
  isplitl [H11]; · iexact H11
  iexact H21

/-- and back. -/
theorem slots_out : iprop(free c W0 W1 W2 0 ∗ free c W0 W1 W2 1) ⊢ iprop(scratches (F := F) c ∗ cells (F := F) c ∗ weights c W0 W1 W2) := by
  unfold scratches cells weights free copies
  rw [sem_0, sem_1]
  iintro ⟨⟨S00, S10, S20, C0, H00, H10, H20⟩, S01, S11, S21, C1, H01, H11, H21⟩
  isplitl [S00 S10 S20 S01 S11 S21]
  · isplitl [S00 S01]
    · iapply (slots0_join (F := F) c)
      isplitl [S00]; · iexact S00
      iexact S01
    isplitl [S10 S11]
    · iapply (slots1_join (F := F) c)
      isplitl [S10]; · iexact S10
      iexact S11
    iapply (slots2_join (F := F) c)
    isplitl [S20]; · iexact S20
    iexact S21
  isplitl [C0 C1]
  · isplitl [C0]; · iexact C0
    iexact C1
  isplitl [H00 H01]
  · iapply (pointsTo_share (PosShare.mem_left_op_right fullShare)).2
    isplitl [H00]; · iexact H00
    iexact H01
  isplitl [H10 H11]
  · iapply (pointsTo_share (PosShare.mem_left_op_right fullShare)).2
    isplitl [H10]; · iexact H10
    iexact H11
  iapply (pointsTo_share (PosShare.mem_left_op_right fullShare)).2
  isplitl [H20]; · iexact H20
  iexact H21

end

/-! ## The run's data -/

variable (m : (ℓ : Loc nD τ sig) → Buf (Elt F) ℓ)

/-- The buffers at the launch. -/
abbrev V (c : Dev nD) (b : Ref sig .tc) : Buf (Elt F) ((c : Thread nD τ).loc b) := m ((c : Thread nD τ).loc b)
theorem ok_all (pf : pre0.Contents (Elt F)) : ok0 pf := by unfold ok0; trivial
/-- The table of the experts' numbers of tokens at the launch. -/
abbrev tab : pre0.Contents (Elt F) := fun k => m (((0 : Dev nD) : Thread nD τ).loc (pre0.ref k))
abbrev adm (p : Fin 1) : (pcfgs (F := F) p).Adm := ⟨tab m, ok_all (tab m)⟩
abbrev cfgA : Cfg sig Λ₀ := cfg0 (adm m 0)

/-- Window `w`'s block at point `t`, of its array at the launch. -/
def iblk (c : Dev nD) (w : Fin 2) (t : Fin grid0.N) : (((cfgA m).win w).xblock (grid0.coords t)).Idx → Elt F ((cfgA m).win w).elt :=
  (((cfgA m).win w).blk t).view.read (Elt F) (V m c (Pipeline.arrRef spec0 w))
/-- The tile of inputs of point `t`. -/
abbrev inTile (c : Dev nD) (t : Fin grid0.N) : Vec F S1x592x1024 .bf16 := iblk m c 0 t
/-- The products of point `t`: its tile through its chunk of its expert. -/
def part (c : Dev nD) (t : Fin grid0.N) : Vec F S592x1024 .f32 :=
  k0_pay4 (inTile m c t) (narrow0 c (V m c main_arg2) (t.val / 6)) (narrow1 c (V m c main_arg3) (t.val / 6)) (narrow2 c (V m c main_arg4) (t.val / 6))
/-- Point `t`'s tile holds a token. -/
abbrev isLive (t : Fin grid0.N) : Prop := live t (word (tab m) t) = 1#1
/-- The point of the same tile at the chunk before. -/
def prev (t : Fin grid0.N) : Fin grid0.N := ⟨t.val - 6, lt_of_le_of_lt (Nat.sub_le _ _) t.isLt⟩
/-- The tile of the result at point `t` of a second chunk. -/
def outTile (c : Dev nD) (t : Fin grid0.N) : Vec F S1x592x1024 .bf16 :=
  if isLive m t then k0_pay7 (addf (part m c (prev t)) (part m c t)) else k0_pay8

/-- Before point `n` the accumulator holds the products of every first-chunk point among the six points before, if its tile holds
    a token. -/
def Held (c : Dev nD) (n : ℕ) (A : Vec F S3552x1024 .f32) : Prop :=
  ∀ s : Fin grid0.N, s.val / 6 % 2 = 0 → s.val < n → n ≤ s.val + 6 → isLive m s → rowsOf A (tl s.val) = part m c s

theorem held_start (c : Dev nD) (A : Vec F S3552x1024 .f32) : Held m c 0 A := fun s _ h => absurd h (Nat.not_lt_zero _)

theorem held_step (c : Dev nD) (t : Fin grid0.N) (A A' : Vec F S3552x1024 .f32) (h : Held m c t.val A)
    (hs : Step t (tab m) (inTile m c t) (narrow0 c (V m c main_arg2) (t.val / 6)) (narrow1 c (V m c main_arg3) (t.val / 6)) (narrow2 c (V m c main_arg4) (t.val / 6)) A A') :
    Held m c (t.val + 1) A' := by
  intro s h0 h1 h2 hl
  unfold Step at hs
  by_cases ht : live t (word (tab m) t) = 1#1
  · rw [if_pos ht] at hs
    by_cases e : s = t
    · subst e
      rw [hs.1]
      unfold rowsAfter part
      rw [if_pos h0]
    · have hne : s.val ≠ t.val := fun q => e (Fin.ext q)
      rw [hs.2 (tl s.val) (fun q => by have := congrArg Fin.val q; simp only at this; omega)]
      exact h s h0 (by omega) (by omega) hl
  · rw [if_neg ht] at hs
    subst hs
    have hne : s.val ≠ t.val := fun q => ht (by rw [← Fin.ext q]; exact hl)
    exact h s h0 (by omega) (by omega) hl

theorem prev_coords : ∀ t : Fin grid0.N, t.val / 6 % 2 = 1 → (grid0.coords (prev t) 2).val = (grid0.coords t 2).val ∧ k0_off14 (grid0.coords (prev t)) = k0_off14 (grid0.coords t) := by
  decide +kernel

theorem prev_live (t : Fin grid0.N) (hf : t.val / 6 % 2 = 1) : isLive m (prev t) ↔ isLive m t := by
  obtain ⟨h2, h14⟩ := prev_coords t hf
  show live (prev t) (word (tab m) (prev t)) = 1#1 ↔ live t (word (tab m) t) = 1#1
  unfold live word
  rw [h2, h14]

theorem held_tile (c : Dev nD) (t : Fin grid0.N) (hf : t.val / 6 % 2 = 1) (A A' : Vec F S3552x1024 .f32) (h : Held m c t.val A)
    (hs : Step t (tab m) (inTile m c t) (narrow0 c (V m c main_arg2) (t.val / 6)) (narrow1 c (V m c main_arg3) (t.val / 6)) (narrow2 c (V m c main_arg4) (t.val / 6)) A A') :
    tileOut t (word (tab m) t) A' = outTile m c t := by
  unfold tileOut outTile
  unfold Step at hs
  by_cases ht : live t (word (tab m) t) = 1#1
  · rw [if_pos ht, if_pos ht]
    rw [if_pos ht] at hs
    rw [hs.1]
    unfold rowsAfter
    have hp : rowsOf A (tl (prev t).val) = part m c (prev t) :=
      h (prev t) (by show (t.val - 6) / 6 % 2 = 0; omega) (by show t.val - 6 < t.val; omega) (by show t.val ≤ t.val - 6 + 6; omega) ((prev_live m t hf).2 ht)
    have e : tl (prev t).val = tl t.val := Fin.ext (by show (t.val - 6) % 6 = t.val % 6; omega)
    rw [e] at hp
    rw [if_neg (by omega), hp]
    rfl
  · rw [if_neg ht, if_neg ht]

abbrev acc : Memref sig .tc .vmem S3552x1024 .f32 := Memref.whole cc0_scratch6
abbrev copy0 : Memref sig .tc .vmem S1024x1024 .bf16 := Memref.whole cc0_scratch3
abbrev copy1 : Memref sig .tc .vmem S1024x1024 .bf16 := Memref.whole cc0_scratch4
abbrev copy2 : Memref sig .tc .vmem S1024x1024 .bf16 := Memref.whole cc0_scratch5

/-- What holds before point `n`. -/
def Inv (c : Dev nD) (n : ℕ) : sProp 𝕄 :=
  iprop(ringAt c (V m c main_arg2) (V m c main_arg3) (V m c main_arg4) n ∗ copiesAt c (V m c main_arg2) (V m c main_arg3) (V m c main_arg4) copy0 copy1 copy2 n
    ∗ table c (tab m) ∗ (∃ r, prngReg c r) ∗ ∃ A, ⌜Held m c n A⌝ ∗ owns (c : Thread nD τ) acc fullShare A)

end Cert.FfnIdeal.Hand

end
-- ==== Proof.FfnRun.lean ====
/- The expert kernel's run: the body at every point against the invariant, the launch, and what a run leaves. -/
module

public import proofs.«01_k».proof.Proof.FfnLaunch

@[expose] public section

set_option maxRecDepth 16384
set_option synthInstance.maxSize 4096

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.FfnIdeal Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows at a point -/

abbrev st0 (t : Fin grid0.N) : Memref sig .tc .vmem S1x592x1024 .bf16 := spec0_0.stage ((cfgA m).slots t 0)
abbrev st1 (t : Fin grid0.N) : Memref sig .tc .vmem S1x592x1024 .bf16 := spec0_1.stage ((cfgA m).slots t 1)

/-- At a first chunk nothing is stored to the result's tile, and it is not written back. -/
theorem out_idle (t : Fin grid0.N) (hf : ¬ t.val / 6 % 2 = 1) : (cfgA m).idle 1 (grid0.coords t) = true := by
  have h7 : ¬ k0_cond7 (grid0.coords t) (word (tab m) t) = 1#1 := fun h => hf ((cond7_iff t _).1 h).1
  have h8 : ¬ k0_cond8 (grid0.coords t) (word (tab m) t) = 1#1 := fun h => hf ((cond8_iff t _).1 h).1
  show (!(k0_cond7 (grid0.coords t) (word (tab m) t) == 1#1) && !(k0_cond8 (grid0.coords t) (word (tab m) t) == 1#1)) = true
  simp [h7, h8]
theorem out_busy (t : Fin grid0.N) (hf : t.val / 6 % 2 = 1) : (cfgA m).idle 1 (grid0.coords t) = false := by
  show (!(k0_cond7 (grid0.coords t) (word (tab m) t) == 1#1) && !(k0_cond8 (grid0.coords t) (word (tab m) t) == 1#1)) = false
  by_cases hl : live t (word (tab m) t) = 1#1
  · have h := (cond7_iff t (word (tab m) t)).2 ⟨hf, hl⟩
    simp [h]
  · have h := (cond8_iff t (word (tab m) t)).2 ⟨hf, hl⟩
    simp [h]

/-- Where the result's tile is written back. -/
def outFlush (t : Fin grid0.N) : Bool :=
  true && (t.val + 1 = grid0.N || decide (∃ h : t.val + 1 < grid0.N, cc0_transform_4 (grid0.coords ⟨t.val + 1, h⟩) ≠ cc0_transform_4 (grid0.coords t)))
theorem outFlush_iff : ∀ t : Fin grid0.N, outFlush t = decide (t.val / 6 % 2 = 1) := by decide +kernel
theorem out_flush (t : Fin grid0.N) : ((cfgA m).win 1).flush t = decide (t.val / 6 % 2 = 1) := Eq.trans rfl (outFlush_iff t)

/-! ## The proof data -/

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => outTile m c t
  Φ t := Inv m c t.val
  q _ := fullShare
  owed _ := 0

theorem A_eq (c : Dev nD) (w : Fin 2) : (dats m 0 c).A w = V m c (Pipeline.arrRef spec0 w) := by dsimp only [dats]
theorem after0 (c : Dev nD) (t : Fin grid0.N) : (dats m 0 c).after 0 t = iblk m c 0 t := by dsimp only [dats]; rfl
theorem after1 (c : Dev nD) (t : Fin grid0.N) : (dats m 0 c).after 1 t = outTile m c t := by dsimp only [dats]; rfl
theorem Phi_before (c : Dev nD) (t : Fin grid0.N) : (dats m 0 c).Φ t.castSucc = Inv m c t.val := by
  dsimp only [dats]; simp only [Fin.coe_castSucc]
theorem Phi_after (c : Dev nD) (t : Fin grid0.N) : (dats m 0 c).Φ t.succ = Inv m c (t.val + 1) := by
  dsimp only [dats]; simp only [Fin.val_succ]
theorem before0 (c : Dev nD) (t : Fin grid0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-! ## The body at a point -/

def bodyAt (t : Fin grid0.N) : Prog (TpuEff nD τ sig (Elt F) Λ₀ .tc) PUnit :=
  cc0_expert_ffn (grid0.coords t) (Memref.whole main_arg1) (Memref.isWhole_whole _) (st0 m t) (hstage0_0 (((cfgA m).slots t 0).cast nbuf0_0)) (Memref.whole main_arg2) (Memref.isWhole_whole _)
    (Memref.whole main_arg3) (Memref.isWhole_whole _) (Memref.whole main_arg4) (Memref.isWhole_whole _) (st1 m t) (hstage0_1 (((cfgA m).slots t 1).cast nbuf0_1))
    (Memref.whole cc0_scratch0) (Memref.isWhole_whole _) (Memref.whole cc0_scratch1) (Memref.isWhole_whole _) (Memref.whole cc0_scratch2) (Memref.isWhole_whole _)
    copy0 (Memref.isWhole_whole _) copy1 (Memref.isWhole_whole _) copy2 (Memref.isWhole_whole _) acc (Memref.isWhole_whole _) cc0_scratch7

theorem body_row (t : Fin grid0.N) : defs₀ (F := F) .tc (cfgA m).body ((cfgA m).bodyArgs t ((cfgA m).slots t)) = bodyAt m t := by
  unfold defs₀; rw [Defs.onTc_tc]; rfl

def bodyPre (c : Dev nD) (t : Fin grid0.N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d)))
def bodyPost (c : Dev nD) (t : Fin grid0.N) : sProp 𝕄 :=
  iprop((dats m 0 c).Φ t.succ ∗ (dats m 0 c).owesAt () t.succ ∗ owns (c : Thread nD τ) (st0 m t) fullShare (iblk m c 0 t) ∗ (dats m 0 c).leavesExact 1 t)

/-- The invariant after point `t`, from what the body's parts leave. -/
theorem inv_after (c : Dev nD) (t : Fin grid0.N) (A' : Vec F S3552x1024 .f32) (h : Held m c (t.val + 1) A') :
    iprop(ring c (V m c main_arg2) (V m c main_arg3) (V m c main_arg4) (t.val / 6 + 1) ∗ copied c (V m c main_arg2) (V m c main_arg3) (V m c main_arg4) copy0 copy1 copy2 (t.val / 6)
        ∗ table c (tab m) ∗ (∃ r, prngReg c r) ∗ owns (c : Thread nD τ) acc fullShare A')
      ⊢ Inv m c (t.val + 1) := by
  unfold Inv ringAt copiesAt
  rw [show (t.val + 1 + 5) / 6 = t.val / 6 + 1 by omega]
  iintro ⟨Hr, Hc, HT, Hg, HA⟩
  isplitl [Hr]; · iexact Hr
  isplitl [Hc]
  · by_cases e : (t.val + 1) % 6 = 0
    · rw [if_pos e]
      unfold copied anything
      icases Hc with ⟨H0, H1, H2⟩
      isplitl [H0]; · iexists _; iexact H0
      isplitl [H1]; · iexists _; iexact H1
      iexists _; iexact H2
    · rw [if_neg e, show (t.val + 1) / 6 = t.val / 6 by omega]
      iexact Hc
  isplitl [HT]; · iexact HT
  isplitl [Hg]; · iexact Hg
  iexists A'
  isplitr
  · ipureintro; exact h
  iexact HA

variable [∀ e, Nonempty (Elt F e)]

theorem sound_body (c : Dev nD) (t : Fin grid0.N) :
    bodyPre m c t ⊢ wp frame (wpE (defs₀ (F := F)) Variants.none (c : Thread nD τ) none) Set.univ (bodyAt m t) (fun _ => bodyPost m c t) := by
  unfold bodyPre bodyPost bodyAt
  simp only [before0]
  rw [Phi_before m c t, Phi_after m c t]
  unfold Dat.owesAt Pipeline.owesWithin
  rw [show (dats m 0 c).owed t.castSucc = 0 from rfl, show (dats m 0 c).owed t.succ = 0 from rfl]
  by_cases hf : t.val / 6 % 2 = 1
  · rw [show (dats m 0 c).leavesExact 1 t = owns (c : Thread nD τ) (st1 m t) fullShare (outTile m c t) from by
      unfold Dat.leavesExact; rw [out_busy m t hf, after1]; rfl]
    rw [Inv.eq_def m c t.val]
    iintro ⟨⟨Hr, Hc, HT, Hg, %A, %hA, HA⟩, ⟨%W, -, HW⟩, ⟨%d0, H0⟩, ⟨%d1, H1⟩⟩
    iapply (front_wp c (V m c main_arg2) (V m c main_arg3) (V m c main_arg4) t _ (st0 m t) _ _ _ _ (st1 m t) _ _ _ _ copy0 _ copy1 _ copy2 _ acc _ (tab m) W (inTile m c t) A)
    isplitl [Hr]; · iexact Hr
    isplitl [HW]; · iexact HW
    isplitl [Hc]; · iexact Hc
    isplitl [HT]; · iexact HT
    isplitl [H0]; · iexact H0
    isplitl [HA]; · iexact HA
    iintro %A' ⟨Hr, Hc, ⟨%W', HW'⟩, HT, H0, HA, %hs⟩
    iapply (emit_tile c t (st1 m t) _ acc (word (tab m) t) A' hf)
    isplitl [HA]; · iexact HA
    isplitl [H1]; · iexists _; iexact H1
    iintro ⟨HA, H1⟩
    isplitl [Hr Hc HT Hg HA]
    · iapply (inv_after m c t A' (held_step m c t A A' hA hs))
      isplitl [Hr]; · iexact Hr
      isplitl [Hc]; · iexact Hc
      isplitl [HT]; · iexact HT
      isplitl [Hg]; · iexact Hg
      iexact HA
    isplitl [HW']
    · iexists W'; isplitr
      · ipureintro; exact fun _ _ => Or.inl trivial
      iexact HW'
    isplitl [H0]; · iexact H0
    rw [held_tile m c t hf A A' hA hs]
    iexact H1
  · rw [Dat.leavesExact_idle (dats m 0 c) 1 t (out_idle m t hf) ((out_flush m t).trans (decide_eq_false hf))]
    rw [Inv.eq_def m c t.val]
    iintro ⟨⟨Hr, Hc, HT, Hg, %A, %hA, HA⟩, ⟨%W, -, HW⟩, ⟨%d0, H0⟩, H1⟩
    iapply (front_wp c (V m c main_arg2) (V m c main_arg3) (V m c main_arg4) t _ (st0 m t) _ _ _ _ (st1 m t) _ _ _ _ copy0 _ copy1 _ copy2 _ acc _ (tab m) W (inTile m c t) A)
    isplitl [Hr]; · iexact Hr
    isplitl [HW]; · iexact HW
    isplitl [Hc]; · iexact Hc
    isplitl [HT]; · iexact HT
    isplitl [H0]; · iexact H0
    isplitl [HA]; · iexact HA
    iintro %A' ⟨Hr, Hc, ⟨%W', HW'⟩, HT, H0, HA, %hs⟩
    iapply (emit_none c t (st1 m t) _ acc (word (tab m) t) hf)
    isplitl [Hr Hc HT Hg HA]
    · iapply (inv_after m c t A' (held_step m c t A A' hA hs))
      isplitl [Hr]; · iexact Hr
      isplitl [Hc]; · iexact Hc
      isplitl [HT]; · iexact HT
      isplitl [Hg]; · iexact Hg
      iexact HA
    isplitl [HW']
    · iexists W'; isplitr
      · ipureintro; exact fun _ _ => Or.inl trivial
      iexact HW'
    isplitl [H0]; · iexact H0
    iexact H1

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- The transfers' two cells. -/
abbrev osem : Fin 2 → SemLoc sig := fun j => (![SemLoc.dma 4, SemLoc.dma 5] : Fin 2 → SemLoc sig) j
theorem ownSems_facts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄) = cells c := by
  rw [Pipeline.ownSems0_eq_of_list c osem [0, 1] (by decide) (by decide)]; rfl
/-- The weights, which the body moves itself. -/
def moved : Finset (Ref sig .tc) := {main_arg2, main_arg3, main_arg4}
theorem moved_sub : moved ⊆ Pipeline.restRefsP sig pre0 spec0 := by decide
theorem moved_eq (c : Dev nD) :
    (bigSep moved (fun b => ((c : Thread nD τ).loc b) ↦{fullShare} V m c b) : sProp 𝕄) = weights c (V m c main_arg2) (V m c main_arg3) (V m c main_arg4) := by
  rw [BI.bigSep_eq_bigSepL_of_eq [main_arg2, main_arg3, main_arg4] (by decide) (by decide)]; rfl
theorem tables_eq (c : Dev nD) : (Pipeline.ΦT pre0 (tab m) c : sProp 𝕄) = table c (tab m) := by
  unfold Pipeline.ΦT Pipeline.prefHeld
  rw [bigSep_univ_eq_bigSepL [(0 : Fin 1)] (by decide) (by decide)]; rfl

theorem inv_start (c : Dev nD) : iprop(Pipeline.ΦD osem spec0 moved (V m) c ∗ Pipeline.ΦT pre0 (tab m) c) ⊢ (dats m 0 c).Φ 0 := by
  rw [Pipeline.ΦD_eq, scopedRest0_eq, ownSems_eq, moved_eq, tables_eq, show (dats m 0 c).Φ 0 = Inv m c 0 from rfl]
  unfold Inv ringAt copiesAt
  rw [if_pos rfl, ring_end _ _ _ _ _ (by decide)]
  unfold anything
  simp only [copy0, copy1, copy2, acc, owns_whole]
  iintro ⟨⟨⟨S0, S1, S2, S3, S4, S5, %A, S6⟩, Hg, Hc, Hw⟩, HT⟩
  isplitl [S0 S1 S2 Hc Hw]
  · iapply (slots_in c (V m c main_arg2) (V m c main_arg3) (V m c main_arg4))
    unfold scratches
    isplitl [S0 S1 S2]
    · isplitl [S0]; · iexact S0
      isplitl [S1]; · iexact S1
      iexact S2
    isplitl [Hc]; · iexact Hc
    iexact Hw
  isplitl [S3 S4 S5]
  · isplitl [S3]; · iexact S3
    isplitl [S4]; · iexact S4
    iexact S5
  isplitl [HT]; · iexact HT
  isplitl [Hg]; · iexact Hg
  iexists A
  isplitr
  · ipureintro; exact held_start m c A
  iexact S6

theorem inv_end (c : Dev nD) : (dats m 0 c).Φ (Fin.last grid0.N) ⊢ Pipeline.ΦD osem spec0 moved (V m) c := by
  rw [Pipeline.ΦD_eq, scopedRest0_eq, ownSems_eq, moved_eq, show (dats m 0 c).Φ (Fin.last grid0.N) = Inv m c grid0.N from rfl, N_0]
  unfold Inv ringAt copiesAt
  rw [if_pos rfl, ring_end _ _ _ _ _ (by decide), show sl ((192 + 5) / 6) = 0 from rfl, show sl ((192 + 5) / 6 + 1) = 1 from rfl]
  unfold anything
  simp only [copy0, copy1, copy2, acc, owns_whole]
  iintro ⟨Hr, ⟨S3, S4, S5⟩, -, Hg, %A, -, S6⟩
  ihave Hr' := (slots_out c (V m c main_arg2) (V m c main_arg3) (V m c main_arg4)) $$ Hr
  unfold scratches
  icases Hr' with ⟨⟨S0, S1, S2⟩, Hc, Hw⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexists A; iexact S6
  isplitl [Hg]; · iexact Hg
  isplitl [Hc]; · iexact Hc
  iexact Hw

set_option maxHeartbeats 800000 in
theorem main_region : Pipeline.HMainP (Ix := Unit) (Name := ℕ) (U := Pipeline.UD sig nD τ) (Lvl := ℕ) (pcfgs (F := F)) 0 defs₀ Variants.none m (main (F := F)) (V m) :=
  Pipeline.hmainP_region pcfgs 0 defs₀ Variants.none m main fun c => (main_chain c).trans rfl

set_option backward.isDefEq.respectTransparency.types false in
/-- Every run ends, with the result's tiles where they belong, everything else as it was, and every semaphore at zero. -/
theorem run_main : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_dma (Q' := _) pcfgs (adm m) (dats m) (0 : Fin 1) launch0 osem defs₀ Variants.none ownSems_facts moved moved_sub m ρ main
    (hbody := fun c => (body_obligation m c).loose) (hshare := fun c => (dats m 0 c).share_full fun _ => rfl)
    (howed := fun _ _ => rfl) (V := V m) (hmain := main_region m) (hA := A_eq m) (hpf := fun c k => by rw [Subsingleton.elim c 0])
    (hin := inv_start m) (hout := inv_end m)

end Cert.FfnIdeal.Hand

end
-- ==== Proof.FfnMath.lean ====
/- An expert of the feed-forward network, row by row: the gated product of two products, projected back; the sum over the
   2048 hidden columns is the sum of the sums over two chunks of 1024. -/
module

public import Idealize.ShloMosaic.Lib.Pointwise

@[expose] public section

noncomputable section

namespace Cert.Experts

open Idealize.ShloMosaic

/-- One hidden column of a row: the gate's product, times its logistic, times the other product. -/
def gated (x g u : Fin 1024 → EReal) : EReal :=
  (∑ k, x k * g k) * Ideal.logistic (∑ k, x k * g k) * ∑ k, x k * u k

/-- A row through `n` hidden columns. -/
def through {n : ℕ} (x : Fin 1024 → EReal) (g u : Fin n → Fin 1024 → EReal) (d : Fin n → EReal) : EReal :=
  ∑ f, gated x (g f) (u f) * d f

/-- A row through 2048 columns goes through the first 1024, and through the others. -/
theorem through_halves (x : Fin 1024 → EReal) (g u : Fin 2048 → Fin 1024 → EReal) (d : Fin 2048 → EReal) :
    through x (fun f : Fin 1024 => g ⟨f, by omega⟩) (fun f => u ⟨f, by omega⟩) (fun f => d ⟨f, by omega⟩)
        + through x (fun f : Fin 1024 => g ⟨1024 + f, by omega⟩) (fun f => u ⟨1024 + f, by omega⟩) (fun f => d ⟨1024 + f, by omega⟩)
      = through x g u d :=
  (Fin.sum_univ_add (a := 1024) (b := 1024) fun f : Fin (1024 + 1024) => gated x (g f) (u f) * d f).symm

/-- Row `r` of expert `e`, by the first layer's weights. -/
def rowOf (x : FVec Ideal ⟨3, ![16, 3552, 1024]⟩ .bf16) (g u : FVec Ideal ⟨4, ![2, 16, 1024, 2048]⟩ .f32)
    (d : FVec Ideal ⟨4, ![2, 16, 2048, 1024]⟩ .f32) (e : Fin 16) (r : Fin 3552) (j : Fin 1024) : EReal :=
  through (fun k => x (ix3 e r k)) (fun f k => g (ix4 0 e k f)) (fun f k => u (ix4 0 e k f)) fun f : Fin 2048 => d (ix4 0 e f j)

end Cert.Experts

end
-- ==== Proof.FfnBlock.lean ====
/- What the expert kernel's tile comes to: each row through a chunk of 1024 hidden columns. -/
module

public import proofs.«01_k».proof.Proof.FfnCast
public import proofs.«01_k».proof.Proof.FfnMath
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe
open Cert.Experts

theorem chunk_at (X : Vec Ideal S1x592x1024 .bf16) (N0 N1 N2 : Vec Ideal S1024x1024 .bf16) (i : Fin 592) (j : Fin 1024) :
    k0_pay4 X N0 N1 N2 (ix2 i j)
      = through (fun k => X (ix3 0 i k)) (fun f k => N0 (ix2 k f)) (fun f k => N1 (ix2 k f)) fun f : Fin 1024 => N2 (ix2 f j) := by
  unfold through gated
  pointwise [k0_pay4]

theorem sum_at (A B : FVec Ideal S592x1024 .f32) (i : Fin 592) (j : Fin 1024) : k0_pay7 (addf A B) (ix3 0 i j) = A (ix2 i j) + B (ix2 i j) := by
  pointwise [k0_pay7]

/-- A block of a weight, read at an entry. -/
theorem squeezed (Y : FVec Ideal S1x1x1024x1024 .f32) (h : S1x1x1024x1024.ShapeCasts S1024x1024) (k f : Fin 1024) :
    shapeCast S1024x1024 Y h (ix2 k f) = Y (ix4 0 0 k f) := by
  pointwise

/-- Chunk `b % 2` of expert `b / 2` of a weight whose columns are the hidden ones; -/
theorem wide_at (M : Memref sig .tc .hbm S2x16x1024x2048 .f32) (W : M.view.ty.Contents (Elt Ideal)) (b : Fin 32) (k f : Fin 1024)
    (e : Fin 16) (q : Fin 2048) (he : b.val / 2 = e) (hq : (q : ℕ) = 1024 * (b.val % 2) + f) :
    (show FVec Ideal S1024x1024 .f32 from (wideOf M b).view.read (Elt Ideal) W) (ix2 k f)
      = (show FVec Ideal S2x16x1024x2048 .f32 from M.view.read (Elt Ideal) W) (ix4 0 e k q) := by
  refine (squeezed (M.view.readAt (Elt Ideal) (Rect.unit (s := S2x16x1024x2048) ![0, b.val / 2, 0, 1024 * (b.val % 2)] S1x1x1024x1024.size (wide_inb b)).toLoadRect W)
    squeezes_S1x1x1024x1024_S1024x1024.numel_eq k f).trans ?_
  refine congrArg (show FVec Ideal S2x16x1024x2048 .f32 from M.view.read (Elt Ideal) W) (funext fun a => Fin.ext ?_)
  fin_cases a
  · rfl
  · show b.val / 2 + 1 * 0 = e
    omega
  · show 0 + 1 * (k : ℕ) = k
    omega
  · show 1024 * (b.val % 2) + 1 * (f : ℕ) = q
    omega

/-- and of the one whose rows are. -/
theorem tall_at (M : Memref sig .tc .hbm S2x16x2048x1024 .f32) (W : M.view.ty.Contents (Elt Ideal)) (b : Fin 32) (f k : Fin 1024)
    (e : Fin 16) (q : Fin 2048) (he : b.val / 2 = e) (hq : (q : ℕ) = 1024 * (b.val % 2) + f) :
    (show FVec Ideal S1024x1024 .f32 from (tallOf M b).view.read (Elt Ideal) W) (ix2 f k)
      = (show FVec Ideal S2x16x2048x1024 .f32 from M.view.read (Elt Ideal) W) (ix4 0 e q k) := by
  refine (squeezed (M.view.readAt (Elt Ideal) (Rect.unit (s := S2x16x2048x1024) ![0, b.val / 2, 1024 * (b.val % 2), 0] S1x1x1024x1024.size (tall_inb b)).toLoadRect W)
    squeezes_S1x1x1024x1024_S1024x1024.numel_eq f k).trans ?_
  refine congrArg (show FVec Ideal S2x16x2048x1024 .f32 from M.view.read (Elt Ideal) W) (funext fun a => Fin.ext ?_)
  fin_cases a
  · rfl
  · show b.val / 2 + 1 * 0 = e
    omega
  · show 1024 * (b.val % 2) + 1 * (f : ℕ) = q
    omega
  · show 0 + 1 * (k : ℕ) = k
    omega

end Cert.FfnIdeal.Hand

end
-- ==== Proof.FfnArray.lean ====
/- What the experts' array holds when the grid is done, as a function of the arguments. -/
module

public import proofs.«01_k».proof.Proof.FfnRun
public import proofs.«01_k».proof.Proof.FfnBlock
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Cert.Experts

variable (m : (ℓ : Loc nD τ sig) → Buf (Elt Ideal) ℓ)

/-- The arguments of the run. -/
abbrev arg0 (c : Dev nD) : FVec Ideal S16x3552x1024 .bf16 := m ((c.tc : Thread nD τ).loc main_arg0)
abbrev arg1 (c : Dev nD) : IVec S16 32 := m ((c.tc : Thread nD τ).loc main_arg1)
abbrev arg2 (c : Dev nD) : FVec Ideal S2x16x1024x2048 .f32 := m ((c.tc : Thread nD τ).loc main_arg2)
abbrev arg3 (c : Dev nD) : FVec Ideal S2x16x1024x2048 .f32 := m ((c.tc : Thread nD τ).loc main_arg3)
abbrev arg4 (c : Dev nD) : FVec Ideal S2x16x2048x1024 .f32 := m ((c.tc : Thread nD τ).loc main_arg4)

/-- The tile at a point: tile `t % 6` of expert `t / 12`, the first tile for the result while its first chunk lasts. -/
theorem in_block : ∀ t : Fin grid0.N, cc0_transform_0 (grid0.coords t) = ![t.val / 12, t.val % 6, 0] := by decide +kernel
theorem out_block : ∀ t : Fin grid0.N, t.val / 6 % 2 = 1 → cc0_transform_4 (grid0.coords t) = ![t.val / 12, t.val % 6, 0] := by decide +kernel
theorem in_index (t : Fin grid0.N) : (pcfg0.win (adm m 0) 0).index t = ![t.val / 12, t.val % 6, 0] := Eq.trans rfl (in_block t)
theorem out_index (t : Fin grid0.N) (h : t.val / 6 % 2 = 1) : (pcfg0.win (adm m 0) 1).index t = ![t.val / 12, t.val % 6, 0] := Eq.trans rfl (out_block t h)

/-- A row of a point's tile. -/
theorem tile_at (c : Dev nD) (t : Fin grid0.N) (i : Fin 592) (k : Fin 1024) (e : Fin 16) (r : Fin 3552) (he : t.val / 12 = e)
    (hr : (r : ℕ) = 592 * (t.val % 6) + i) : inTile m c t (ix3 0 i k) = arg0 m c (ix3 e r k) := by
  have hi := in_index m t
  blk_ext [iblk, hi, he, hr]

/-- A row of a point's products. -/
theorem part_at (c : Dev nD) (t : Fin grid0.N) (i : Fin 592) (j : Fin 1024) (e : Fin 16) (r : Fin 3552) (he : t.val / 12 = e)
    (hr : (r : ℕ) = 592 * (t.val % 6) + i) (col : Fin 1024 → Fin 2048) (hcol : ∀ f, (col f : ℕ) = 1024 * (t.val / 6 % 2) + f) :
    part m c t (ix2 i j) = through (fun k => arg0 m c (ix3 e r k)) (fun f k => arg2 m c (ix4 0 e k (col f)))
      (fun f k => arg3 m c (ix4 0 e k (col f))) fun f : Fin 1024 => arg4 m c (ix4 0 e (col f) j) := by
  have ht : t.val < 192 := t.isLt
  have hb : (bk (t.val / 6)).val / 2 = e := by show t.val / 6 % 32 / 2 = e; omega
  have hc : ∀ f, (col f : ℕ) = 1024 * ((bk (t.val / 6)).val % 2) + f := fun f => by
    rw [hcol]; show _ = 1024 * (t.val / 6 % 32 % 2) + f; omega
  unfold part
  rw [chunk_at]
  simp only [tile_at m c t i _ e r he hr]
  congr 1
  · funext f k; exact wide_at (Memref.whole main_arg2) (arg2 m c) _ k f e (col f) hb (hc f)
  · funext f k; exact wide_at (Memref.whole main_arg3) (arg3 m c) _ k f e (col f) hb (hc f)
  · funext f; exact tall_at (Memref.whole main_arg4) (arg4 m c) _ f j e (col f) hb (hc f)

/-- A row of a tile that holds a token. -/
theorem outTile_at (c : Dev nD) (t : Fin grid0.N) (hf : t.val / 6 % 2 = 1) (hl : isLive m t) (i : Fin 592) (j : Fin 1024) (e : Fin 16) (r : Fin 3552)
    (he : t.val / 12 = e) (hr : (r : ℕ) = 592 * (t.val % 6) + i) :
    outTile m c t (ix3 0 i j) = rowOf (arg0 m c) (arg2 m c) (arg3 m c) (arg4 m c) e r j := by
  have ht : t.val < 192 := t.isLt
  have hp : (prev t).val = t.val - 6 := rfl
  unfold outTile
  rw [if_pos hl, sum_at,
    part_at m c (prev t) i j e r (by rw [hp]; omega) (by rw [hp]; omega) (fun f => ⟨f, by omega⟩) (fun f => by rw [hp]; show (f : ℕ) = _; omega),
    part_at m c t i j e r he hr (fun f => ⟨1024 + f, by omega⟩) (fun f => by show 1024 + (f : ℕ) = _; omega)]
  exact through_halves _ (fun f k => arg2 m c (ix4 0 e k f)) (fun f k => arg3 m c (ix4 0 e k f)) fun f => arg4 m c (ix4 0 e f j)

/-- The point that writes row `r` of expert `e`. -/
def pointOf (e : Fin 16) (r : Fin 3552) : Fin grid0.N := ⟨12 * e + 6 + r / 592, by show _ < 192; omega⟩

/-- Every block of the result is written back at one of those points. -/
theorem covers : (pcfg0.win (adm m 0) 1).Covers := by
  refine ⟨fun a => ((by decide : ∀ a : Fin 3, 0 < (![1, 592, 1024] : Fin 3 → ℕ) a) a).trans_eq (by fin_cases a <;> rfl), fun β => ?_⟩
  have h0 : (β 0).val < 16 := (β 0).isLt.trans_eq (show (16 + 1 - 1) / 1 = 16 by decide)
  have h1 : (β 1).val < 6 := (β 1).isLt.trans_eq (show (3552 + 592 - 1) / 592 = 6 by decide)
  have h2 : (β 2).val < 1 := (β 2).isLt.trans_eq (show (1024 + 1024 - 1) / 1024 = 1 by decide)
  have hN : 12 * (β 0).val + 6 + (β 1).val < grid0.N := by show _ < 192; omega
  have hf : (12 * (β 0).val + 6 + (β 1).val) / 6 % 2 = 1 := by omega
  have hi := out_index m ⟨_, hN⟩ hf
  refine ⟨⟨_, hN⟩, (out_flush m ⟨_, hN⟩).trans (decide_eq_true hf), fun a => ⟨?_, .inl rfl⟩⟩
  rw [hi]
  fin_cases a
  · show (12 * (β 0).val + 6 + (β 1).val) / 12 = (β 0).val
    omega
  · show (12 * (β 0).val + 6 + (β 1).val) % 6 = (β 1).val
    omega
  · show 0 = (β 2).val
    omega

/-- THE EXPERTS' ARRAY: a row through its expert where the row's tile holds a token, zero elsewhere. -/
theorem final (c : Dev nD) (G : FVec Ideal S16x3552x1024 .bf16)
    (hG : ∀ e r j, isLive m (pointOf e r) → G (ix3 e r j) = rowOf (arg0 m c) (arg2 m c) (arg3 m c) (arg4 m c) e r j)
    (hz : ∀ e r j, ¬ isLive m (pointOf e r) → G (ix3 e r j) = 0) :
    (dats m 0 c).arrAt 1 grid0.N = G := by
  refine (dats m 0 c).arrAt_eq_of_covers 1 G (covers m) fun t hf y => ?_
  have ht : t.val < 192 := t.isLt
  have h1 : t.val / 6 % 2 = 1 := of_decide_eq_true ((out_flush m t).symm.trans hf)
  have hi := out_index m t h1
  change S1x592x1024.Idx at y
  idx_vars y
  have hy : y0 = 0 := Subsingleton.elim _ _
  subst hy
  have he : t.val / 12 < 16 := by omega
  have hr : 592 * (t.val % 6) + y1.val < 3552 := by omega
  have hp : pointOf ⟨_, he⟩ ⟨_, hr⟩ = t := Fin.ext (by show 12 * (t.val / 12) + 6 + (592 * (t.val % 6) + y1.val) / 592 = t.val; omega)
  have hj : ((pcfg0.win (adm m 0) 1).blk t).view.emb (ix3 0 y1 y2) = ix3 ⟨t.val / 12, he⟩ ⟨592 * (t.val % 6) + y1.val, hr⟩ y2 := by
    blk_ext [hi]
  refine Eq.trans ?_ (congrArg G hj.symm)
  show (dats m 0 c).after 1 t (ix3 0 y1 y2) = _
  rw [after1]
  by_cases hl : isLive m t
  · exact (outTile_at m c t h1 hl y1 y2 ⟨_, he⟩ ⟨_, hr⟩ rfl rfl).trans (hG _ _ _ (hp.symm ▸ hl)).symm
  · refine Eq.trans ?_ (hz _ _ _ (hp.symm ▸ hl)).symm
    unfold outTile
    rw [if_neg hl]
    unfold k0_pay8
    pointwise

end Cert.FfnIdeal.Hand

end
-- ==== Proof.FfnKept.lean ====
/- What a run of the expert kernel leaves, read off its end: the result's array, and every argument as it was. -/
module

public import proofs.«01_k».proof.Defs
public import proofs.«01_k».proof.Proof.FfnRun
public import Idealize.ShloMosaic.Lib.Pipeline.ValueKit

@[expose] public section

set_option maxRecDepth 16384

noncomputable section

namespace Cert.FfnIdeal.Hand

open Idealize.ShloMosaic Idealize.ShloMosaic.TcCoe Idealize.SL.Sem
open Cert.FfnIdeal Cert.FfnIdeal.Gen

variable {F : FTy → Type} [FloatOps F] [∀ e, Nonempty (Elt F e)]
variable (m : (ℓ : Loc nD τ sig) → Buf (Elt F) ℓ) (ρ : Dev nD → PrngReg)

/-- The arguments are as they were. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- A buffer that is no window's array is one the region leaves alone. -/
theorem rest (b : Ref sig .tc) (hs : b.isScoped = false) (h : ∀ w, (spec0 w).arr.view.ref ≠ b) : b ∈ Pipeline.restRefs sig spec0 :=
  Pipeline.mem_restRefs_of b hs h

theorem kept (r : PUnit × MemSt nD τ sig (Elt F)) (h : Pipeline.FramePost (Pipeline.pin (pcfgs (F := F)) (adm m)) (dats m) 0 (V m) r) (c : Dev nD) :
    Kept m r c :=
  ⟨((h c).1 0).trans (((dats m 0 c).arrAt_in 0 rfl grid0.N).trans (A_eq m c 0)), (h c).2 main_arg1 (rest main_arg1 (by decide) (by decide)),
    (h c).2 main_arg2 (rest main_arg2 (by decide) (by decide)), (h c).2 main_arg3 (rest main_arg3 (by decide) (by decide)),
    (h c).2 main_arg4 (rest main_arg4 (by decide) (by decide))⟩

theorem run_kept : θ_run defs (onTc (τ := τ) (main (F := F))) ⟨m, fun _ => 0, ρ⟩
    (fun r => (∀ c : Dev nD, r.2.mem ((c.tc : Thread nD τ).loc main_v0) = (dats m 0 c).arrAt 1 grid0.N ∧ Kept m r c) ∧ r.2.sem = fun _ => 0) :=
  (θ_run defs _ _).mono (fun r h => ⟨fun c => ⟨(h.1 c).1 1, kept m r h.1 c⟩, h.2⟩) (run_main m ρ)

end Cert.FfnIdeal.Hand

namespace Cert.Experts

open Idealize.ShloMosaic Idealize.ShloMosaic.TcCoe Idealize.SL.Sem

/-- The expert kernel runs and leaves its arguments, at the ideal instance. -/
theorem frame_ideal : Cert.quiescent_FfnIdeal := fun m ρ _ =>
  (θ_run Cert.FfnIdeal.defs _ _).mono (fun _ h => ⟨fun c => (h.1 c).2, h.2⟩) (Cert.FfnIdeal.Hand.run_kept (F := Ideal) m ρ)

end Cert.Experts

end
-- ==== Proof.FfnRef.lean ====
/- What the experts' reference computes, row by row. -/
module

public import proofs.«01_k».proof.Proof.Gen.FfnRefIdeal.Run
public import proofs.«01_k».proof.Proof.FfnMath
public import Idealize.ShloMosaic.Lib.Pipeline.ValueKit

@[expose] public section

set_option maxRecDepth 16384

noncomputable section

namespace Cert.FfnRefIdeal.Hand

open Cert.FfnRefIdeal Cert.FfnRefIdeal.Gen Idealize.ShloMosaic Idealize.ShloMosaic.TcCoe
open Cert.Experts

variable (x0 : FVec Ideal S16x3552x1024 .bf16) (x2 x3 : FVec Ideal S2x16x1024x2048 .f32) (x4 : FVec Ideal S2x16x2048x1024 .f32)

theorem row_at (e : Fin 16) (r : Fin 3552) (j : Fin 1024) :
    (truncf .bf16 (Host.dotGeneral dot_S16x3552x2048_S16x2048x1024_S16x3552x1024_2_1_1_2_0_0 none (mulf (mulf (Host.dotGeneral dot_S16x3552x1024_S16x1024x2048_S16x3552x2048_2_1_1_2_0_0 none (extf .f32 x0 bitsLt_bf16_f32) (shapeCast _ (extractStridedSlice S1x16x1024x2048 ![0, 0, 0, 0] x2 slices_S2x16x1024x2048_S1x16x1024x2048_0_0_0_0) shapeCasts_S1x16x1024x2048_S16x1024x2048)) (Host.divf (broadcastInDim S16x3552x2048 ![] bcast_S_S16x3552x2048 (constant S_ .f32 0x3F800000#32)) (addf (broadcastInDim S16x3552x2048 ![] bcast_S_S16x3552x2048 (constant S_ .f32 0x3F800000#32)) (Host.exp (Host.negf (Host.dotGeneral dot_S16x3552x1024_S16x1024x2048_S16x3552x2048_2_1_1_2_0_0 none (extf .f32 x0 bitsLt_bf16_f32) (shapeCast _ (extractStridedSlice S1x16x1024x2048 ![0, 0, 0, 0] x2 slices_S2x16x1024x2048_S1x16x1024x2048_0_0_0_0) shapeCasts_S1x16x1024x2048_S16x1024x2048))))))) (Host.dotGeneral dot_S16x3552x1024_S16x1024x2048_S16x3552x2048_2_1_1_2_0_0 none (extf .f32 x0 bitsLt_bf16_f32) (shapeCast _ (extractStridedSlice S1x16x1024x2048 ![0, 0, 0, 0] x3 slices_S2x16x1024x2048_S1x16x1024x2048_0_0_0_0) shapeCasts_S1x16x1024x2048_S16x1024x2048))) (shapeCast _ (extractStridedSlice S1x16x2048x1024 ![0, 0, 0, 0] x4 slices_S2x16x2048x1024_S1x16x2048x1024_0_0_0_0) shapeCasts_S1x16x2048x1024_S16x2048x1024)) bitsLt_bf16_f32 : FVec Ideal S16x3552x1024 .bf16) (ix3 e r j)
      = rowOf x0 x2 x3 x4 e r j := by
  unfold rowOf through gated
  pointwise
  rfl

end Cert.FfnRefIdeal.Hand

end
-- ==== Proof.FfnEq.lean ====
/- The experts' array is the reference's on the rows that hold a token. -/
module

public import proofs.«01_k».proof.Defs
public import proofs.«01_k».proof.Proof.FfnArray
public import proofs.«01_k».proof.Proof.FfnKept
public import proofs.«01_k».proof.Proof.FfnRef
public import proofs.«01_k».proof.Proof.Gen.On_held
public import Idealize.ShloMosaic.Lib.Quiescent

@[expose] public section

set_option maxRecDepth 16384

noncomputable section

namespace Cert.FfnIdeal.Hand

open Cert.FfnIdeal Cert.FfnIdeal.Gen Idealize.ShloMosaic Idealize.ShloMosaic.TcCoe Idealize.SL.Sem
open Cert.Experts

variable (m : (ℓ : Loc nD τ sig) → Buf (Elt Ideal) ℓ)

/-- A point's tile. -/
theorem third : ∀ t : Fin grid0.N, (grid0.coords t 2).val = t.val % 6 := by decide +kernel

/-- The number the body reads at a point: its expert's number of tokens. -/
theorem word_at (t : Fin grid0.N) (e : Fin 16) (he : t.val / 12 = e) : word (F := Ideal) (tab m) t = arg1 m 0 (ix1 e) := by
  refine (word_read (F := Ideal) t (tab m) (ix1 (0 : Fin 1))).symm.trans ?_
  refine congrArg (arg1 m 0) (funext fun a => Fin.ext ?_)
  fin_cases a
  show k0_off14 (grid0.coords t) 0 + 1 * 0 = e
  rw [off14_eq]
  exact he

/-- A tile's first row is not past its rows, and it is one number less than another as signed words exactly as naturals. -/
theorem first_row (q r : ℕ) (hq : 592 * q ≤ r) (hr : r < 3552) (w : BitVec 32) (h : IntOp.cmpi .slt (BitVec.ofNat 32 r) w = 1#1) :
    IntOp.cmpi .slt (BitVec.ofNat 32 q * 592#32) w = 1#1 := by
  have hm : BitVec.ofNat 32 q * 592#32 = BitVec.ofNat 32 (592 * q) := by
    rw [Nat.mul_comm]; exact (BitVec.ofNat_mul ..).symm
  have hi : ∀ n < 3552, (BitVec.ofNat 32 n).toInt = n := fun n hn => by
    rw [BitVec.toInt_eq_toNat_cond, BitVec.toNat_ofNat, Nat.mod_eq_of_lt (by omega), if_pos (by omega)]
  have key : ∀ v : BitVec 32, IntOp.cmpi .slt v w = 1#1 ↔ v.toInt < w.toInt := fun v => by
    show BitVec.ofBool (v.slt w) = 1#1 ↔ _
    rw [← BitVec.slt_iff_toInt_lt]
    cases v.slt w <;> decide
  rw [key, hi r hr] at h
  rw [key, hm, hi _ (by omega)]
  omega

/-- A tile of a row that holds a token holds a token. -/
theorem live_of_held (e : Fin 16) (r : Fin 3552) (h : IntOp.cmpi .slt (BitVec.ofNat 32 r.val) (arg1 m 0 (ix1 e)) = 1#1) :
    isLive m (pointOf e r) := by
  have hq : (grid0.coords (pointOf e r) 2).val = r.val / 592 := by
    refine (third (pointOf e r)).trans ?_
    show (12 * e.val + 6 + r.val / 592) % 6 = _
    omega
  have hw : word (F := Ideal) (tab m) (pointOf e r) = arg1 m 0 (ix1 e) :=
    word_at m _ e (by show (12 * e.val + 6 + r.val / 592) / 12 = e.val; omega)
  have hl := first_row (r.val / 592) r.val (by omega) r.isLt _ h
  show live _ _ = 1#1
  rw [hw]
  unfold live
  rw [hq]
  have : Scalar.cmpi .slt (Scalar.muli (BitVec.ofNat 32 (r.val / 592)) 592#32) (arg1 m 0 (ix1 e)) = 1#1 := hl
  rw [this]
  decide

/-- The result's array at a row whose tile holds a token. -/
theorem final_at (c : Dev nD) (e : Fin 16) (r : Fin 3552) (j : Fin 1024) (h : isLive m (pointOf e r)) :
    (show FVec Ideal S16x3552x1024 .bf16 from (dats m 0 c).arrAt 1 grid0.N) (ix3 e r j)
      = rowOf (arg0 m c) (arg2 m c) (arg3 m c) (arg4 m c) e r j := by
  classical
  exact (congrFun (final m c (fun i => if isLive m (pointOf (i 0) (i 1)) then rowOf (arg0 m c) (arg2 m c) (arg3 m c) (arg4 m c) (i 0) (i 1) (i 2) else 0)
    (fun e r j h => if_pos h) fun e r j h => if_neg h) (ix3 e r j)).trans (if_pos h)

end Cert.FfnIdeal.Hand

namespace Cert.Experts

open Idealize.ShloMosaic Idealize.ShloMosaic.TcCoe Idealize.SL.Sem

/-- The experts' reference runs and leaves its arguments. -/
theorem frame_reference : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The mask at a row. -/
theorem held_at [Cert.On_held.Facts] (x0 : FVec Ideal ⟨3, ![16, 3552, 1024]⟩ .bf16) (x1 : IVec ⟨1, ![16]⟩ 32)
    (x2 x3 : FVec Ideal ⟨4, ![2, 16, 1024, 2048]⟩ .f32) (x4 : FVec Ideal ⟨4, ![2, 16, 2048, 1024]⟩ .f32) (e : Fin 16) (r : Fin 3552) (j : Fin 1024) :
    Cert.On_held.fn x0 x1 x2 x3 x4 (ix3 e r j) = IntOp.cmpi .slt (BitVec.ofNat 32 r.val) (x1 (ix1 e)) := by
  unfold Cert.On_held.fn
  pointwise
  try rfl

/-- THE EXPERTS' KERNEL COMPUTES THE REFERENCE'S FUNCTION on every row that holds a token. -/
theorem algebraic : Cert.algebraic_FfnIdeal_FfnRefIdeal_on_held := by
  intro m ρ m' ρ' _ hagree
  refine ⟨fun c => (Cert.FfnIdeal.Hand.dats m 0 c).arrAt 1 Cert.FfnIdeal.grid0.N,
    (θ_run Cert.FfnIdeal.defs _ _).mono (fun r h c => ⟨fun i _ => congrFun (h.1 c).1 i, (h.1 c).2⟩) (Cert.FfnIdeal.Hand.run_kept (F := Ideal) m ρ),
    (θ_run Cert.FfnRefIdeal.defs _ _).mono (fun r h c => ?_) (Cert.FfnRefIdeal.Value.run (F := Ideal) m' ρ')⟩
  obtain ⟨a0, a1⟩ := h c
  obtain ⟨e0, e1, e2, e3, e4⟩ := hagree c
  refine ⟨fun i hi => ?_, a1⟩
  rw [e0, e2, e3, e4] at a0
  obtain rfl : c = 0 := Subsingleton.elim _ _
  idx_vars i
  refine (congrFun a0 _).trans ((Cert.FfnRefIdeal.Hand.row_at _ _ _ _ i0 i1 i2).trans (Cert.FfnIdeal.Hand.final_at m 0 i0 i1 i2 ?_).symm)
  exact Cert.FfnIdeal.Hand.live_of_held m i0 i1 ((held_at _ _ _ _ _ i0 i1 i2).symm.trans hi)

end Cert.Experts

end
-- ==== Proof.FfnBits.lean ====
/- The expert kernel's frame at words, from the one run over any float values: its text there is the same. -/
module

public import proofs.«01_k».proof.Proof.FfnKept
public import proofs.«01_k».proof.Proof.Gen.Ffn

@[expose] public section

set_option maxRecDepth 16384

noncomputable section

namespace Cert.Experts

open Idealize.ShloMosaic Idealize.ShloMosaic.TcCoe Idealize.SL.Sem

variable {F : FTy → Type} [FloatOps F]

set_option maxHeartbeats 1000000

/-- The two programs have one body -/
theorem same_body : Cert.Ffn.cc0_expert_ffn (F := F) = Cert.FfnIdeal.cc0_expert_ffn (F := F) := rfl

/-- at every point, -/
theorem same_bodies : Cert.Ffn.defs₀ (F := F) = Cert.FfnIdeal.defs₀ (F := F) := by
  refine congrArg (Defs.onTc (nD := Cert.FfnIdeal.nD) (τ := Cert.FfnIdeal.τ) (sig := Cert.FfnIdeal.sig) (Val := Elt F) (Λ := Cert.FfnIdeal.Λ₀))
    (funext fun l => funext fun x => ?_)
  revert x
  obtain rfl : l = (0 : Fin 1) := Subsingleton.elim _ _
  rintro ⟨t, s⟩
  rfl

/-- and one pipeline around it. -/
theorem same_defs : Cert.Ffn.defs (F := F) = Cert.FfnIdeal.defs (F := F) :=
  congrArg (Pipeline.defs (Cert.FfnIdeal.pcfgs (F := F))) same_bodies

/-- The expert kernel runs and leaves its arguments, at words. -/
theorem frame_bits : Cert.quiescent_Ffn := fun m ρ _ =>
  have h := (θ_run Cert.FfnIdeal.defs _ _).mono (fun _ h => ⟨fun c => (h.1 c).2, h.2⟩) (Cert.FfnIdeal.Hand.run_kept (F := Bits) m ρ)
  (congrArg (fun d => θ_run d (onTc (τ := Cert.FfnIdeal.τ) (Cert.FfnIdeal.main (F := Bits))) ⟨m, fun _ => 0, ρ⟩ (fun r =>
    (∀ c : Dev Cert.FfnIdeal.nD, Cert.FfnIdeal.Hand.Kept m r c) ∧ r.2.sem = fun _ => 0)) same_defs).mpr h

end Cert.Experts

end
-- ==== Proof.NormPrompt.lean ====
/- The last normalisation of the prompt's tokens: what the kernel's array holds, and that the reference computes the same. -/
module

public import proofs.«01_k».proof.Defs
public import proofs.«01_k».proof.Proof.MixMath
public import proofs.«01_k».proof.Proof.Gen.PromptIdeal.Value
public import proofs.«01_k».proof.Proof.Gen.PromptRefIdeal.Run
public import proofs.«01_k».proof.Proof.Gen.PromptRefIdeal.Read
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.PromptIdeal.Hand

open Cert.PromptIdeal Cert.PromptIdeal.Gen Idealize.ShloMosaic Idealize.ShloMosaic.TcCoe Idealize.SL.Sem
open Cert.Mixer

/-- What a point stores, row by row. -/
theorem block (x0 x1 : Vec Ideal S1024x1024 .f32) (x2 : Vec Ideal S1x1x1024 .f32) (x3 : Vec Ideal S1x1024 .f32) (r j : Fin 1024) :
    out0_4 x0 x1 x2 x3 (ix2 r j) = normed (fun k => x0 (ix2 r k)) (fun k => x2 (ix3 0 0 k)) (fun k => x1 (ix2 r k)) (fun k => x3 (ix2 0 k)) j := by
  unfold out0_4
  canon_tiles x g
  obtain rfl : r = x 0 := Fin.ext (by simp at *; omega)
  obtain rfl : j = x 1 := Fin.ext (by simp at *; omega)
  idx_vars x
  unfold normed token rms mean c1024 eps
  pointwise [k0_pay1]

section Array

variable (m : (ℓ : Loc nD τ sig) → Buf (Elt Ideal) ℓ)

/-- The arguments of the run. -/
abbrev arg0 (c : Dev nD) : FVec Ideal S24576x1024 .f32 := m ((c.tc : Thread nD τ).loc main_arg0)
abbrev arg1 (c : Dev nD) : FVec Ideal S24576x1024 .f32 := m ((c.tc : Thread nD τ).loc main_arg1)
abbrev arg2 (c : Dev nD) : FVec Ideal S8x1x6144 .f32 := m ((c.tc : Thread nD τ).loc main_arg2)
abbrev arg3 (c : Dev nD) : FVec Ideal S1024 .f32 := m ((c.tc : Thread nD τ).loc main_arg3)

/-- A point's blocks. -/
abbrev blk0 (c : Dev nD) (t : Fin cfg0.N) : FVec Ideal S1024x1024 .f32 := iblk m c 0 t
abbrev blk1 (c : Dev nD) (t : Fin cfg0.N) : FVec Ideal S1024x1024 .f32 := iblk m c 1 t
abbrev blk2 (c : Dev nD) (t : Fin cfg0.N) : FVec Ideal S1x1x1024 .f32 := iblk m c 2 t
abbrev blk3 (c : Dev nD) (t : Fin cfg0.N) : FVec Ideal S1x1024 .f32 := iblk m c 3 t

/-- Each window's block at a point. -/
theorem idx : ∀ t : Fin cfg0.N, win0_0.index t = ![t.val, 0] ∧ win0_1.index t = ![t.val, 0] ∧ win0_2.index t = ![0, 0, 5]
    ∧ win0_3.index t = ![0, 0] ∧ win0_4.index t = ![t.val, 0] :=
  (by decide +kernel : ∀ t : Fin grid0.N, _)

theorem tokens_at (c : Dev nD) (t : Fin cfg0.N) (i k : Fin 1024) (r : Fin 8192) (hr : (r : ℕ) = 1024 * t.val + i) :
    blk0 m c t (ix2 i k) = arg0 m c (ix2 ⟨r, by omega⟩ k) := by
  obtain ⟨i0, i1, i2, i3, i4⟩ := idx t
  blk_ext [iblk, V_main_arg0, i0, hr]

theorem ffn_at (c : Dev nD) (t : Fin cfg0.N) (i k : Fin 1024) (r : Fin 8192) (hr : (r : ℕ) = 1024 * t.val + i) :
    blk1 m c t (ix2 i k) = arg1 m c (ix2 ⟨r, by omega⟩ k) := by
  obtain ⟨i0, i1, i2, i3, i4⟩ := idx t
  blk_ext [iblk, V_main_arg1, i1, hr]

theorem gate_at (c : Dev nD) (t : Fin cfg0.N) (k : Fin 1024) : blk2 m c t (ix3 0 0 k) = arg2 m c (ix3 0 0 ⟨5120 + k, by omega⟩) := by
  obtain ⟨i0, i1, i2, i3, i4⟩ := idx t
  blk_ext [iblk, V_main_arg2, i2]

theorem scale_at (c : Dev nD) (t : Fin cfg0.N) (k : Fin 1024) : blk3 m c t (ix2 0 k) = arg3 m c (ix1 k) := by
  obtain ⟨i0, i1, i2, i3, i4⟩ := idx t
  have hV : V m c main_v0 (ix2 0 k) = arg3 m c (ix1 k) := by
    entry_read
    pointwise
  refine Eq.trans ?_ hV
  show V m c main_v0 _ = V m c main_v0 (ix2 0 k)
  generalize V m c main_v0 = X
  blk_ext [i3]

end Array

/-- Row `r` of the result, of the arguments. -/
def result (x f : FVec Ideal S24576x1024 .f32) (md : FVec Ideal S8x1x6144 .f32) (g : FVec Ideal S1024 .f32) (r : Fin 8192) : Fin 1024 → EReal :=
  normed (fun k => x (ix2 ⟨r, by omega⟩ k)) (fun k => md (ix3 0 0 ⟨5120 + k, by omega⟩)) (fun k => f (ix2 ⟨r, by omega⟩ k)) fun k => g (ix1 k)

/-- THE KERNEL'S ARRAY. -/
theorem final (m : (ℓ : Loc nD τ sig) → Buf (Elt Ideal) ℓ) (c : Dev nD) : (dats m 0 c).arrAt 4 cfg0.N
    = fun j => result (arg0 m c) (arg1 m c) (arg2 m c) (arg3 m c) (j 0) (j 1) := by
  refine (dats m 0 c).arrAt_eq_of_covers 4 _ (by decide +kernel) fun t hf y => ?_
  obtain ⟨i0, i1, i2, i3, i4⟩ := idx t
  have ht : t.val < 8 := t.isLt
  idx_vars y
  blk_simp
  rw [after0_4]
  obtain ⟨r, hr⟩ : ∃ r : Fin 8192, (r : ℕ) = 1024 * t.val + y0 := ⟨⟨_, by omega⟩, rfl⟩
  have hrow : normed (fun k => blk0 m c t (ix2 y0 k)) (fun k => blk2 m c t (ix3 0 0 k)) (fun k => blk1 m c t (ix2 y0 k))
      (fun k => blk3 m c t (ix2 0 k)) y1 = result (arg0 m c) (arg1 m c) (arg2 m c) (arg3 m c) r y1 := by
    unfold result
    rw [funext fun k => tokens_at m c t y0 k r hr, funext fun k => ffn_at m c t y0 k r hr, funext fun k => gate_at m c t k,
      funext fun k => scale_at m c t k]
  refine (block ..).trans (hrow.trans ?_)
  refine congrArg₂ (result (arg0 m c) (arg1 m c) (arg2 m c) (arg3 m c)) (Fin.ext ?_) (Fin.ext ?_)
  · blk_simp [i4]
    omega
  · blk_simp [i4]

section Reference

open Cert.PromptRefIdeal Cert.PromptRefIdeal.Read

/-- The reference's row. -/
theorem reference_at (x0 x1 : FVec Ideal S24576x1024 .f32) (x2 : FVec Ideal S8x1x6144 .f32) (x3 : FVec Ideal S1024 .f32) (r : Fin 8192) (j : Fin 1024) :
    val_main_v19 (F := Ideal) x0 x1 x2 x3 (ix2 r j) = result x0 x1 x2 x3 r j := by
  unfold result normed token rms mean c1024 eps
  unfold val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1
  pointwise

end Reference

/-- The reference runs and leaves its arguments. -/
theorem frame_reference : Cert.quiescent_PromptRefIdeal := fun m ρ _ =>
  (θ_run Cert.PromptRefIdeal.defs _ _).mono (fun r h => ⟨fun c => (h c).2,
      Idealize.ShloMosaic.sem_eq_zero_of_no_sems (by decide) r.2⟩)
    (Cert.PromptRefIdeal.Value.run (F := Ideal) m ρ)

/-- THE KERNEL COMPUTES THE REFERENCE'S FUNCTION. -/
theorem algebraic : Cert.algebraic_PromptIdeal_PromptRefIdeal := by
  intro m ρ m' ρ' _ hagree
  refine ⟨_, Cert.PromptIdeal.Value.run_blocks m ρ, (θ_run Cert.PromptRefIdeal.defs _ _).mono (fun r h c => ?_)
    (Cert.PromptRefIdeal.Value.run (F := Ideal) m' ρ')⟩
  obtain ⟨a0, a1⟩ := h c
  obtain ⟨e0, e1, e2, e3⟩ := hagree c
  refine ⟨a0.trans ?_, a1⟩
  rw [e0, e1, e2, e3, final]
  refine (Cert.PromptRefIdeal.Read.val_main_v19_eq ..).symm.trans ?_
  funext j
  idx_vars j
  exact reference_at ..

end Cert.PromptIdeal.Hand

end
-- ==== Proof.NormSample.lean ====
/- The last normalisation of the sample's tokens: what the kernel's array holds, and that the reference computes the same. -/
module

public import proofs.«01_k».proof.Defs
public import proofs.«01_k».proof.Proof.MixMath
public import proofs.«01_k».proof.Proof.Gen.SampleIdeal.Value
public import proofs.«01_k».proof.Proof.Gen.SampleRefIdeal.Run
public import proofs.«01_k».proof.Proof.Gen.SampleRefIdeal.Read
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.SampleIdeal.Hand

open Cert.SampleIdeal Cert.SampleIdeal.Gen Idealize.ShloMosaic Idealize.ShloMosaic.TcCoe Idealize.SL.Sem
open Cert.Mixer

/-- What a point stores, row by row. -/
theorem block (x0 x1 : Vec Ideal S1024x1024 .f32) (x2 : Vec Ideal S1x1x1024 .f32) (x3 : Vec Ideal S1x1024 .f32) (r j : Fin 1024) :
    out0_4 x0 x1 x2 x3 (ix2 r j) = normed (fun k => x0 (ix2 r k)) (fun k => x2 (ix3 0 0 k)) (fun k => x1 (ix2 r k)) (fun k => x3 (ix2 0 k)) j := by
  unfold out0_4
  canon_tiles x g
  obtain rfl : r = x 0 := Fin.ext (by simp at *; omega)
  obtain rfl : j = x 1 := Fin.ext (by simp at *; omega)
  idx_vars x
  unfold normed token rms mean c1024 eps
  pointwise [k0_pay1]

section Array

variable (m : (ℓ : Loc nD τ sig) → Buf (Elt Ideal) ℓ)

/-- The arguments of the run. -/
abbrev arg0 (c : Dev nD) : FVec Ideal S24576x1024 .f32 := m ((c.tc : Thread nD τ).loc main_arg0)
abbrev arg1 (c : Dev nD) : FVec Ideal S24576x1024 .f32 := m ((c.tc : Thread nD τ).loc main_arg1)
abbrev arg2 (c : Dev nD) : FVec Ideal S8x1x6144 .f32 := m ((c.tc : Thread nD τ).loc main_arg2)
abbrev arg3 (c : Dev nD) : FVec Ideal S1024 .f32 := m ((c.tc : Thread nD τ).loc main_arg3)

/-- A point's blocks. -/
abbrev blk0 (c : Dev nD) (t : Fin cfg0.N) : FVec Ideal S1024x1024 .f32 := iblk m c 0 t
abbrev blk1 (c : Dev nD) (t : Fin cfg0.N) : FVec Ideal S1024x1024 .f32 := iblk m c 1 t
abbrev blk2 (c : Dev nD) (t : Fin cfg0.N) : FVec Ideal S1x1x1024 .f32 := iblk m c 2 t
abbrev blk3 (c : Dev nD) (t : Fin cfg0.N) : FVec Ideal S1x1024 .f32 := iblk m c 3 t

/-- Each window's block at a point. -/
theorem idx : ∀ t : Fin cfg0.N, win0_0.index t = ![8 + t.val, 0] ∧ win0_1.index t = ![8 + t.val, 0] ∧ win0_2.index t = ![1 + t.val / 4, 0, 5]
    ∧ win0_3.index t = ![0, 0] ∧ win0_4.index t = ![t.val, 0] :=
  (by decide +kernel : ∀ t : Fin grid0.N, _)

theorem tokens_at (c : Dev nD) (t : Fin cfg0.N) (i k : Fin 1024) (r : Fin 16384) (hr : (r : ℕ) = 1024 * t.val + i) :
    blk0 m c t (ix2 i k) = arg0 m c (ix2 ⟨8192 + r, by omega⟩ k) := by
  obtain ⟨i0, i1, i2, i3, i4⟩ := idx t
  blk_ext [iblk, V_main_arg0, i0, hr]

theorem ffn_at (c : Dev nD) (t : Fin cfg0.N) (i k : Fin 1024) (r : Fin 16384) (hr : (r : ℕ) = 1024 * t.val + i) :
    blk1 m c t (ix2 i k) = arg1 m c (ix2 ⟨8192 + r, by omega⟩ k) := by
  obtain ⟨i0, i1, i2, i3, i4⟩ := idx t
  blk_ext [iblk, V_main_arg1, i1, hr]

theorem gate_at (c : Dev nD) (t : Fin cfg0.N) (i k : Fin 1024) (r : Fin 16384) (hr : (r : ℕ) = 1024 * t.val + i) :
    blk2 m c t (ix3 0 0 k) = arg2 m c (ix3 ⟨1 + r / 4096, by omega⟩ 0 ⟨5120 + k, by omega⟩) := by
  obtain ⟨i0, i1, i2, i3, i4⟩ := idx t
  have hq : (r : ℕ) / 4096 = t.val / 4 := by omega
  blk_ext [iblk, V_main_arg2, i2, hq]

theorem scale_at (c : Dev nD) (t : Fin cfg0.N) (k : Fin 1024) : blk3 m c t (ix2 0 k) = arg3 m c (ix1 k) := by
  obtain ⟨i0, i1, i2, i3, i4⟩ := idx t
  have hV : V m c main_v0 (ix2 0 k) = arg3 m c (ix1 k) := by
    entry_read
    pointwise
  refine Eq.trans ?_ hV
  show V m c main_v0 _ = V m c main_v0 (ix2 0 k)
  generalize V m c main_v0 = X
  blk_ext [i3]

end Array

/-- Row `r` of the result, of the arguments. -/
def result (x f : FVec Ideal S24576x1024 .f32) (md : FVec Ideal S8x1x6144 .f32) (g : FVec Ideal S1024 .f32) (r : Fin 16384) : Fin 1024 → EReal :=
  normed (fun k => x (ix2 ⟨8192 + r, by omega⟩ k)) (fun k => md (ix3 ⟨1 + r / 4096, by omega⟩ 0 ⟨5120 + k, by omega⟩)) (fun k => f (ix2 ⟨8192 + r, by omega⟩ k)) fun k => g (ix1 k)

/-- THE KERNEL'S ARRAY. -/
theorem final (m : (ℓ : Loc nD τ sig) → Buf (Elt Ideal) ℓ) (c : Dev nD) : (dats m 0 c).arrAt 4 cfg0.N
    = fun j => result (arg0 m c) (arg1 m c) (arg2 m c) (arg3 m c) (j 0) (j 1) := by
  refine (dats m 0 c).arrAt_eq_of_covers 4 _ (by decide +kernel) fun t hf y => ?_
  obtain ⟨i0, i1, i2, i3, i4⟩ := idx t
  have ht : t.val < 16 := t.isLt
  idx_vars y
  blk_simp
  rw [after0_4]
  obtain ⟨r, hr⟩ : ∃ r : Fin 16384, (r : ℕ) = 1024 * t.val + y0 := ⟨⟨_, by omega⟩, rfl⟩
  have hrow : normed (fun k => blk0 m c t (ix2 y0 k)) (fun k => blk2 m c t (ix3 0 0 k)) (fun k => blk1 m c t (ix2 y0 k))
      (fun k => blk3 m c t (ix2 0 k)) y1 = result (arg0 m c) (arg1 m c) (arg2 m c) (arg3 m c) r y1 := by
    unfold result
    rw [funext fun k => tokens_at m c t y0 k r hr, funext fun k => ffn_at m c t y0 k r hr, funext fun k => gate_at m c t y0 k r hr,
      funext fun k => scale_at m c t k]
  refine (block ..).trans (hrow.trans ?_)
  refine congrArg₂ (result (arg0 m c) (arg1 m c) (arg2 m c) (arg3 m c)) (Fin.ext ?_) (Fin.ext ?_)
  · blk_simp [i4]
    omega
  · blk_simp [i4]

section Reference

open Cert.SampleRefIdeal Cert.SampleRefIdeal.Read

/-- The reference's row. -/
theorem reference_at (x0 x1 : FVec Ideal S24576x1024 .f32) (x2 : FVec Ideal S8x1x6144 .f32) (x3 : FVec Ideal S1024 .f32) (r : Fin 16384) (j : Fin 1024) :
    val_main_v19 (F := Ideal) x0 x1 x2 x3 (ix2 r j) = result x0 x1 x2 x3 r j := by
  unfold result normed token rms mean c1024 eps
  unfold val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1
  pointwise

end Reference

/-- The reference runs and leaves its arguments. -/
theorem frame_reference : Cert.quiescent_SampleRefIdeal := fun m ρ _ =>
  (θ_run Cert.SampleRefIdeal.defs _ _).mono (fun r h => ⟨fun c => (h c).2,
      Idealize.ShloMosaic.sem_eq_zero_of_no_sems (by decide) r.2⟩)
    (Cert.SampleRefIdeal.Value.run (F := Ideal) m ρ)

/-- THE KERNEL COMPUTES THE REFERENCE'S FUNCTION. -/
theorem algebraic : Cert.algebraic_SampleIdeal_SampleRefIdeal := by
  intro m ρ m' ρ' _ hagree
  refine ⟨_, Cert.SampleIdeal.Value.run_blocks m ρ, (θ_run Cert.SampleRefIdeal.defs _ _).mono (fun r h c => ?_)
    (Cert.SampleRefIdeal.Value.run (F := Ideal) m' ρ')⟩
  obtain ⟨a0, a1⟩ := h c
  obtain ⟨e0, e1, e2, e3⟩ := hagree c
  refine ⟨a0.trans ?_, a1⟩
  rw [e0, e1, e2, e3, final]
  refine (Cert.SampleRefIdeal.Read.val_main_v19_eq ..).symm.trans ?_
  funext j
  idx_vars j
  exact reference_at ..

end Cert.SampleIdeal.Hand

end
-- ==== Proof.AdaEq.lean ====
/- The modulation of both layers, from the requests' conditioning vectors: what the kernel's array holds, and that the
   reference computes the same. -/
module

public import proofs.«01_k».proof.Defs
public import proofs.«01_k».proof.Proof.MixMath
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.AdaIdeal.Hand

open Cert.AdaIdeal Cert.AdaIdeal.Gen Idealize.ShloMosaic Idealize.ShloMosaic.TcCoe Idealize.SL.Sem
open Cert.Mixer

/-- What a point stores: each request's vector through `silu`, times a layer's block of columns, plus their biases. -/
theorem block (x0 : Vec Ideal S8x1024 .f32) (x1 : Vec Ideal S1x1024x1536 .f32) (x2 : Vec Ideal S1x1x1536 .f32) (b : Fin 8) (j : Fin 1536) :
    out0_3 x0 x1 x2 (ix3 0 b j) = (∑ k : Fin 1024, silu (x0 (ix2 b k)) * x1 (ix3 0 k j)) + x2 (ix3 0 0 j) := by
  unfold out0_3
  canon_tiles x g
  obtain rfl : b = x 1 := Fin.ext (by simp at *; omega)
  obtain rfl : j = x 2 := Fin.ext (by simp at *; omega)
  idx_vars x
  unfold silu
  pointwise [k0_pay1]

section Array

variable (m : (ℓ : Loc nD τ sig) → Buf (Elt Ideal) ℓ)

/-- The arguments of the run. -/
abbrev arg0 (c : Dev nD) : FVec Ideal S8x1024 .f32 := m ((c.tc : Thread nD τ).loc main_arg0)
abbrev arg1 (c : Dev nD) : FVec Ideal S2x1024x6144 .f32 := m ((c.tc : Thread nD τ).loc main_arg1)
abbrev arg2 (c : Dev nD) : FVec Ideal S2x6144 .f32 := m ((c.tc : Thread nD τ).loc main_arg2)

/-- A point's blocks. -/
abbrev blk0 (c : Dev nD) (t : Fin cfg0.N) : FVec Ideal S8x1024 .f32 := iblk m c 0 t
abbrev blk1 (c : Dev nD) (t : Fin cfg0.N) : FVec Ideal S1x1024x1536 .f32 := iblk m c 1 t
abbrev blk2 (c : Dev nD) (t : Fin cfg0.N) : FVec Ideal S1x1x1536 .f32 := iblk m c 2 t

/-- Each window's block at a point: a layer's four blocks of columns, then the other layer's. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem vectors_at (c : Dev nD) (t : Fin cfg0.N) (b : Fin 8) (k : Fin 1024) : blk0 m c t (ix2 b k) = arg0 m c (ix2 b k) := by
  obtain ⟨i0, i1, i2, i3⟩ := idx t
  blk_ext [iblk, V_main_arg0, i0]

theorem weights_at (c : Dev nD) (t : Fin cfg0.N) (k : Fin 1024) (j : Fin 1536) (l : Fin 2) (hl : (l : ℕ) = t.val / 4)
    (e : Fin 6144) (he : (e : ℕ) = 1536 * (t.val % 4) + j) : blk1 m c t (ix3 0 k j) = arg1 m c (ix3 l k e) := by
  obtain ⟨i0, i1, i2, i3⟩ := idx t
  blk_ext [iblk, V_main_arg1, i1, hl, he]

theorem bias_at (c : Dev nD) (t : Fin cfg0.N) (j : Fin 1536) (l : Fin 2) (hl : (l : ℕ) = t.val / 4)
    (e : Fin 6144) (he : (e : ℕ) = 1536 * (t.val % 4) + j) : blk2 m c t (ix3 0 0 j) = arg2 m c (ix2 l e) := by
  obtain ⟨i0, i1, i2, i3⟩ := idx t
  have hV : V m c main_v0 (ix3 l 0 e) = arg2 m c (ix2 l e) := by
    entry_read
    pointwise
  refine Eq.trans ?_ hV
  show V m c main_v0 _ = V m c main_v0 (ix3 l 0 e)
  generalize V m c main_v0 = X
  blk_ext [i2, hl, he]

end Array

/-- Layer `l`'s modulation of request `b`, of the arguments. -/
def result (x : FVec Ideal S8x1024 .f32) (w : FVec Ideal S2x1024x6144 .f32) (bias : FVec Ideal S2x6144 .f32) (l : Fin 2) (b : Fin 8)
    (e : Fin 6144) : EReal :=
  (∑ k : Fin 1024, silu (x (ix2 b k)) * w (ix3 l k e)) + bias (ix2 l e)

/-- THE KERNEL'S ARRAY. -/
theorem final (m : (ℓ : Loc nD τ sig) → Buf (Elt Ideal) ℓ) (c : Dev nD) : (dats m 0 c).arrAt 3 cfg0.N
    = fun j => result (arg0 m c) (arg1 m c) (arg2 m c) (j 0) (j 1) (j 2) := by
  refine (dats m 0 c).arrAt_eq_of_covers 3 _ (by decide +kernel) fun t hf y => ?_
  obtain ⟨i0, i1, i2, i3⟩ := idx t
  have ht : t.val < 8 := t.isLt
  idx_vars y
  obtain rfl : y0 = 0 := Fin.ext (by omega)
  blk_simp
  rw [after0_3]
  obtain ⟨l, hl⟩ : ∃ l : Fin 2, (l : ℕ) = t.val / 4 := ⟨⟨_, by omega⟩, rfl⟩
  obtain ⟨e, he⟩ : ∃ e : Fin 6144, (e : ℕ) = 1536 * (t.val % 4) + y2 := ⟨⟨_, by omega⟩, rfl⟩
  have hrow : (∑ k : Fin 1024, silu (blk0 m c t (ix2 y1 k)) * blk1 m c t (ix3 0 k y2)) + blk2 m c t (ix3 0 0 y2)
      = result (arg0 m c) (arg1 m c) (arg2 m c) l y1 e := by
    unfold result
    rw [bias_at m c t y2 l hl e he]
    simp only [vectors_at m c t, fun k => weights_at m c t k y2 l hl e he]
  refine (block ..).trans (hrow.trans ?_)
  have hj : ∀ (l' : Fin 2) (b' : Fin 8) (e' : Fin 6144), l = l' → y1 = b' → e = e' →
      result (arg0 m c) (arg1 m c) (arg2 m c) l y1 e = result (arg0 m c) (arg1 m c) (arg2 m c) l' b' e' := by
    rintro _ _ _ rfl rfl rfl
    rfl
  refine hj _ _ _ (Fin.ext ?_) (Fin.ext ?_) (Fin.ext ?_)
  · blk_simp [i3]
    omega
  · blk_simp [i3]
  · blk_simp [i3]
    omega

section Reference

open Cert.AdaRefIdeal Cert.AdaRefIdeal.Read

/-- The reference's entry: its `silu` is the same, its product's factors stand the other way round. -/
theorem reference_at (x0 : FVec Ideal S8x1024 .f32) (x1 : FVec Ideal S2x1024x6144 .f32) (x2 : FVec Ideal S2x6144 .f32) (l : Fin 2) (b : Fin 8)
    (e : Fin 6144) : val_main_v5 (F := Ideal) x0 x1 x2 (ix3 l b e) = result x0 x1 x2 l b e := by
  have hs : ∀ k : Fin 1024, val_main_v0 (F := Ideal) x0 (ix2 b k) = silu (x0 (ix2 b k)) := by
    intro k
    unfold val_main_v0 val_main_call0_v5 val_main_call0_v4 val_main_call0_v3 val_main_call0_v2 val_main_call0_v1 val_main_call0_v0
      val_main_call0_cst val_main_call0_cst_0 silu
    pointwise
    rfl
  unfold result
  simp only [← hs]
  unfold val_main_v5 val_main_v4 val_main_v3 val_main_v2 val_main_v1
  generalize val_main_v0 (F := Ideal) x0 = X
  pointwise
  exact congrArg (· + x2 (ix2 l e)) (Finset.sum_congr rfl fun k _ => mul_comm ..)

end Reference

/-- The reference runs and leaves its arguments. -/
theorem frame_reference : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- THE KERNEL COMPUTES THE REFERENCE'S FUNCTION. -/
theorem algebraic : Cert.algebraic_AdaIdeal_AdaRefIdeal := by
  intro m ρ m' ρ' _ hagree
  refine ⟨_, Cert.AdaIdeal.Value.run_blocks m ρ, (θ_run Cert.AdaRefIdeal.defs _ _).mono (fun r h c => ?_)
    (Cert.AdaRefIdeal.Value.run (F := Ideal) m' ρ')⟩
  obtain ⟨a0, a1⟩ := h c
  obtain ⟨e0, e1, e2⟩ := hagree c
  refine ⟨a0.trans ?_, a1⟩
  rw [e0, e1, e2, final]
  refine (Cert.AdaRefIdeal.Read.val_main_v5_eq ..).symm.trans ?_
  funext j
  idx_vars j
  exact reference_at ..

end Cert.AdaIdeal.Hand

end
-- ==== Proof.NormFirst.lean ====
/- The first normalisation of the tokens, modulated: what the kernel's array holds, and that the reference computes the same. -/
module

public import proofs.«01_k».proof.Defs
public import proofs.«01_k».proof.Proof.MixMath
public import proofs.«01_k».proof.Proof.Gen.FirstIdeal.Value
public import proofs.«01_k».proof.Proof.Gen.FirstRefIdeal.Run
public import proofs.«01_k».proof.Proof.Gen.FirstRefIdeal.Read
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.FirstIdeal.Hand

open Cert.FirstIdeal Cert.FirstIdeal.Gen Idealize.ShloMosaic Idealize.ShloMosaic.TcCoe Idealize.SL.Sem
open Cert.Mixer

/-- What a point stores, row by row. -/
theorem block (x0 : Vec Ideal S1024x1024 .f32) (x1 : Vec Ideal S1x1x2048 .f32) (x2 : Vec Ideal S1x1024 .f32) (r j : Fin 1024) :
    out0_3 x0 x1 x2 (ix2 r j) = modulated (fun k => x0 (ix2 r k)) (fun k => x2 (ix2 0 k)) (fun k => x1 (ix3 0 0 ⟨1024 + k, by omega⟩))
      (fun k => x1 (ix3 0 0 ⟨k, by omega⟩)) j := by
  unfold out0_3
  canon_tiles x g
  obtain rfl : r = x 0 := Fin.ext (by simp at *; omega)
  obtain rfl : j = x 1 := Fin.ext (by simp at *; omega)
  idx_vars x
  unfold modulated rms mean c1024 eps
  pointwise [k0_pay1]

section Array

variable (m : (ℓ : Loc nD τ sig) → Buf (Elt Ideal) ℓ)

/-- The arguments of the run. -/
abbrev arg0 (c : Dev nD) : FVec Ideal S24576x1024 .f32 := m ((c.tc : Thread nD τ).loc main_arg0)
abbrev arg1 (c : Dev nD) : FVec Ideal S8x1x6144 .f32 := m ((c.tc : Thread nD τ).loc main_arg1)
abbrev arg2 (c : Dev nD) : FVec Ideal S1024 .f32 := m ((c.tc : Thread nD τ).loc main_arg2)

/-- A point's blocks. -/
abbrev blk0 (c : Dev nD) (t : Fin cfg0.N) : FVec Ideal S1024x1024 .f32 := iblk m c 0 t
abbrev blk1 (c : Dev nD) (t : Fin cfg0.N) : FVec Ideal S1x1x2048 .f32 := iblk m c 1 t
abbrev blk2 (c : Dev nD) (t : Fin cfg0.N) : FVec Ideal S1x1024 .f32 := iblk m c 2 t

/-- Each window's block at a point. -/
theorem idx : ∀ t : Fin cfg0.N, win0_0.index t = ![t.val, 0]
    ∧ win0_1.index t = ![if t.val < 8 then 0 else 1 + (t.val - 8) / 4, 0, 0]
    ∧ win0_2.index t = ![0, 0] ∧ win0_3.index t = ![t.val, 0] :=
  (by decide +kernel : ∀ t : Fin grid0.N, _)

theorem tokens_at (c : Dev nD) (t : Fin cfg0.N) (i k : Fin 1024) (r : Fin 24576) (hr : (r : ℕ) = 1024 * t.val + i) :
    blk0 m c t (ix2 i k) = arg0 m c (ix2 r k) := by
  obtain ⟨i0, i1, i2, i3⟩ := idx t
  blk_ext [iblk, V_main_arg0, i0, hr]

/-- The modulation of a point's rows. -/
theorem mod_at (c : Dev nD) (t : Fin cfg0.N) (i : Fin 1024) (k : Fin 2048) (r : Fin 24576) (hr : (r : ℕ) = 1024 * t.val + i) :
    blk1 m c t (ix3 0 0 k) = arg1 m c (ix3 (request r) 0 ⟨k, by omega⟩) := by
  obtain ⟨i0, i1, i2, i3⟩ := idx t
  have hq : (request r : ℕ) = if t.val < 8 then 0 else 1 + (t.val - 8) / 4 := by
    unfold request
    have := i.isLt
    simp only
    split <;> split <;> omega
  blk_ext [iblk, V_main_arg1, i1, hq]

theorem scale_at (c : Dev nD) (t : Fin cfg0.N) (k : Fin 1024) : blk2 m c t (ix2 0 k) = arg2 m c (ix1 k) := by
  obtain ⟨i0, i1, i2, i3⟩ := idx t
  have hV : V m c main_v0 (ix2 0 k) = arg2 m c (ix1 k) := by
    entry_read
    pointwise
  refine Eq.trans ?_ hV
  show V m c main_v0 _ = V m c main_v0 (ix2 0 k)
  generalize V m c main_v0 = X
  blk_ext [i2]

end Array

/-- Row `r` of the result, of the arguments. -/
def result (x : FVec Ideal S24576x1024 .f32) (md : FVec Ideal S8x1x6144 .f32) (g : FVec Ideal S1024 .f32) (r : Fin 24576) : Fin 1024 → EReal :=
  modulated (fun k => x (ix2 r k)) (fun k => g (ix1 k)) (fun k => md (ix3 (request r) 0 ⟨1024 + k, by omega⟩))
    fun k => md (ix3 (request r) 0 ⟨k, by omega⟩)

/-- THE KERNEL'S ARRAY. -/
theorem final (m : (ℓ : Loc nD τ sig) → Buf (Elt Ideal) ℓ) (c : Dev nD) : (dats m 0 c).arrAt 3 cfg0.N
    = fun j => result (arg0 m c) (arg1 m c) (arg2 m c) (j 0) (j 1) := by
  refine (dats m 0 c).arrAt_eq_of_covers 3 _ (by decide +kernel) fun t hf y => ?_
  obtain ⟨i0, i1, i2, i3⟩ := idx t
  have ht : t.val < 24 := t.isLt
  idx_vars y
  blk_simp
  rw [after0_3]
  obtain ⟨r, hr⟩ : ∃ r : Fin 24576, (r : ℕ) = 1024 * t.val + y0 := ⟨⟨_, by omega⟩, rfl⟩
  have hrow : modulated (fun k => blk0 m c t (ix2 y0 k)) (fun k => blk2 m c t (ix2 0 k)) (fun k => blk1 m c t (ix3 0 0 ⟨1024 + k, by omega⟩))
      (fun k => blk1 m c t (ix3 0 0 ⟨k, by omega⟩)) y1 = result (arg0 m c) (arg1 m c) (arg2 m c) r y1 := by
    unfold result
    rw [funext fun k => tokens_at m c t y0 k r hr, funext fun k => scale_at m c t k,
      funext fun k : Fin 1024 => mod_at m c t y0 ⟨1024 + k, by omega⟩ r hr, funext fun k : Fin 1024 => mod_at m c t y0 ⟨k, by omega⟩ r hr]
  refine (block ..).trans (hrow.trans ?_)
  refine congrArg₂ (result (arg0 m c) (arg1 m c) (arg2 m c)) (Fin.ext ?_) (Fin.ext ?_)
  · blk_simp [i3]
    omega
  · blk_simp [i3]

section Reference

open Cert.FirstRefIdeal Cert.FirstRefIdeal.Read

/-- The modulation of each token's request, beside the token. -/
theorem rows_at (x1 : FVec Ideal S8x1x6144 .f32) (r : Fin 24576) (k : Fin 6144) :
    val_main_v6 (F := Ideal) x1 (ix2 r k) = x1 (ix3 (request r) 0 k) := by
  unfold val_main_v6 val_main_v5 val_main_v4 val_main_v3 val_main_v2 val_main_v1 val_main_v0 request
  pointwise
  by_cases h : (r : ℕ) < 8192
  · rw [dif_pos h]
    exact congrArg (fun q => x1 (ix3 q 0 k)) (Fin.ext (by simp [h]))
  · rw [dif_neg h]
    exact congrArg (fun q => x1 (ix3 q 0 k)) (Fin.ext (by simp [h]))

/-- The reference's row. -/
theorem reference_at (x0 : FVec Ideal S24576x1024 .f32) (x1 : FVec Ideal S8x1x6144 .f32) (x2 : FVec Ideal S1024 .f32) (r : Fin 24576) (j : Fin 1024) :
    val_main_v26 (F := Ideal) x0 x1 x2 (ix2 r j) = result x0 x1 x2 r j := by
  unfold result modulated rms mean c1024 eps
  simp only [← rows_at]
  unfold val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7
    val_main_cst val_main_cst_0 val_main_cst_1 val_main_cst_2
  generalize val_main_v6 (F := Ideal) x1 = Y
  pointwise

end Reference

/-- The reference runs and leaves its arguments. -/
theorem frame_reference : Cert.quiescent_FirstRefIdeal := fun m ρ _ =>
  (θ_run Cert.FirstRefIdeal.defs _ _).mono (fun r h => ⟨fun c => (h c).2,
      Idealize.ShloMosaic.sem_eq_zero_of_no_sems (by decide) r.2⟩)
    (Cert.FirstRefIdeal.Value.run (F := Ideal) m ρ)

/-- THE KERNEL COMPUTES THE REFERENCE'S FUNCTION. -/
theorem algebraic : Cert.algebraic_FirstIdeal_FirstRefIdeal := by
  intro m ρ m' ρ' _ hagree
  refine ⟨_, Cert.FirstIdeal.Value.run_blocks m ρ, (θ_run Cert.FirstRefIdeal.defs _ _).mono (fun r h c => ?_)
    (Cert.FirstRefIdeal.Value.run (F := Ideal) m' ρ')⟩
  obtain ⟨a0, a1⟩ := h c
  obtain ⟨e0, e1, e2⟩ := hagree c
  refine ⟨a0.trans ?_, a1⟩
  rw [e0, e1, e2, final]
  refine (Cert.FirstRefIdeal.Read.val_main_v26_eq ..).symm.trans ?_
  funext j
  idx_vars j
  exact reference_at ..

end Cert.FirstIdeal.Hand

end
-- ==== Proof.NormBetween.lean ====
/- The tokens between two layers: the feed-forward output added, then normalised and modulated for the next layer. What
   the kernel's two arrays hold, and that the reference computes the same. -/
module

public import proofs.«01_k».proof.Defs
public import proofs.«01_k».proof.Proof.MixMath
public import proofs.«01_k».proof.Proof.Gen.BetweenIdeal.Value
public import proofs.«01_k».proof.Proof.Gen.BetweenRefIdeal.Run
public import proofs.«01_k».proof.Proof.Gen.BetweenRefIdeal.Read
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.BetweenIdeal.Hand

open Cert.BetweenIdeal Cert.BetweenIdeal.Gen Idealize.ShloMosaic Idealize.ShloMosaic.TcCoe Idealize.SL.Sem
open Cert.Mixer

/-- The tokens that a point stores, row by row. -/
theorem block_token (x0 x1 : Vec Ideal S1024x1024 .f32) (x2 : Vec Ideal S1x1x1024 .f32) (x3 : Vec Ideal S1x1x2048 .f32) (x4 : Vec Ideal S1x1024 .f32)
    (r j : Fin 1024) : out0_5 x0 x1 x2 x3 x4 (ix2 r j) = token (fun k => x0 (ix2 r k)) (fun k => x2 (ix3 0 0 k)) (fun k => x1 (ix2 r k)) j := by
  unfold out0_5
  canon_tiles x g
  obtain rfl : r = x 0 := Fin.ext (by simp at *; omega)
  obtain rfl : j = x 1 := Fin.ext (by simp at *; omega)
  idx_vars x
  unfold token
  pointwise [k0_pay1]

/-- The modulated tokens that it stores. -/
theorem block_modulated (x0 x1 : Vec Ideal S1024x1024 .f32) (x2 : Vec Ideal S1x1x1024 .f32) (x3 : Vec Ideal S1x1x2048 .f32)
    (x4 : Vec Ideal S1x1024 .f32) (r j : Fin 1024) : out0_6 x0 x1 x2 x3 x4 (ix2 r j)
      = modulated (token (fun k => x0 (ix2 r k)) (fun k => x2 (ix3 0 0 k)) (fun k => x1 (ix2 r k))) (fun k => x4 (ix2 0 k))
        (fun k => x3 (ix3 0 0 ⟨1024 + k, by omega⟩)) (fun k => x3 (ix3 0 0 ⟨k, by omega⟩)) j := by
  unfold out0_6
  canon_tiles x g
  obtain rfl : r = x 0 := Fin.ext (by simp at *; omega)
  obtain rfl : j = x 1 := Fin.ext (by simp at *; omega)
  idx_vars x
  unfold modulated token rms mean c1024 eps
  pointwise [k0_pay1, k0_pay2]

section Array

variable (m : (ℓ : Loc nD τ sig) → Buf (Elt Ideal) ℓ)

/-- The arguments of the run. -/
abbrev arg0 (c : Dev nD) : FVec Ideal S24576x1024 .f32 := m ((c.tc : Thread nD τ).loc main_arg0)
abbrev arg1 (c : Dev nD) : FVec Ideal S24576x1024 .f32 := m ((c.tc : Thread nD τ).loc main_arg1)
abbrev arg2 (c : Dev nD) : FVec Ideal S8x1x6144 .f32 := m ((c.tc : Thread nD τ).loc main_arg2)
abbrev arg3 (c : Dev nD) : FVec Ideal S8x1x6144 .f32 := m ((c.tc : Thread nD τ).loc main_arg3)
abbrev arg4 (c : Dev nD) : FVec Ideal S1024 .f32 := m ((c.tc : Thread nD τ).loc main_arg4)

/-- A point's blocks. -/
abbrev blk0 (c : Dev nD) (t : Fin cfg0.N) : FVec Ideal S1024x1024 .f32 := iblk m c 0 t
abbrev blk1 (c : Dev nD) (t : Fin cfg0.N) : FVec Ideal S1024x1024 .f32 := iblk m c 1 t
abbrev blk2 (c : Dev nD) (t : Fin cfg0.N) : FVec Ideal S1x1x1024 .f32 := iblk m c 2 t
abbrev blk3 (c : Dev nD) (t : Fin cfg0.N) : FVec Ideal S1x1x2048 .f32 := iblk m c 3 t
abbrev blk4 (c : Dev nD) (t : Fin cfg0.N) : FVec Ideal S1x1024 .f32 := iblk m c 4 t

/-- Each window's block at a point. -/
theorem idx : ∀ t : Fin cfg0.N, win0_0.index t = ![t.val, 0] ∧ win0_1.index t = ![t.val, 0]
    ∧ win0_2.index t = ![if t.val < 8 then 0 else 1 + (t.val - 8) / 4, 0, 5]
    ∧ win0_3.index t = ![if t.val < 8 then 0 else 1 + (t.val - 8) / 4, 0, 0]
    ∧ win0_4.index t = ![0, 0] ∧ win0_5.index t = ![t.val, 0] ∧ win0_6.index t = ![t.val, 0] :=
  (by decide +kernel : ∀ t : Fin grid0.N, _)

theorem tokens_at (c : Dev nD) (t : Fin cfg0.N) (i k : Fin 1024) (r : Fin 24576) (hr : (r : ℕ) = 1024 * t.val + i) :
    blk0 m c t (ix2 i k) = arg0 m c (ix2 r k) := by
  obtain ⟨i0, i1, i2, i3, i4, i5, i6⟩ := idx t
  blk_ext [iblk, V_main_arg0, i0, hr]

theorem ffn_at (c : Dev nD) (t : Fin cfg0.N) (i k : Fin 1024) (r : Fin 24576) (hr : (r : ℕ) = 1024 * t.val + i) :
    blk1 m c t (ix2 i k) = arg1 m c (ix2 r k) := by
  obtain ⟨i0, i1, i2, i3, i4, i5, i6⟩ := idx t
  blk_ext [iblk, V_main_arg1, i1, hr]

/-- The request of a point's rows. -/
theorem request_at (t : Fin cfg0.N) (i : Fin 1024) (r : Fin 24576) (hr : (r : ℕ) = 1024 * t.val + i) :
    (request r : ℕ) = if t.val < 8 then 0 else 1 + (t.val - 8) / 4 := by
  unfold request
  have := i.isLt
  simp only
  split <;> split <;> omega

theorem gate_at (c : Dev nD) (t : Fin cfg0.N) (i k : Fin 1024) (r : Fin 24576) (hr : (r : ℕ) = 1024 * t.val + i) :
    blk2 m c t (ix3 0 0 k) = arg2 m c (ix3 (request r) 0 ⟨5120 + k, by omega⟩) := by
  obtain ⟨i0, i1, i2, i3, i4, i5, i6⟩ := idx t
  have hq := request_at t i r hr
  blk_ext [iblk, V_main_arg2, i2, hq]

theorem mod_at (c : Dev nD) (t : Fin cfg0.N) (i : Fin 1024) (k : Fin 2048) (r : Fin 24576) (hr : (r : ℕ) = 1024 * t.val + i) :
    blk3 m c t (ix3 0 0 k) = arg3 m c (ix3 (request r) 0 ⟨k, by omega⟩) := by
  obtain ⟨i0, i1, i2, i3, i4, i5, i6⟩ := idx t
  have hq := request_at t i r hr
  blk_ext [iblk, V_main_arg3, i3, hq]

theorem scale_at (c : Dev nD) (t : Fin cfg0.N) (k : Fin 1024) : blk4 m c t (ix2 0 k) = arg4 m c (ix1 k) := by
  obtain ⟨i0, i1, i2, i3, i4, i5, i6⟩ := idx t
  have hV : V m c main_v0 (ix2 0 k) = arg4 m c (ix1 k) := by
    entry_read
    pointwise
  refine Eq.trans ?_ hV
  show V m c main_v0 _ = V m c main_v0 (ix2 0 k)
  generalize V m c main_v0 = X
  blk_ext [i4]

end Array

/-- Token `r` after the layer, of the arguments. -/
def tokenOf (x f : FVec Ideal S24576x1024 .f32) (md : FVec Ideal S8x1x6144 .f32) (r : Fin 24576) : Fin 1024 → EReal :=
  token (fun k => x (ix2 r k)) (fun k => md (ix3 (request r) 0 ⟨5120 + k, by omega⟩)) (fun k => f (ix2 r k))

/-- Token `r` normalised and modulated for the next layer. -/
def modulatedOf (x f : FVec Ideal S24576x1024 .f32) (md nx : FVec Ideal S8x1x6144 .f32) (g : FVec Ideal S1024 .f32) (r : Fin 24576) : Fin 1024 → EReal :=
  modulated (tokenOf x f md r) (fun k => g (ix1 k)) (fun k => nx (ix3 (request r) 0 ⟨1024 + k, by omega⟩))
    fun k => nx (ix3 (request r) 0 ⟨k, by omega⟩)

section Final

variable (m : (ℓ : Loc nD τ sig) → Buf (Elt Ideal) ℓ)

theorem tokenRow_at (c : Dev nD) (t : Fin cfg0.N) (i : Fin 1024) (r : Fin 24576) (hr : (r : ℕ) = 1024 * t.val + i) :
    token (fun k => blk0 m c t (ix2 i k)) (fun k => blk2 m c t (ix3 0 0 k)) (fun k => blk1 m c t (ix2 i k))
      = tokenOf (arg0 m c) (arg1 m c) (arg2 m c) r := by
  unfold tokenOf
  rw [funext fun k => tokens_at m c t i k r hr, funext fun k => ffn_at m c t i k r hr, funext fun k => gate_at m c t i k r hr]

/-- THE TOKENS' ARRAY. -/
theorem final5 (c : Dev nD) : (dats m 0 c).arrAt 5 cfg0.N = fun j => tokenOf (arg0 m c) (arg1 m c) (arg2 m c) (j 0) (j 1) := by
  refine (dats m 0 c).arrAt_eq_of_covers 5 _ (by decide +kernel) fun t hf y => ?_
  obtain ⟨i0, i1, i2, i3, i4, i5, i6⟩ := idx t
  have ht : t.val < 24 := t.isLt
  idx_vars y
  blk_simp
  rw [after0_5]
  obtain ⟨r, hr⟩ : ∃ r : Fin 24576, (r : ℕ) = 1024 * t.val + y0 := ⟨⟨_, by omega⟩, rfl⟩
  refine (block_token ..).trans ((congrFun (tokenRow_at m c t y0 r hr) y1).trans ?_)
  refine congrArg₂ (tokenOf (arg0 m c) (arg1 m c) (arg2 m c)) (Fin.ext ?_) (Fin.ext ?_)
  · blk_simp [i5]
    omega
  · blk_simp [i5]

theorem modulatedRow_at (c : Dev nD) (t : Fin cfg0.N) (i j : Fin 1024) (r : Fin 24576) (hr : (r : ℕ) = 1024 * t.val + i) :
    modulated (token (fun k => blk0 m c t (ix2 i k)) (fun k => blk2 m c t (ix3 0 0 k)) (fun k => blk1 m c t (ix2 i k)))
      (fun k => blk4 m c t (ix2 0 k)) (fun k => blk3 m c t (ix3 0 0 ⟨1024 + k, by omega⟩)) (fun k => blk3 m c t (ix3 0 0 ⟨k, by omega⟩)) j
      = modulatedOf (arg0 m c) (arg1 m c) (arg2 m c) (arg3 m c) (arg4 m c) r j := by
  unfold modulatedOf
  rw [tokenRow_at m c t i r hr, funext fun k => scale_at m c t k, funext fun k : Fin 1024 => mod_at m c t i ⟨1024 + k, by omega⟩ r hr,
    funext fun k : Fin 1024 => mod_at m c t i ⟨k, by omega⟩ r hr]

/-- THE MODULATED TOKENS' ARRAY. -/
theorem final6 (c : Dev nD) : (dats m 0 c).arrAt 6 cfg0.N
    = fun j => modulatedOf (arg0 m c) (arg1 m c) (arg2 m c) (arg3 m c) (arg4 m c) (j 0) (j 1) := by
  refine (dats m 0 c).arrAt_eq_of_covers 6 _ (by decide +kernel) fun t hf y => ?_
  obtain ⟨i0, i1, i2, i3, i4, i5, i6⟩ := idx t
  have ht : t.val < 24 := t.isLt
  idx_vars y
  blk_simp
  rw [after0_6]
  obtain ⟨r, hr⟩ : ∃ r : Fin 24576, (r : ℕ) = 1024 * t.val + y0 := ⟨⟨_, by omega⟩, rfl⟩
  refine (block_modulated ..).trans ((modulatedRow_at m c t y0 y1 r hr).trans ?_)
  refine congrArg₂ (modulatedOf (arg0 m c) (arg1 m c) (arg2 m c) (arg3 m c) (arg4 m c)) (Fin.ext ?_) (Fin.ext ?_)
  · blk_simp [i6]
    omega
  · blk_simp [i6]

end Final

section Reference

open Cert.BetweenRefIdeal Cert.BetweenRefIdeal.Read

/-- The layer's modulation, beside the tokens. -/
theorem rows_at (x2 : FVec Ideal S8x1x6144 .f32) (r : Fin 24576) (k : Fin 6144) :
    val_main_v6 (F := Ideal) x2 (ix2 r k) = x2 (ix3 (request r) 0 k) := by
  unfold val_main_v6 val_main_v5 val_main_v4 val_main_v3 val_main_v2 val_main_v1 val_main_v0 request
  pointwise
  by_cases h : (r : ℕ) < 8192
  · rw [dif_pos h]
    exact congrArg (fun q => x2 (ix3 q 0 k)) (Fin.ext (by simp [h]))
  · rw [dif_neg h]
    exact congrArg (fun q => x2 (ix3 q 0 k)) (Fin.ext (by simp [h]))

/-- The next layer's. -/
theorem next_at (x3 : FVec Ideal S8x1x6144 .f32) (r : Fin 24576) (k : Fin 6144) :
    val_main_v16 (F := Ideal) x3 (ix2 r k) = x3 (ix3 (request r) 0 k) := rows_at x3 r k

/-- The reference's token. -/
theorem token_at (x0 x1 : FVec Ideal S24576x1024 .f32) (x2 : FVec Ideal S8x1x6144 .f32) (r : Fin 24576) (j : Fin 1024) :
    val_main_v9 (F := Ideal) x0 x1 x2 (ix2 r j) = tokenOf x0 x1 x2 r j := by
  unfold tokenOf token
  simp only [← rows_at]
  unfold val_main_v9 val_main_v8 val_main_v7
  generalize val_main_v6 (F := Ideal) x2 = Y
  pointwise

/-- The reference's modulated token. -/
theorem modulated_at (x0 x1 : FVec Ideal S24576x1024 .f32) (x2 x3 : FVec Ideal S8x1x6144 .f32) (x4 : FVec Ideal S1024 .f32) (r : Fin 24576) (j : Fin 1024) :
    val_main_v36 (F := Ideal) x0 x1 x2 x3 x4 (ix2 r j) = modulatedOf x0 x1 x2 x3 x4 r j := by
  unfold modulatedOf modulated rms mean c1024 eps
  simp only [← token_at, ← next_at]
  unfold val_main_v36 val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
    val_main_cst val_main_cst_0 val_main_cst_1 val_main_cst_2
  generalize val_main_v9 (F := Ideal) x0 x1 x2 = X
  generalize val_main_v16 (F := Ideal) x3 = Y
  pointwise

end Reference

/-- The reference runs and leaves its arguments. -/
theorem frame_reference : Cert.quiescent_BetweenRefIdeal := fun m ρ _ =>
  (θ_run Cert.BetweenRefIdeal.defs _ _).mono (fun r h => ⟨fun c => (h c).2.2,
      Idealize.ShloMosaic.sem_eq_zero_of_no_sems (by decide) r.2⟩)
    (Cert.BetweenRefIdeal.Value.run (F := Ideal) m ρ)

/-- THE KERNEL COMPUTES THE REFERENCE'S FUNCTION. -/
theorem algebraic : Cert.algebraic_BetweenIdeal_BetweenRefIdeal := by
  intro m ρ m' ρ' _ hagree
  refine ⟨_, _, Cert.BetweenIdeal.Value.run_blocks m ρ, (θ_run Cert.BetweenRefIdeal.defs _ _).mono (fun r h c => ?_)
    (Cert.BetweenRefIdeal.Value.run (F := Ideal) m' ρ')⟩
  obtain ⟨a0, a1, a2⟩ := h c
  obtain ⟨e0, e1, e2, e3, e4⟩ := hagree c
  refine ⟨a0.trans ?_, a1.trans ?_, a2⟩
  · rw [Cert.BetweenRefIdeal.Read.val_main_v9_eq, e0, e1, e2, final5]
    funext j
    idx_vars j
    exact token_at ..
  · rw [Cert.BetweenRefIdeal.Read.val_main_v36_eq, e0, e1, e2, e3, e4, final6]
    funext j
    idx_vars j
    exact modulated_at ..

end Cert.BetweenIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Between
public import proofs.«01_k».proof.Proof.Gen.Between.Skeleton
public import proofs.«01_k».proof.Proof.Gen.Between.Launch
public import proofs.«01_k».proof.Proof.Gen.Between.Points
public import proofs.«01_k».proof.Proof.Gen.Between.Frame
public import proofs.«01_k».proof.Proof.Gen.BetweenIdeal
public import proofs.«01_k».proof.Proof.Gen.BetweenIdeal.Skeleton
public import proofs.«01_k».proof.Proof.Gen.BetweenIdeal.Launch
public import proofs.«01_k».proof.Proof.Gen.BetweenIdeal.Points
public import proofs.«01_k».proof.Proof.Gen.BetweenIdeal.Frame
public import proofs.«01_k».proof.Proof.Gen.BetweenIdeal.Value
public import proofs.«01_k».proof.Proof.Gen.BetweenRefIdeal
public import proofs.«01_k».proof.Proof.Gen.BetweenRefIdeal.Run
public import proofs.«01_k».proof.Proof.Gen.BetweenRefIdeal.Read
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnRefIdeal
public import proofs.«01_k».proof.Proof.Gen.FfnRefIdeal.Run
public import proofs.«01_k».proof.Proof.Gen.On_held
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleRefIdeal
public import proofs.«01_k».proof.Proof.Gen.SampleRefIdeal.Run
public import proofs.«01_k».proof.Proof.Gen.SampleRefIdeal.Read
public import proofs.«01_k».proof.Proof.RetEq
public import proofs.«01_k».proof.Proof.ProjArray
public import proofs.«01_k».proof.Proof.MixEq
public import proofs.«01_k».proof.Proof.FfnEq
public import proofs.«01_k».proof.Proof.FfnBits
public import proofs.«01_k».proof.Proof.NormPrompt
public import proofs.«01_k».proof.Proof.NormSample
public import proofs.«01_k».proof.Proof.AdaEq
public import proofs.«01_k».proof.Proof.NormFirst
public import proofs.«01_k».proof.Proof.NormBetween
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Ffn.Gen.facts, Cert.FfnIdeal.Gen.facts, Cert.FfnRefIdeal.Gen.facts,
  Cert.Prompt.Gen.facts, Cert.PromptIdeal.Gen.facts, Cert.PromptRefIdeal.Gen.facts,
  Cert.Sample.Gen.facts, Cert.SampleIdeal.Gen.facts, Cert.SampleRefIdeal.Gen.facts,
  Cert.Ada.Gen.facts, Cert.AdaIdeal.Gen.facts, Cert.AdaRefIdeal.Gen.facts,
  Cert.First.Gen.facts, Cert.FirstIdeal.Gen.facts, Cert.FirstRefIdeal.Gen.facts,
  Cert.Between.Gen.facts, Cert.BetweenIdeal.Gen.facts, Cert.BetweenRefIdeal.Gen.facts, Cert.On_held.Gen.facts,
  -- the frames: the retention of the context tokens, the input projection, the output mixer, the experts, the last normalisation of either batch,
  -- the modulation, the first normalisation and the one between the layers
  fun m ρ _ => Cert.Kernel.Gen.frame m ρ, fun m ρ _ => Cert.KernelIdeal.Gen.frame m ρ, Cert.Retention.frame_reference,
  fun m ρ _ => Cert.Proj.Gen.frame m ρ, fun m ρ _ => Cert.ProjIdeal.Gen.frame m ρ, Cert.ProjIdeal.Hand.frame_reference,
  fun m ρ _ => Cert.Mix.Gen.frame m ρ, fun m ρ _ => Cert.MixIdeal.Gen.frame m ρ, Cert.Mixer.frame_reference,
  Cert.Experts.frame_bits, Cert.Experts.frame_ideal, Cert.Experts.frame_reference,
  fun m ρ _ => Cert.Prompt.Gen.frame m ρ, fun m ρ _ => Cert.PromptIdeal.Gen.frame m ρ, Cert.PromptIdeal.Hand.frame_reference,
  fun m ρ _ => Cert.Sample.Gen.frame m ρ, fun m ρ _ => Cert.SampleIdeal.Gen.frame m ρ, Cert.SampleIdeal.Hand.frame_reference,
  fun m ρ _ => Cert.Ada.Gen.frame m ρ, fun m ρ _ => Cert.AdaIdeal.Gen.frame m ρ, Cert.AdaIdeal.Hand.frame_reference,
  fun m ρ _ => Cert.First.Gen.frame m ρ, fun m ρ _ => Cert.FirstIdeal.Gen.frame m ρ, Cert.FirstIdeal.Hand.frame_reference,
  fun m ρ _ => Cert.Between.Gen.frame m ρ, fun m ρ _ => Cert.BetweenIdeal.Gen.frame m ρ, Cert.BetweenIdeal.Hand.frame_reference,
  -- the ideal programs and what they compute
  trivial, Cert.Retention.algebraic,
  trivial, Cert.ProjIdeal.Hand.algebraic,
  trivial, Cert.Mixer.algebraic,
  trivial, Cert.Experts.algebraic,
  trivial, Cert.PromptIdeal.Hand.algebraic,
  trivial, Cert.SampleIdeal.Hand.algebraic,
  trivial, Cert.AdaIdeal.Hand.algebraic,
  trivial, Cert.FirstIdeal.Hand.algebraic,
  trivial, Cert.BetweenIdeal.Hand.algebraic⟩

end Cert.Proof

end
